-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 2, 4] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 2048, 4096]⟩ ⟨3, ![8, 2048, 4096]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 4096, 2048]⟩ ⟨3, ![8, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = Layout.blockN ⟨2, ![4096, 2048]⟩ ⟨2, ![8192, 2048]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S8 : Shape := ⟨1, ![8]⟩
abbrev S1x4096 : Shape := ⟨2, ![1, 4096]⟩
abbrev S8x1 : Shape := ⟨2, ![8, 1]⟩
abbrev S8x4096 : Shape := ⟨2, ![8, 4096]⟩
abbrev S_ : Shape := ⟨0, ![]⟩

class Facts : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  natLt_1_32 : 1 < 32
  reducesTo_S8x4096_S8_d1 : S8x4096.ReducesTo [1] S8
  h_S_ : 0 < S_.numel
  bcast_S_S8 : S_.BroadcastsInDim S8 (![] : Fin 0 → Fin S8.rank)

variable [Facts]

def fn {F : FTy → Type} [FloatOps F] (main_arg0 : FVec F S4096x2048 .f32) (main_arg1 : IVec S4096 32) (main_arg2 : FVec F S4x2048x4096 .f32) (main_arg3 : FVec F S4x4096x2048 .f32) : IVec S8 1 :=
  let main_v0 : IVec S8 32 := iotaInDim S8 32 0
  let main_v1 : IVec S1x4096 32 := broadcastInDim S1x4096 ![1] bcast_S4096_S1x4096_1 main_arg1
  let main_v2 : IVec S8x1 32 := broadcastInDim S8x1 ![0] bcast_S8_S8x1_0 main_v0
  let main_v3 : IVec S8x4096 32 := broadcastInDim S8x4096 ![0, 1] bcast_S1x4096_S8x4096_0_1 main_v1
  let main_v4 : IVec S8x4096 32 := broadcastInDim S8x4096 ![0, 1] bcast_S8x1_S8x4096_0_1 main_v2
  let main_v5 : IVec S8x4096 1 := cmpi .eq main_v3 main_v4
  let main_v6 : IVec S8x4096 32 := (extui 32 · natLt_1_32) main_v5
  let main_c : IVec S_ 32 := constantI S_ 32 0#32
  let main_v7 : IVec S8 32 := (fun x v => Host.reduce IntOp.addi x v reducesTo_S8x4096_S8_d1 h_S_) main_v6 main_c
  let main_c_0 : IVec S_ 32 := constantI S_ 32 576#32
  let main_v8 : IVec S8 32 := broadcastInDim S8 ![] bcast_S_S8 main_c_0
  let main_v9 : IVec S8 1 := cmpi .sle main_v7 main_v8
  main_v9
-- ==== Pre_fits_ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S8 : Shape := ⟨1, ![8]⟩
abbrev S1x8192 : Shape := ⟨2, ![1, 8192]⟩
abbrev S8x1 : Shape := ⟨2, ![8, 1]⟩
abbrev S8x8192 : Shape := ⟨2, ![8, 8192]⟩
abbrev S_ : Shape := ⟨0, ![]⟩

class Facts : Prop where
  bcast_S8192_S1x8192_1 : S8192.BroadcastsInDim S1x8192 (![1] : Fin 1 → Fin S1x8192.rank)
  bcast_S8_S8x1_0 : S8.BroadcastsInDim S8x1 (![0] : Fin 1 → Fin S8x1.rank)
  bcast_S1x8192_S8x8192_0_1 : S1x8192.BroadcastsInDim S8x8192 (![0, 1] : Fin 2 → Fin S8x8192.rank)
  bcast_S8x1_S8x8192_0_1 : S8x1.BroadcastsInDim S8x8192 (![0, 1] : Fin 2 → Fin S8x8192.rank)
  natLt_1_32 : 1 < 32
  reducesTo_S8x8192_S8_d1 : S8x8192.ReducesTo [1] S8
  h_S_ : 0 < S_.numel
  bcast_S_S8 : S_.BroadcastsInDim S8 (![] : Fin 0 → Fin S8.rank)

variable [Facts]

def fn {F : FTy → Type} [FloatOps F] (main_arg0 : FVec F S8192x2048 .f32) (main_arg1 : IVec S8192 32) (main_arg2 : FVec F S8x2048x4096 .f32) (main_arg3 : FVec F S8x4096x2048 .f32) : IVec S8 1 :=
  let main_v0 : IVec S8 32 := iotaInDim S8 32 0
  let main_v1 : IVec S1x8192 32 := broadcastInDim S1x8192 ![1] bcast_S8192_S1x8192_1 main_arg1
  let main_v2 : IVec S8x1 32 := broadcastInDim S8x1 ![0] bcast_S8_S8x1_0 main_v0
  let main_v3 : IVec S8x8192 32 := broadcastInDim S8x8192 ![0, 1] bcast_S1x8192_S8x8192_0_1 main_v1
  let main_v4 : IVec S8x8192 32 := broadcastInDim S8x8192 ![0, 1] bcast_S8x1_S8x8192_0_1 main_v2
  let main_v5 : IVec S8x8192 1 := cmpi .eq main_v3 main_v4
  let main_v6 : IVec S8x8192 32 := (extui 32 · natLt_1_32) main_v5
  let main_c : IVec S_ 32 := constantI S_ 32 0#32
  let main_v7 : IVec S8 32 := (fun x v => Host.reduce IntOp.addi x v reducesTo_S8x8192_S8_d1 h_S_) main_v6 main_c
  let main_c_0 : IVec S_ 32 := constantI S_ 32 576#32
  let main_v8 : IVec S8 32 := broadcastInDim S8 ![] bcast_S_S8 main_c_0
  let main_v9 : IVec S8 1 := cmpi .sle main_v7 main_v8
  main_v9
-- ==== Kernel.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S_ : Shape := ⟨0, ![]⟩
abbrev S1x4096 : Shape := ⟨2, ![1, 4096]⟩
abbrev S8 : Shape := ⟨1, ![8]⟩
abbrev S8x1 : Shape := ⟨2, ![8, 1]⟩
abbrev S8x4096 : Shape := ⟨2, ![8, 4096]⟩
abbrev S8x576 : Shape := ⟨2, ![8, 576]⟩
abbrev S4x576 : Shape := ⟨2, ![4, 576]⟩
abbrev S4608 : Shape := ⟨1, ![4608]⟩
abbrev S4608x1 : Shape := ⟨2, ![4608, 1]⟩
abbrev S4608x2048 : Shape := ⟨2, ![4608, 2048]⟩
abbrev S1152x1 : Shape := ⟨2, ![1152, 1]⟩
abbrev S512x2048 : Shape := ⟨2, ![512, 2048]⟩
abbrev S1152x2048 : Shape := ⟨2, ![1152, 2048]⟩
abbrev S1152x512 : Shape := ⟨2, ![1152, 512]⟩
abbrev S2304x2048 : Shape := ⟨2, ![2304, 2048]⟩
abbrev S576x2048 : Shape := ⟨2, ![576, 2048]⟩
abbrev S1x2048x512 : Shape := ⟨3, ![1, 2048, 512]⟩
abbrev S1x512x2048 : Shape := ⟨3, ![1, 512, 2048]⟩
abbrev S4 : Shape := ⟨1, ![4]⟩
abbrev S1 : Shape := ⟨1, ![1]⟩
abbrev S2048x512 : Shape := ⟨2, ![2048, 512]⟩
abbrev S576x512 : Shape := ⟨2, ![576, 512]⟩
abbrev S2304 : Shape := ⟨1, ![2304]⟩
abbrev S1x2304 : Shape := ⟨2, ![1, 2304]⟩
abbrev S1x768 : Shape := ⟨2, ![1, 768]⟩
abbrev S768x2048 : Shape := ⟨2, ![768, 2048]⟩
abbrev S1024x2048 : Shape := ⟨2, ![1024, 2048]⟩
abbrev S1024x768 : Shape := ⟨2, ![1024, 768]⟩

abbrev nBuf : Space → Nat
  | .hbm => 59
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4x2048x4096, .f32⟩
  | .hbm, ⟨3, _⟩ => ⟨S4x4096x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S1x4096, .i32⟩
  | .hbm, ⟨16, _⟩ => ⟨S8, .i32⟩
  | .hbm, ⟨17, _⟩ => ⟨S8x1, .i32⟩
  | .hbm, ⟨18, _⟩ => ⟨S8x4096, .i32⟩
  | .hbm, ⟨19, _⟩ => ⟨S8x4096, .i32⟩
  | .hbm, ⟨20, _⟩ => ⟨S8x4096, .i1⟩
  | .hbm, ⟨21, _⟩ => ⟨S1x4096, .i32⟩
  | .hbm, ⟨22, _⟩ => ⟨S_, .i32⟩
  | .hbm, ⟨23, _⟩ => ⟨S_, .i32⟩
  | .hbm, ⟨24, _⟩ => ⟨S8x4096, .i32⟩
  | .hbm, ⟨25, _⟩ => ⟨S8x4096, .i32⟩
  | .hbm, ⟨26, _⟩ => ⟨S8x4096, .i32⟩
  | .hbm, ⟨27, _⟩ => ⟨S8x4096, .i32⟩
  | .hbm, ⟨28, _⟩ => ⟨S8x576, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4x576, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S4x576, .i32⟩
  | .hbm, ⟨43, _⟩ => ⟨S8x576, .i32⟩
  | .hbm, ⟨44, _⟩ => ⟨S4608, .i32⟩
  | .hbm, ⟨45, _⟩ => ⟨S_, .i32⟩
  | .hbm, ⟨46, _⟩ => ⟨S4608, .i32⟩
  | .hbm, ⟨47, _⟩ => ⟨S4608, .i32⟩
  | .hbm, ⟨48, _⟩ => ⟨S4608x1, .i32⟩
  | .hbm, ⟨49, _⟩ => ⟨S4608x2048, .bf16⟩
  | .hbm, ⟨50, _⟩ => ⟨S4608x2048, .f32⟩
  | .hbm, ⟨51, _⟩ => ⟨S2304x2048, .bf16⟩
  | .hbm, ⟨52, _⟩ => ⟨S2304, .i32⟩
  | .hbm, ⟨53, _⟩ => ⟨S1x2304, .i32⟩
  | .hbm, ⟨54, _⟩ => ⟨S2304, .i32⟩
  | .hbm, ⟨55, _⟩ => ⟨S1x2304, .i32⟩
  | .hbm, ⟨56, _⟩ => ⟨S2304x2048, .f32⟩
  | .hbm, ⟨57, _⟩ => ⟨S2304x2048, .bf16⟩
  | .hbm, ⟨58, _⟩ => ⟨S4096x2048, .f32⟩
  | .local _ .vmem, ⟨0, _⟩ => ⟨S1152x1, .i32⟩
  | .local _ .vmem, ⟨1, _⟩ => ⟨S1152x1, .i32⟩
  | .local _ .vmem, ⟨2, _⟩ => ⟨S512x2048, .f32⟩
  | .local _ .vmem, ⟨3, _⟩ => ⟨S512x2048, .f32⟩
  | .local _ .vmem, ⟨4, _⟩ => ⟨S1152x2048, .bf16⟩
  | .local _ .vmem, ⟨5, _⟩ => ⟨S1152x2048, .bf16⟩
  | .local _ .vmem, ⟨6, _⟩ => ⟨S576x2048, .bf16⟩
  | .local _ .vmem, ⟨7, _⟩ => ⟨S576x2048, .bf16⟩
  | .local _ .vmem, ⟨8, _⟩ => ⟨S1x2048x512, .f32⟩
  | .local _ .vmem, ⟨9, _⟩ => ⟨S1x2048x512, .f32⟩
  | .local _ .vmem, ⟨10, _⟩ => ⟨S1x512x2048, .f32⟩
  | .local _ .vmem, ⟨11, _⟩ => ⟨S1x512x2048, .f32⟩
  | .local _ .vmem, ⟨12, _⟩ => ⟨S576x2048, .f32⟩
  | .local _ .vmem, ⟨13, _⟩ => ⟨S576x2048, .f32⟩
  | .local _ .vmem, ⟨14, _⟩ => ⟨S2304x2048, .bf16⟩
  | .local _ .vmem, ⟨15, _⟩ => ⟨S2304x2048, .bf16⟩
  | .local _ .vmem, ⟨16, _⟩ => ⟨S1x768, .i32⟩
  | .local _ .vmem, ⟨17, _⟩ => ⟨S1x768, .i32⟩
  | .local _ .vmem, ⟨18, _⟩ => ⟨S1x768, .i32⟩
  | .local _ .vmem, ⟨19, _⟩ => ⟨S1x768, .i32⟩
  | .local _ .vmem, ⟨20, _⟩ => ⟨S768x2048, .bf16⟩
  | .local _ .vmem, ⟨21, _⟩ => ⟨S768x2048, .bf16⟩
  | .local _ .vmem, ⟨22, _⟩ => ⟨S768x2048, .bf16⟩
  | .local _ .vmem, ⟨23, _⟩ => ⟨S768x2048, .bf16⟩
  | .local _ .vmem, ⟨24, _⟩ => ⟨S1024x2048, .f32⟩
  | .local _ .vmem, ⟨25, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_c_9 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev barrier0 : Sem sig := 0

abbrev nD : Nat := 16
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1152x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![2, 4, 8], ![false, false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let arg2 : BitVec 32 := BitVec.ofNat 32 (i 2).val
  let c0_i32_1 : BitVec 32 := 0#32
  let v2 : BitVec 1 := Scalar.cmpi .eq arg2 c0_i32_1
  let v3 : BitVec 1 := Scalar.andi v1 v2
  let v4 : BitVec 1 := Scalar.andi v0 v3
  let v5 : BitVec 32 := Scalar.extui v4
  let c0_i32_2 : BitVec 32 := 0#32
  let v6 : BitVec 1 := Scalar.cmpi .ne v5 c0_i32_2
  v6

def k1_dev1 (d40 : Dev nD) : Nat :=
  let c0_i32_27 : BitVec 32 := 0#32
  let v40 : BitVec 32 := Dev.word d40
  let c8_i32 : BitVec 32 := 8#32
  let v41 : BitVec 32 := Scalar.divsi v40 c8_i32
  let c2_i32 : BitVec 32 := 2#32
  let v42 : BitVec 32 := Scalar.remsi v41 c2_i32
  let c8_i32_26 : BitVec 32 := 8#32
  let v50 : BitVec 32 := Scalar.muli v42 c8_i32_26
  let v51 : BitVec 32 := Scalar.addi c0_i32_27 v50
  let c1_i32_22 : BitVec 32 := 1#32
  let v43 : BitVec 32 := Dev.word d40
  let c4_i32 : BitVec 32 := 4#32
  let v44 : BitVec 32 := Scalar.divsi v43 c4_i32
  let c2_i32_21 : BitVec 32 := 2#32
  let v45 : BitVec 32 := Scalar.remsi v44 c2_i32_21
  let v46 : BitVec 32 := Scalar.subi c1_i32_22 v45
  let c4_i32_28 : BitVec 32 := 4#32
  let v52 : BitVec 32 := Scalar.muli v46 c4_i32_28
  let v53 : BitVec 32 := Scalar.addi v51 v52
  let v47 : BitVec 32 := Dev.word d40
  let c1_i32_24 : BitVec 32 := 1#32
  let v48 : BitVec 32 := Scalar.divsi v47 c1_i32_24
  let c4_i32_23 : BitVec 32 := 4#32
  let v49 : BitVec 32 := Scalar.remsi v48 c4_i32_23
  let c1_i32_29 : BitVec 32 := 1#32
  let v54 : BitVec 32 := Scalar.muli v49 c1_i32_29
  let v55 : BitVec 32 := Scalar.addi v53 v54
  v55.toNat
def k1_dev2 (d40 : Dev nD) : Nat :=
  let c0_i32_41 : BitVec 32 := 0#32
  let v56 : BitVec 32 := Dev.word d40
  let c8_i32_32 : BitVec 32 := 8#32
  let v57 : BitVec 32 := Scalar.divsi v56 c8_i32_32
  let c2_i32_31 : BitVec 32 := 2#32
  let v58 : BitVec 32 := Scalar.remsi v57 c2_i32_31
  let c8_i32_40 : BitVec 32 := 8#32
  let v66 : BitVec 32 := Scalar.muli v58 c8_i32_40
  let v67 : BitVec 32 := Scalar.addi c0_i32_41 v66
  let c1_i32_35 : BitVec 32 := 1#32
  let v59 : BitVec 32 := Dev.word d40
  let c4_i32_34 : BitVec 32 := 4#32
  let v60 : BitVec 32 := Scalar.divsi v59 c4_i32_34
  let c2_i32_33 : BitVec 32 := 2#32
  let v61 : BitVec 32 := Scalar.remsi v60 c2_i32_33
  let v62 : BitVec 32 := Scalar.subi c1_i32_35 v61
  let c4_i32_42 : BitVec 32 := 4#32
  let v68 : BitVec 32 := Scalar.muli v62 c4_i32_42
  let v69 : BitVec 32 := Scalar.addi v67 v68
  let v63 : BitVec 32 := Dev.word d40
  let c1_i32_37 : BitVec 32 := 1#32
  let v64 : BitVec 32 := Scalar.divsi v63 c1_i32_37
  let c4_i32_36 : BitVec 32 := 4#32
  let v65 : BitVec 32 := Scalar.remsi v64 c4_i32_36
  let c1_i32_43 : BitVec 32 := 1#32
  let v70 : BitVec 32 := Scalar.muli v65 c1_i32_43
  let v71 : BitVec 32 := Scalar.addi v69 v70
  v71.toNat
def k1_dev3 (d40 : Dev nD) : Nat :=
  let c0_i32_57 : BitVec 32 := 0#32
  let v78 : BitVec 32 := Dev.word d40
  let c8_i32_48 : BitVec 32 := 8#32
  let v79 : BitVec 32 := Scalar.divsi v78 c8_i32_48
  let c2_i32_47 : BitVec 32 := 2#32
  let v80 : BitVec 32 := Scalar.remsi v79 c2_i32_47
  let c8_i32_56 : BitVec 32 := 8#32
  let v88 : BitVec 32 := Scalar.muli v80 c8_i32_56
  let v89 : BitVec 32 := Scalar.addi c0_i32_57 v88
  let c1_i32_51 : BitVec 32 := 1#32
  let v81 : BitVec 32 := Dev.word d40
  let c4_i32_50 : BitVec 32 := 4#32
  let v82 : BitVec 32 := Scalar.divsi v81 c4_i32_50
  let c2_i32_49 : BitVec 32 := 2#32
  let v83 : BitVec 32 := Scalar.remsi v82 c2_i32_49
  let v84 : BitVec 32 := Scalar.subi c1_i32_51 v83
  let c4_i32_58 : BitVec 32 := 4#32
  let v90 : BitVec 32 := Scalar.muli v84 c4_i32_58
  let v91 : BitVec 32 := Scalar.addi v89 v90
  let v85 : BitVec 32 := Dev.word d40
  let c1_i32_53 : BitVec 32 := 1#32
  let v86 : BitVec 32 := Scalar.divsi v85 c1_i32_53
  let c4_i32_52 : BitVec 32 := 4#32
  let v87 : BitVec 32 := Scalar.remsi v86 c4_i32_52
  let c1_i32_59 : BitVec 32 := 1#32
  let v92 : BitVec 32 := Scalar.muli v87 c1_i32_59
  let v93 : BitVec 32 := Scalar.addi v91 v92
  v93.toNat
def k1_dev4 (d40 : Dev nD) : Nat :=
  let c0_i32_72 : BitVec 32 := 0#32
  let v100 : BitVec 32 := Dev.word d40
  let c8_i32_63 : BitVec 32 := 8#32
  let v101 : BitVec 32 := Scalar.divsi v100 c8_i32_63
  let c2_i32_62 : BitVec 32 := 2#32
  let v102 : BitVec 32 := Scalar.remsi v101 c2_i32_62
  let c8_i32_71 : BitVec 32 := 8#32
  let v110 : BitVec 32 := Scalar.muli v102 c8_i32_71
  let v111 : BitVec 32 := Scalar.addi c0_i32_72 v110
  let c1_i32_66 : BitVec 32 := 1#32
  let v103 : BitVec 32 := Dev.word d40
  let c4_i32_65 : BitVec 32 := 4#32
  let v104 : BitVec 32 := Scalar.divsi v103 c4_i32_65
  let c2_i32_64 : BitVec 32 := 2#32
  let v105 : BitVec 32 := Scalar.remsi v104 c2_i32_64
  let v106 : BitVec 32 := Scalar.subi c1_i32_66 v105
  let c4_i32_73 : BitVec 32 := 4#32
  let v112 : BitVec 32 := Scalar.muli v106 c4_i32_73
  let v113 : BitVec 32 := Scalar.addi v111 v112
  let v107 : BitVec 32 := Dev.word d40
  let c1_i32_68 : BitVec 32 := 1#32
  let v108 : BitVec 32 := Scalar.divsi v107 c1_i32_68
  let c4_i32_67 : BitVec 32 := 4#32
  let v109 : BitVec 32 := Scalar.remsi v108 c4_i32_67
  let c1_i32_74 : BitVec 32 := 1#32
  let v114 : BitVec 32 := Scalar.muli v109 c1_i32_74
  let v115 : BitVec 32 := Scalar.addi v113 v114
  v115.toNat
def k1_dev5 (d40 : Dev nD) : Nat :=
  let c0_i32_87 : BitVec 32 := 0#32
  let v122 : BitVec 32 := Dev.word d40
  let c8_i32_78 : BitVec 32 := 8#32
  let v123 : BitVec 32 := Scalar.divsi v122 c8_i32_78
  let c2_i32_77 : BitVec 32 := 2#32
  let v124 : BitVec 32 := Scalar.remsi v123 c2_i32_77
  let c8_i32_86 : BitVec 32 := 8#32
  let v132 : BitVec 32 := Scalar.muli v124 c8_i32_86
  let v133 : BitVec 32 := Scalar.addi c0_i32_87 v132
  let c1_i32_81 : BitVec 32 := 1#32
  let v125 : BitVec 32 := Dev.word d40
  let c4_i32_80 : BitVec 32 := 4#32
  let v126 : BitVec 32 := Scalar.divsi v125 c4_i32_80
  let c2_i32_79 : BitVec 32 := 2#32
  let v127 : BitVec 32 := Scalar.remsi v126 c2_i32_79
  let v128 : BitVec 32 := Scalar.subi c1_i32_81 v127
  let c4_i32_88 : BitVec 32 := 4#32
  let v134 : BitVec 32 := Scalar.muli v128 c4_i32_88
  let v135 : BitVec 32 := Scalar.addi v133 v134
  let v129 : BitVec 32 := Dev.word d40
  let c1_i32_83 : BitVec 32 := 1#32
  let v130 : BitVec 32 := Scalar.divsi v129 c1_i32_83
  let c4_i32_82 : BitVec 32 := 4#32
  let v131 : BitVec 32 := Scalar.remsi v130 c4_i32_82
  let c1_i32_89 : BitVec 32 := 1#32
  let v136 : BitVec 32 := Scalar.muli v131 c1_i32_89
  let v137 : BitVec 32 := Scalar.addi v135 v136
  v137.toNat
def k1_cond3 (i : grid1.Coords) : BitVec 1 :=
  let arg0 : BitVec 32 := BitVec.ofNat 32 (i 0).val
  let c1_i32 : BitVec 32 := 1#32
  let v10 : BitVec 1 := Scalar.cmpi .eq arg0 c1_i32
  let arg2 : BitVec 32 := BitVec.ofNat 32 (i 2).val
  let c0_i32_5 : BitVec 32 := 0#32
  let v11 : BitVec 1 := Scalar.cmpi .eq arg2 c0_i32_5
  let v12 : BitVec 1 := Scalar.andi v10 v11
  let v13 : BitVec 32 := Scalar.extui v12
  let c0_i32_6 : BitVec 32 := 0#32
  let v14 : BitVec 1 := Scalar.cmpi .ne v13 c0_i32_6
  v14

def k1_off1 (i : grid1.Coords) : Fin 1 → Nat :=
  let arg1 : BitVec 32 := BitVec.ofNat 32 (i 1).val
  ![arg1.toNat]
def k1_off2 (i : grid1.Coords) : Fin 2 → Nat :=
  let arg1 : BitVec 32 := BitVec.ofNat 32 (i 1).val
  let c576_i32_21 : BitVec 32 := 576#32
  let v41 : BitVec 32 := Scalar.muli arg1 c576_i32_21
  let c0_i32_31 : BitVec 32 := 0#32
  ![v41.toNat, 0]
def k1_off3 (i : grid1.Coords) : Fin 2 → Nat :=
  let c4_i32 : BitVec 32 := 4#32
  let arg1 : BitVec 32 := BitVec.ofNat 32 (i 1).val
  let v39 : BitVec 32 := Scalar.addi c4_i32 arg1
  let c576_i32 : BitVec 32 := 576#32
  let v40 : BitVec 32 := Scalar.muli v39 c576_i32
  let c0_i32_32 : BitVec 32 := 0#32
  ![v40.toNat, 0]
def k1_cond5 (i : grid1.Coords) : BitVec 1 :=
  let arg0 : BitVec 32 := BitVec.ofNat 32 (i 0).val
  let c1_i32_14 : BitVec 32 := 1#32
  let v24 : BitVec 1 := Scalar.cmpi .eq arg0 c1_i32_14
  let v25 : BitVec 32 := Scalar.extui v24
  let c0_i32_15 : BitVec 32 := 0#32
  let v26 : BitVec 1 := Scalar.cmpi .ne v25 c0_i32_15
  v26

def k1_off4 (i : grid1.Coords) : Fin 2 → Nat :=
  let arg1 : BitVec 32 := BitVec.ofNat 32 (i 1).val
  let c576_i32 : BitVec 32 := 576#32
  let v39 : BitVec 32 := Scalar.muli arg1 c576_i32
  let v40 : Index := Scalar.indexCast v39
  let c0_21 : Index := 0#32
  ![v40.toNat, 0]
def k1_cond6 (i : grid1.Coords) : BitVec 1 :=
  let arg0 : BitVec 32 := BitVec.ofNat 32 (i 0).val
  let c1_i32_16 : BitVec 32 := 1#32
  let v27 : BitVec 1 := Scalar.cmpi .eq arg0 c1_i32_16
  let arg2 : BitVec 32 := BitVec.ofNat 32 (i 2).val
  let c7_i32 : BitVec 32 := 7#32
  let v28 : BitVec 1 := Scalar.cmpi .eq arg2 c7_i32
  let v29 : BitVec 1 := Scalar.andi v27 v28
  let v30 : BitVec 32 := Scalar.extui v29
  let c0_i32_17 : BitVec 32 := 0#32
  let v31 : BitVec 1 := Scalar.cmpi .ne v30 c0_i32_17
  v31

def k1_off5 (i : grid1.Coords) : Fin 2 → Nat :=
  let arg1 : BitVec 32 := BitVec.ofNat 32 (i 1).val
  let c576_i32 : BitVec 32 := 576#32
  let v42 : BitVec 32 := Scalar.muli arg1 c576_i32
  let v43 : Index := Scalar.indexCast v42
  let c0_23 : Index := 0#32
  ![v43.toNat, 0]
def k1_off6 (i : grid1.Coords) : Fin 1 → Nat :=
  let arg1 : BitVec 32 := BitVec.ofNat 32 (i 1).val
  ![arg1.toNat]
def k1_off7 (i : grid1.Coords) : Fin 2 → Nat :=
  let arg1 : BitVec 32 := BitVec.ofNat 32 (i 1).val
  let c576_i32_25 : BitVec 32 := 576#32
  let v48 : BitVec 32 := Scalar.muli arg1 c576_i32_25
  let c0_i32_34 : BitVec 32 := 0#32
  ![v48.toNat, 0]
def k1_dev6 (d49 : Dev nD) : Nat :=
  let c0_i32_31 : BitVec 32 := 0#32
  let v49 : BitVec 32 := Dev.word d49
  let c8_i32 : BitVec 32 := 8#32
  let v50 : BitVec 32 := Scalar.divsi v49 c8_i32
  let c2_i32 : BitVec 32 := 2#32
  let v51 : BitVec 32 := Scalar.remsi v50 c2_i32
  let c8_i32_30 : BitVec 32 := 8#32
  let v59 : BitVec 32 := Scalar.muli v51 c8_i32_30
  let v60 : BitVec 32 := Scalar.addi c0_i32_31 v59
  let c1_i32_27 : BitVec 32 := 1#32
  let v52 : BitVec 32 := Dev.word d49
  let c4_i32 : BitVec 32 := 4#32
  let v53 : BitVec 32 := Scalar.divsi v52 c4_i32
  let c2_i32_26 : BitVec 32 := 2#32
  let v54 : BitVec 32 := Scalar.remsi v53 c2_i32_26
  let v55 : BitVec 32 := Scalar.subi c1_i32_27 v54
  let c4_i32_32 : BitVec 32 := 4#32
  let v61 : BitVec 32 := Scalar.muli v55 c4_i32_32
  let v62 : BitVec 32 := Scalar.addi v60 v61
  let v56 : BitVec 32 := Dev.word d49
  let c1_i32_29 : BitVec 32 := 1#32
  let v57 : BitVec 32 := Scalar.divsi v56 c1_i32_29
  let c4_i32_28 : BitVec 32 := 4#32
  let v58 : BitVec 32 := Scalar.remsi v57 c4_i32_28
  let c1_i32_33 : BitVec 32 := 1#32
  let v63 : BitVec 32 := Scalar.muli v58 c1_i32_33
  let v64 : BitVec 32 := Scalar.addi v62 v63
  v64.toNat
def k1_cond2 (i : grid1.Coords) : BitVec 1 :=
  let arg2 : BitVec 32 := BitVec.ofNat 32 (i 2).val
  let c0_i32_3 : BitVec 32 := 0#32
  let v7 : BitVec 1 := Scalar.cmpi .eq arg2 c0_i32_3
  let v8 : BitVec 32 := Scalar.extui v7
  let c0_i32_4 : BitVec 32 := 0#32
  let v9 : BitVec 1 := Scalar.cmpi .ne v8 c0_i32_4
  v9

def k1_cond4 (i : grid1.Coords) : BitVec 1 :=
  let arg0 : BitVec 32 := BitVec.ofNat 32 (i 0).val
  let c0_i32_12 : BitVec 32 := 0#32
  let v21 : BitVec 1 := Scalar.cmpi .eq arg0 c0_i32_12
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S576x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S576x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![4, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x768 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x768 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S768x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S768x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]
-- ==== ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S8192x4096 : Shape := ⟨2, ![8192, 4096]⟩
abbrev S8192x1 : Shape := ⟨2, ![8192, 1]⟩
abbrev S1x4096x2048 : Shape := ⟨3, ![1, 4096, 2048]⟩
abbrev S4096x2048 : Shape := ⟨2, ![4096, 2048]⟩

abbrev nBuf : Space → Nat
  | .hbm => 126
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8x2048x4096, .f32⟩
  | .hbm, ⟨3, _⟩ => ⟨S8x4096x2048, .f32⟩
  | .hbm, ⟨4, _⟩ => ⟨S_, .f32⟩
  | .hbm, ⟨5, _⟩ => ⟨S8192x2048, .f32⟩
  | .hbm, ⟨6, _⟩ => ⟨S1x2048x4096, .f32⟩
  | .hbm, ⟨7, _⟩ => ⟨S2048x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192x1, .i1⟩
  | .hbm, ⟨16, _⟩ => ⟨S1x4096x2048, .f32⟩
  | .hbm, ⟨17, _⟩ => ⟨S4096x2048, .f32⟩
  | .hbm, ⟨18, _⟩ => ⟨S8192x2048, .f32⟩
  | .hbm, ⟨19, _⟩ => ⟨S8192x2048, .i1⟩
  | .hbm, ⟨20, _⟩ => ⟨S8192x2048, .f32⟩
  | .hbm, ⟨21, _⟩ => ⟨S1x2048x4096, .f32⟩
  | .hbm, ⟨22, _⟩ => ⟨S2048x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192x1, .i1⟩
  | .hbm, ⟨31, _⟩ => ⟨S1x4096x2048, .f32⟩
  | .hbm, ⟨32, _⟩ => ⟨S4096x2048, .f32⟩
  | .hbm, ⟨33, _⟩ => ⟨S8192x2048, .f32⟩
  | .hbm, ⟨34, _⟩ => ⟨S8192x2048, .i1⟩
  | .hbm, ⟨35, _⟩ => ⟨S8192x2048, .f32⟩
  | .hbm, ⟨36, _⟩ => ⟨S1x2048x4096, .f32⟩
  | .hbm, ⟨37, _⟩ => ⟨S2048x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192x1, .i1⟩
  | .hbm, ⟨46, _⟩ => ⟨S1x4096x2048, .f32⟩
  | .hbm, ⟨47, _⟩ => ⟨S4096x2048, .f32⟩
  | .hbm, ⟨48, _⟩ => ⟨S8192x2048, .f32⟩
  | .hbm, ⟨49, _⟩ => ⟨S8192x2048, .i1⟩
  | .hbm, ⟨50, _⟩ => ⟨S8192x2048, .f32⟩
  | .hbm, ⟨51, _⟩ => ⟨S1x2048x4096, .f32⟩
  | .hbm, ⟨52, _⟩ => ⟨S2048x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S8192x1, .i1⟩
  | .hbm, ⟨61, _⟩ => ⟨S1x4096x2048, .f32⟩
  | .hbm, ⟨62, _⟩ => ⟨S4096x2048, .f32⟩
  | .hbm, ⟨63, _⟩ => ⟨S8192x2048, .f32⟩
  | .hbm, ⟨64, _⟩ => ⟨S8192x2048, .i1⟩
  | .hbm, ⟨65, _⟩ => ⟨S8192x2048, .f32⟩
  | .hbm, ⟨66, _⟩ => ⟨S1x2048x4096, .f32⟩
  | .hbm, ⟨67, _⟩ => ⟨S2048x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S8192x1, .i1⟩
  | .hbm, ⟨76, _⟩ => ⟨S1x4096x2048, .f32⟩
  | .hbm, ⟨77, _⟩ => ⟨S4096x2048, .f32⟩
  | .hbm, ⟨78, _⟩ => ⟨S8192x2048, .f32⟩
  | .hbm, ⟨79, _⟩ => ⟨S8192x2048, .i1⟩
  | .hbm, ⟨80, _⟩ => ⟨S8192x2048, .f32⟩
  | .hbm, ⟨81, _⟩ => ⟨S1x2048x4096, .f32⟩
  | .hbm, ⟨82, _⟩ => ⟨S2048x4096, .f32⟩
  | .hbm, ⟨83, _⟩ => ⟨S8192x4096, .f32⟩
  | .hbm, ⟨84, _⟩ => ⟨S_, .f32⟩
  | .hbm, ⟨85, _⟩ => ⟨S8192x4096, .f32⟩
  | .hbm, ⟨86, _⟩ => ⟨S8192x4096, .f32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S8192x1, .i1⟩
  | .hbm, ⟨91, _⟩ => ⟨S1x4096x2048, .f32⟩
  | .hbm, ⟨92, _⟩ => ⟨S4096x2048, .f32⟩
  | .hbm, ⟨93, _⟩ => ⟨S8192x2048, .f32⟩
  | .hbm, ⟨94, _⟩ => ⟨S8192x2048, .i1⟩
  | .hbm, ⟨95, _⟩ => ⟨S8192x2048, .f32⟩
  | .hbm, ⟨96, _⟩ => ⟨S1x2048x4096, .f32⟩
  | .hbm, ⟨97, _⟩ => ⟨S2048x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S_, .i32⟩
  | .hbm, ⟨103, _⟩ => ⟨S8192, .i32⟩
  | .hbm, ⟨104, _⟩ => ⟨S8192, .i1⟩
  | .hbm, ⟨105, _⟩ => ⟨S8192x1, .i1⟩
  | .hbm, ⟨106, _⟩ => ⟨S1x4096x2048, .f32⟩
  | .hbm, ⟨107, _⟩ => ⟨S4096x2048, .f32⟩
  | .hbm, ⟨108, _⟩ => ⟨S8192x2048, .f32⟩
  | .hbm, ⟨109, _⟩ => ⟨S8192x2048, .i1⟩
  | .hbm, ⟨110, _⟩ => ⟨S8192x2048, .f32⟩
  | .hbm, ⟨111, _⟩ => ⟨S1x2048x4096, .f32⟩
  | .hbm, ⟨112, _⟩ => ⟨S2048x4096, .f32⟩
  | .hbm, ⟨113, _⟩ => ⟨S8192x4096, .f32⟩
  | .hbm, ⟨114, _⟩ => ⟨S_, .f32⟩
  | .hbm, ⟨115, _⟩ => ⟨S8192x4096, .f32⟩
  | .hbm, ⟨116, _⟩ => ⟨S8192x4096, .f32⟩
  | .hbm, ⟨117, _⟩ => ⟨S_, .i32⟩
  | .hbm, ⟨118, _⟩ => ⟨S8192, .i32⟩
  | .hbm, ⟨119, _⟩ => ⟨S8192, .i1⟩
  | .hbm, ⟨120, _⟩ => ⟨S8192x1, .i1⟩
  | .hbm, ⟨121, _⟩ => ⟨S1x4096x2048, .f32⟩
  | .hbm, ⟨122, _⟩ => ⟨S4096x2048, .f32⟩
  | .hbm, ⟨123, _⟩ => ⟨S8192x2048, .f32⟩
  | .hbm, ⟨124, _⟩ => ⟨S8192x2048, .i1⟩
  | .hbm, ⟨125, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Base.lean ====
/- Definitions every module of this proof uses: the resource algebra, and the contents of a buffer that is reset at every J-th point of a
   grid and stepped at the others. -/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionArrays
public import Idealize.ShloMosaic.Lib.Ring
public import Idealize.ShloMosaic.Lib.Tactic
public import Idealize.ShloMosaic.Lib.WordCmp

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open Idealize.ShloMosaic.Rounds

/-- The user algebra: the pipeline library's copy beside the exchange protocol's. -/
abbrev UU : Type := UR sig nD τ × UR sig nD τ

theorem hz2 : (![0, 0] : Fin 2 → Nat) = fun _ => 0 := funext fun a => by fin_cases a <;> rfl
theorem hz3 : (![0, 0, 0] : Fin 3 → Nat) = fun _ => 0 := funext fun a => by fin_cases a <;> rfl

section Accum

variable {α : Type*} {N : ℕ}

/-- The contents after point `n` of a buffer reset to `a` at the multiples of `J` and stepped by `g` at every other point. -/
def accum (J : ℕ) (a : (n : ℕ) → n < N → α) (g : (n : ℕ) → n < N → α → α) (n : ℕ) (h : n < N) : α :=
  Pipeline.accAt a g (J * (n / J)) (n % J) (by rw [Nat.div_add_mod]; exact h)

theorem accAt_congr (a : (n : ℕ) → n < N → α) (g : (n : ℕ) → n < N → α → α) {b j b' j' : ℕ} (hb : b = b') (hj : j = j')
    (h : b + j < N) (h' : b' + j' < N) : Pipeline.accAt a g b j h = Pipeline.accAt a g b' j' h' := by
  subst hb; subst hj; rfl

theorem accum_reset (J : ℕ) (a : (n : ℕ) → n < N → α) (g : (n : ℕ) → n < N → α → α) (n : ℕ) (h : n < N) (h0 : n % J = 0) :
    accum J a g n h = a n h := by
  have e := Nat.div_add_mod n J
  rw [h0, Nat.add_zero] at e
  unfold accum
  rw [accAt_congr a g e h0 _ h]
  rfl

theorem accum_step (J : ℕ) (a : (n : ℕ) → n < N → α) (g : (n : ℕ) → n < N → α → α) (n : ℕ) (h : n + 1 < N) (h0 : ¬(n + 1) % J = 0) :
    accum J a g (n + 1) h = g (n + 1) h (accum J a g n (Nat.lt_of_succ_lt h)) := by
  have e := Nat.div_add_mod n J
  have e' := Nat.div_add_mod (n + 1) J
  have hd : (n + 1) / J = n / J := by
    rw [Nat.succ_div, if_neg (fun hd => h0 (Nat.mod_eq_zero_of_dvd hd)), Nat.add_zero]
  rw [hd] at e'
  have hm : (n + 1) % J = n % J + 1 := by omega
  have hs : J * (n / J) + (n % J + 1) < N := by omega
  unfold accum
  rw [accAt_congr a g (by rw [hd]) hm _ hs, Pipeline.accAt_succ]
  have : ∀ (k : ℕ) (hk : k < N) (hn : k = n + 1) (x : α), g k hk x = g (n + 1) h x := fun k hk hn x => by subst hn; rfl
  exact this _ _ (by omega) _

/-- The same, named by the point itself. -/
theorem accum_step' (J : ℕ) (a : (n : ℕ) → n < N → α) (g : (n : ℕ) → n < N → α → α) (n : ℕ) (h : n < N) (h0 : ¬n % J = 0) :
    accum J a g n h = g n h (accum J a g (n - 1) (Nat.lt_of_le_of_lt (Nat.sub_le _ _) h)) := by
  cases n with
  | zero => exact absurd (Nat.zero_mod J) h0
  | succ n => exact accum_step J a g n h h0

end Accum

end Cert.KernelIdeal.Moe

end
-- ==== Proof.Talk.lean ====
/- The exchange of the middle call: each device trades rows with its partner along the y axis of the mesh. The cells of the exchange,
   what is paid into each of them, and what each device owes. -/
module

public import proofs.«01_k».proof.Proof.Base

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The partner -/

/-- The device with the other y coordinate. -/
def pr (c : Dev nD) : Dev nD :=
  ⟨(8 * (c.val / 8) + (c.val % 4) + 4) - 4 * ((c.val / 4) % 2), by have h : c.val < 16 := c.isLt; show _ < 16; omega⟩

theorem pr_pr (c : Dev nD) : pr (pr c) = c := by revert c; decide +kernel

theorem dev1_pr (c : Dev nD) (h : k1_dev1 c < nD) : (⟨k1_dev1 c, h⟩ : Dev nD) = pr c := Fin.ext (k1_dev1_eq c)
theorem dev2_pr (c : Dev nD) (h : k1_dev2 c < nD) : (⟨k1_dev2 c, h⟩ : Dev nD) = pr c := Fin.ext (k1_dev2_eq c)
theorem dev3_pr (c : Dev nD) (h : k1_dev3 c < nD) : (⟨k1_dev3 c, h⟩ : Dev nD) = pr c := Fin.ext (k1_dev3_eq c)
theorem dev4_pr (c : Dev nD) (h : k1_dev4 c < nD) : (⟨k1_dev4 c, h⟩ : Dev nD) = pr c := Fin.ext (k1_dev4_eq c)
theorem dev5_pr (c : Dev nD) (h : k1_dev5 c < nD) : (⟨k1_dev5 c, h⟩ : Dev nD) = pr c := Fin.ext (k1_dev5_eq c)
theorem dev6_pr (c : Dev nD) (h : k1_dev6 c < nD) : (⟨k1_dev6 c, h⟩ : Dev nD) = pr c := Fin.ext (k1_dev6_eq c)

/-- The exchange along y as a permutation of the devices. -/
def swap : Dev nD ≃ Dev nD := ⟨pr, pr, pr_pr, pr_pr⟩

/-! ## The slices and the semaphores -/

theorem inb_lo (k : Fin 4) : ∀ a, (![576 * k.val, 0] : Fin 2 → Nat) a + S576x2048.size a ≤ S2304x2048.size a := by revert k; decide
theorem inb_hi (k : Fin 4) : ∀ a, (![576 * k.val + 2304, 0] : Fin 2 → Nat) a + S576x2048.size a ≤ S4608x2048.size a := by revert k; decide
theorem inb_s (k : Fin 4) : ∀ a, (![k.val] : Fin 1 → Nat) a + S1.size a ≤ S4.size a := by revert k; decide

/-- The `k`-th quarter of the partner's half of the gathered rows. -/
abbrev srcM (k : Fin 4) : Memref sig .tc .hbm S576x2048 .bf16 :=
  (Memref.whole main_v31 : Memref sig .tc .hbm S4608x2048 .bf16).slice (Rect.unit (s := S4608x2048) ![576 * k.val + 2304, 0] S576x2048.size (inb_hi k)) (fun _ => rfl)
/-- The `k`-th quarter of the landing buffer. -/
abbrev xM (k : Fin 4) : Memref sig .tc .vmem S576x2048 .bf16 :=
  (Memref.whole cc1_scratch0 : Memref sig .tc .vmem S2304x2048 .bf16).slice (Rect.unit (s := S2304x2048) ![576 * k.val, 0] S576x2048.size (inb_lo k)) (fun _ => rfl)
/-- The `k`-th quarter of the buffer the answers are sent from. -/
abbrev yM (k : Fin 4) : Memref sig .tc .vmem S576x2048 .bf16 :=
  (Memref.whole cc1_scratch1 : Memref sig .tc .vmem S2304x2048 .bf16).slice (Rect.unit (s := S2304x2048) ![576 * k.val, 0] S576x2048.size (inb_lo k)) (fun _ => rfl)
/-- The `k`-th quarter of the array the answers land in. -/
abbrev rM (k : Fin 4) : Memref sig .tc .hbm S576x2048 .bf16 :=
  (Memref.whole main_v32_1 : Memref sig .tc .hbm S2304x2048 .bf16).slice (Rect.unit (s := S2304x2048) ![576 * k.val, 0] S576x2048.size (inb_lo k)) (fun _ => rfl)

abbrev xsS (k : Fin 4) : DmaSem sig := ((cc1_scratch2.slice (Rect.unit (s := S4) ![k.val] S1.size (inb_s k))).squeeze S_ squeezes_S1_S_).sem
abbrev xrS (k : Fin 4) : DmaSem sig := ((cc1_scratch3.slice (Rect.unit (s := S4) ![k.val] S1.size (inb_s k))).squeeze S_ squeezes_S1_S_).sem
abbrev ysS (k : Fin 4) : DmaSem sig := ((cc1_scratch4.slice (Rect.unit (s := S4) ![k.val] S1.size (inb_s k))).squeeze S_ squeezes_S1_S_).sem
abbrev yrS (k : Fin 4) : DmaSem sig := ((cc1_scratch5.slice (Rect.unit (s := S4) ![k.val] S1.size (inb_s k))).squeeze S_ squeezes_S1_S_).sem

theorem xsS_val (k : Fin 4) : (xsS k).val = 14 + k.val := by revert k; decide +kernel
theorem xrS_val (k : Fin 4) : (xrS k).val = 18 + k.val := by revert k; decide +kernel
theorem ysS_val (k : Fin 4) : (ysS k).val = 22 + k.val := by revert k; decide +kernel
theorem yrS_val (k : Fin 4) : (yrS k).val = 26 + k.val := by revert k; decide +kernel

abbrev barS : Sem sig := sig.barrier 0 rfl

/-- The sixteen transfer semaphores of the exchange: the four departures and arrivals of the rows, then of the answers. -/
def dS (p : Fin 4 × Fin 4) : DmaSem sig := match p.1 with
  | 0 => xsS p.2
  | 1 => xrS p.2
  | 2 => ysS p.2
  | 3 => yrS p.2

theorem dS_val (p : Fin 4 × Fin 4) : (dS p).val = 14 + 4 * p.1.val + p.2.val := by revert p; decide +kernel

/-- The two kinds of arrival, by name. -/
def rS (p : Fin 2 × Fin 4) : DmaSem sig := match p.1 with
  | 0 => xrS p.2
  | 1 => yrS p.2

theorem rS_val (p : Fin 2 × Fin 4) : (rS p).val = 18 + 8 * p.1.val + p.2.val := by revert p; decide +kernel

abbrev osem1 : Fin 4 × Fin 4 → SemLoc sig := fun p => .dma (dS p)

theorem osem1_inj : Function.Injective osem1 := fun p q h => by
  have h' : (dS p).val = (dS q).val := congrArg Fin.val (SemLoc.dma.inj h)
  rw [dS_val, dS_val] at h'
  exact Prod.ext (Fin.ext (by omega)) (Fin.ext (by omega))

abbrev cell (c : Dev nD) (sm : SemLoc sig) : GSem nD τ sig := ((c : Thread nD τ), sm)

/-- What one slice raises a semaphore by. -/
abbrev N : ℕ := (srcM 0).view.dmaCredit
theorem N_pos : 0 < N := View.dmaCredit_pos _ (by decide)

/-! ## What the slices hold -/

abbrev srcPts (c : Dev nD) (k : Fin 4) (q : PosShare TreeShare) (f : S4608x2048.Idx → Elt F .bf16) : sProp 𝕄 :=
  (srcM k).view.loc (c : Thread nD τ) ↦[(srcM k).view.set]{q} f
abbrev xPts (c : Dev nD) (k : Fin 4) (f : S2304x2048.Idx → Elt F .bf16) : sProp 𝕄 :=
  (xM k).view.loc (c : Thread nD τ) ↦[(xM k).view.set]{fullShare} f
abbrev yPts (c : Dev nD) (k : Fin 4) (f : S2304x2048.Idx → Elt F .bf16) : sProp 𝕄 :=
  (yM k).view.loc (c : Thread nD τ) ↦[(yM k).view.set]{fullShare} f
abbrev rPts (c : Dev nD) (k : Fin 4) (f : S2304x2048.Idx → Elt F .bf16) : sProp 𝕄 :=
  (rM k).view.loc (c : Thread nD τ) ↦[(rM k).view.set]{fullShare} f

/-- The half of a share the body keeps of the gathered rows while the other half is read block by block. -/
def half : PosShare TreeShare := fullShare.left

variable (XE : Dev nD → S4608x2048.Idx → Elt F .bf16) (YE : Dev nD → S2304x2048.Idx → Elt F .bf16)

/-- A row of the lower half of the gathered rows. -/
def low (i : S2304x2048.Idx) : S4608x2048.Idx := fun a => match a with
  | ⟨0, _⟩ => ⟨2304 + (i 0).val, by have h : (i 0).val < 2304 := (i 0).isLt; show _ < 4608; omega⟩
  | ⟨1, _⟩ => ⟨(i 1).val, (i 1).isLt⟩

/-- What lands on device `c`: the lower half of its partner's gathered rows. -/
def landed (c : Dev nD) : S2304x2048.Idx → Elt F .bf16 := fun i => XE (pr c) (low i)

/-! ## The schedule -/

/-- Handed over with the barrier's unit: the partner's landing places, and that its arrival cells are open. -/
def barPay (c : Dev nD) : sProp 𝕄 :=
  bigSep Finset.univ fun k : Fin 4 => iprop((∃ f, xPts (pr c) k f) ∗ (∃ f, rPts (pr c) k f)
    ∗ reached ER (cell (pr c) (.dma (xrS k))) 0 ∗ reached ER (cell (pr c) (.dma (yrS k))) 0)

/-- The slice a transfer semaphore stands for. -/
def kof (s : DmaSem sig) : Fin 4 := ⟨(s.val + 2) % 4, Nat.mod_lt _ (by decide)⟩

/-- What is paid into a cell. -/
def pay (c : Dev nD) (sm : SemLoc sig) : sProp 𝕄 := match sm with
  | .reg _ => barPay c
  | .dma s => if s.val < 18 then srcPts c (kof s) half (XE c)
      else if s.val < 22 then xPts c (kof s) (landed XE c)
      else if s.val < 26 then iprop(∃ f, yPts c (kof s) f)
      else rPts c (kof s) (YE (pr c))

/-- The exchange's semaphores. -/
def isT (sm : SemLoc sig) : Bool := match sm with
  | .reg s => s = barS
  | .dma s => 14 ≤ s.val && s.val < 30

def amt (sm : SemLoc sig) : ℕ := match sm with
  | .reg _ => 1
  | .dma _ => N

theorem amt_pos (sm : SemLoc sig) : 0 < amt sm := by cases sm; exacts [Nat.one_pos, N_pos]

def rd : Rounds.Schedule (GSem nD τ sig) Unit 𝕄 where
  duties g r := if r = 0 ∧ g.1.2 = .tc ∧ isT g.2 = true then {()} else ∅
  unitless _ := False
  amount g _ _ := amt g.2
  payload g _ _ := pay XE YE g.1.1 g.2
  amount_pos g _ _ _ := amt_pos g.2

instance barPay_storable (c : Dev nD) : BI.Storable (upEmb : UEmb _ 𝕄) (barPay (F := F) c) := by
  unfold barPay; infer_instance

instance pay_storable (c : Dev nD) (sm : SemLoc sig) : BI.Storable (upEmb : UEmb _ 𝕄) (pay XE YE c sm) := by
  unfold pay; (repeat' split) <;> infer_instance

instance rd_payload_storable (g : GSem nD τ sig) (r : ℕ) (d : Unit) :
    BI.Storable (upEmb : UEmb _ 𝕄) ((rd XE YE).payload g r d) := by
  show BI.Storable upEmb (pay XE YE g.1.1 g.2); infer_instance

section Sched

variable (c : Dev nD) {sm : SemLoc sig}

theorem duties_eq (h : isT sm = true) : (rd XE YE).duties (cell c sm) 0 = {()} := by dsimp only [rd]; exact if_pos ⟨rfl, rfl, h⟩
theorem duty_mem (h : isT sm = true) : () ∈ (rd XE YE).duties (cell c sm) 0 := by rw [duties_eq XE YE c h]; exact Finset.mem_singleton_self _
theorem duties_later (g : GSem nD τ sig) : ∀ r, 1 ≤ r → (rd XE YE).duties g r = ∅ :=
  fun r hr => by dsimp only [rd]; rw [if_neg (fun h => by omega)]
theorem amount_eq (u : Unit) : (rd XE YE).amount (cell c sm) 0 u = amt sm := rfl
theorem expect_eq (h : isT sm = true) : (rd XE YE).expect (cell c sm) 0 = amt sm := by
  unfold Schedule.expect Schedule.amountOf; rw [duties_eq XE YE c h, Finset.sum_singleton, amount_eq]
theorem rest_eq (h : isT sm = true) :
    bigSep ((rd XE YE).duties (cell c sm) 0 \ ∅) (fun u => (rd XE YE).payload (cell c sm) 0 u) = pay XE YE c sm := by
  rw [Finset.sdiff_empty, duties_eq XE YE c h, bigSep_singleton]; rfl

end Sched

theorem isT_bar : isT (.reg barS) = true := by decide +kernel
theorem isT_xs (k : Fin 4) : isT (.dma (xsS k)) = true := by revert k; decide +kernel
theorem isT_xr (k : Fin 4) : isT (.dma (xrS k)) = true := by revert k; decide +kernel
theorem isT_ys (k : Fin 4) : isT (.dma (ysS k)) = true := by revert k; decide +kernel
theorem isT_yr (k : Fin 4) : isT (.dma (yrS k)) = true := by revert k; decide +kernel

theorem pay_bar (c : Dev nD) : pay XE YE c (.reg barS) = barPay c := rfl
theorem kof_xs (k : Fin 4) : kof (xsS k) = k := by revert k; decide +kernel
theorem kof_xr (k : Fin 4) : kof (xrS k) = k := by revert k; decide +kernel
theorem kof_ys (k : Fin 4) : kof (ysS k) = k := by revert k; decide +kernel
theorem kof_yr (k : Fin 4) : kof (yrS k) = k := by revert k; decide +kernel
theorem pay_xs (c : Dev nD) (k : Fin 4) : pay XE YE c (.dma (xsS k)) = srcPts c k half (XE c) := by
  dsimp only [pay]; rw [if_pos (by rw [xsS_val]; omega), kof_xs]
theorem pay_xr (c : Dev nD) (k : Fin 4) : pay XE YE c (.dma (xrS k)) = xPts c k (landed XE c) := by
  dsimp only [pay]; rw [if_neg (by rw [xrS_val]; omega), if_pos (by rw [xrS_val]; omega), kof_xr]
theorem pay_ys (c : Dev nD) (k : Fin 4) : pay XE YE c (.dma (ysS k)) = iprop(∃ f, yPts c k f) := by
  dsimp only [pay]; rw [if_neg (by rw [ysS_val]; omega), if_neg (by rw [ysS_val]; omega), if_pos (by rw [ysS_val]; omega), kof_ys]
theorem pay_yr (c : Dev nD) (k : Fin 4) : pay XE YE c (.dma (yrS k)) = rPts c k (YE (pr c)) := by
  dsimp only [pay]; rw [if_neg (by rw [yrS_val]; omega), if_neg (by rw [yrS_val]; omega), if_neg (by rw [yrS_val]; omega), kof_yr]

/-! ## What each device owes; the levels -/

/-- What device `c` still owes its partner when it has yet to make the arrivals in `S`. -/
def due (c : Dev nD) (S : Finset (Fin 2 × Fin 4)) : CellTallies nD τ sig Unit :=
  ∑ p ∈ S, tallyAt (cell (pr c) (.dma (rS p))) () N

/-- At launch: every arrival, and the barrier's unit. -/
def O₀ (c : Dev nD) : CellTallies nD τ sig Unit := due c Finset.univ + tallyAt (cell (pr c) (.reg barS)) () 1

theorem due_empty (c : Dev nD) : due c ∅ = 0 := Finset.sum_empty
theorem due_erase (c : Dev nD) {S : Finset (Fin 2 × Fin 4)} {p : Fin 2 × Fin 4} (h : p ∈ S) :
    due c S = due c (S.erase p) + tallyAt (cell (pr c) (.dma (rS p))) () N :=
  (Finset.sum_erase_add S _ h).symm

theorem due_pos (c : Dev nD) (S : Finset (Fin 2 × Fin 4)) {g : GSem nD τ sig} {u : Unit} (h : 0 < due c S g u) :
    ∃ p ∈ S, g = cell (pr c) (.dma (rS p)) := by
  induction S using Finset.induction_on with
  | empty => exact absurd h (Nat.lt_irrefl 0)
  | insert p S hp ih =>
    unfold due at h ih
    rw [Finset.sum_insert hp, Pi.add_apply, Finsupp.add_apply, tallyAt_apply] at h
    rcases Nat.add_pos_iff_pos_or_pos.mp h with h | h
    · split at h
      · next hg => exact ⟨p, Finset.mem_insert_self _ _, hg.1⟩
      · exact absurd h (Nat.lt_irrefl 0)
    · obtain ⟨q, hq, e⟩ := ih h
      exact ⟨q, Finset.mem_insert_of_mem hq, e⟩

def L (g : GSem nD τ sig) : Finset Unit := if g.1.2 = .tc then {()} else ∅

def lvS (sm : SemLoc sig) : ℕ := match sm with
  | .reg _ => 1
  | .dma s => if 26 ≤ s.val ∧ s.val < 30 then 3 else if 18 ≤ s.val ∧ s.val < 22 then 2 else 0

/-- The barrier before the rows' arrivals, these before the answers' arrivals; everything else first. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem lv_rS (p : Fin 2 × Fin 4) : lvS (.dma (rS p)) = 2 + p.1.val := by revert p; decide +kernel
theorem lv_xr (k : Fin 4) : lvS (.dma (xrS k)) = 2 := by revert k; decide +kernel

theorem due_level (c : Dev nD) (S : Finset (Fin 2 × Fin 4)) (b : ℕ) (hb : ∀ p ∈ S, b < 2 + p.1.val) {g : GSem nD τ sig} {u : Unit}
    (h : 0 < due c S g u) : u ∈ L g ∧ b < lv g u := by
  obtain ⟨p, hp, rfl⟩ := due_pos c S h
  exact ⟨mem_L _ _ _, by show b < lvS (.dma (rS p)); rw [lv_rS]; exact hb p hp⟩

theorem O₀_level (c : Dev nD) {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · exact due_level c _ 0 (fun p _ => by omega) h
  · rw [tallyAt_apply] at h
    split at h
    · next hg => obtain ⟨rfl, -⟩ := hg; exact ⟨mem_L _ _ _, Nat.one_pos⟩
    · exact absurd h (Nat.lt_irrefl 0)

/-- A device may wait on a cell whose level is below those of all it owes. -/
theorem mayWait_due (c : Dev nD) (sm : SemLoc sig) (S : Finset (Fin 2 × Fin 4)) (hb : ∀ p ∈ S, lvS sm < 2 + p.1.val) :
    (levAts L lv : sProp 𝕄) ⊢ MayWait (c : Thread nD τ) sm () (due c S) :=
  MayOwe.of_cut (L := L) (lev := lv) (lvS sm) (fun p hp => by rw [Finset.mem_singleton.mp hp]; exact mem_L _ _ _)
    (fun g u hg => (due_level c S _ hb hg).1)
    (fun p hp => by rw [Finset.mem_singleton.mp hp]; exact le_rfl)
    (fun g u hg => (due_level c S _ hb hg).2)

/-! ## Closing and opening a cell -/

theorem close (κ : ℕ) (g : GSem nD τ sig) :
    iprop(cellInv ER (rd XE YE) κ g ∗ atPos ER g (0 + 1) ∅ 0) ⊢ (|={Set.univ}=> semVal g 0 : sProp 𝕄) :=
  Rounds.cell_close ER (rd XE YE) (Set.mem_univ κ) id (duties_later XE YE g)

/-! ## The cells together -/

def barEmb : Dev nD ↪ GSem nD τ sig := ⟨fun c => cell c (.reg barS), fun _ _ h => congrArg (fun g : GSem nD τ sig => g.1.1) h⟩
def scEmb : Dev nD × (Fin 4 × Fin 4) ↪ GSem nD τ sig :=
  ⟨fun ck => cell ck.1 (osem1 ck.2), fun _ _ h =>
    Prod.ext (congrArg (fun g : GSem nD τ sig => g.1.1) h) (osem1_inj (congrArg Prod.snd h))⟩

abbrev barCells : Finset (GSem nD τ sig) := Finset.univ.map barEmb
abbrev scCells : Finset (GSem nD τ sig) := Finset.univ.map scEmb

theorem bar_mem (c : Dev nD) : cell c (.reg barS) ∈ (barCells ∪ scCells : Finset (GSem nD τ sig)) :=
  Finset.mem_union_left _ (Finset.mem_map_of_mem barEmb (Finset.mem_univ c))
theorem sc_mem (c : Dev nD) (p : Fin 4 × Fin 4) : cell c (.dma (dS p)) ∈ (barCells ∪ scCells : Finset (GSem nD τ sig)) :=
  Finset.mem_union_right _ (Finset.mem_map_of_mem scEmb (Finset.mem_univ (c, p)))

/-- Every cell's invariant, under one map of names. -/
def allInv (K : GSem nD τ sig → ℕ) : sProp 𝕄 := bigSep (barCells ∪ scCells) fun g => cellInv ER (rd XE YE) (K g) g

instance allInv_persistent (K : GSem nD τ sig → ℕ) : BI.Persistent (allInv XE YE K) := by unfold allInv; infer_instance

variable (K : GSem nD τ sig → ℕ) (c : Dev nD)

theorem inv_bar : allInv XE YE K ⊢ cellInv ER (rd XE YE) (K (cell c (.reg barS))) (cell c (.reg barS)) := bigSep_elim (bar_mem c)
theorem inv_xs (k : Fin 4) : allInv XE YE K ⊢ cellInv ER (rd XE YE) (K (cell c (.dma (xsS k)))) (cell c (.dma (xsS k))) := bigSep_elim (sc_mem c (0, k))
theorem inv_xr (k : Fin 4) : allInv XE YE K ⊢ cellInv ER (rd XE YE) (K (cell c (.dma (xrS k)))) (cell c (.dma (xrS k))) := bigSep_elim (sc_mem c (1, k))
theorem inv_ys (k : Fin 4) : allInv XE YE K ⊢ cellInv ER (rd XE YE) (K (cell c (.dma (ysS k)))) (cell c (.dma (ysS k))) := bigSep_elim (sc_mem c (2, k))
theorem inv_yr (k : Fin 4) : allInv XE YE K ⊢ cellInv ER (rd XE YE) (K (cell c (.dma (yrS k)))) (cell c (.dma (yrS k))) := bigSep_elim (sc_mem c (3, k))

theorem bigSep_fin4 (Φ : Fin 4 → sProp 𝕄) : bigSep Finset.univ Φ = iprop(Φ 0 ∗ Φ 1 ∗ Φ 2 ∗ Φ 3) := bigSep_W1 Φ

end Cert.KernelIdeal.Moe

end
-- ==== Proof.Steps.lean ====
/- The steps of the middle call's body, one rule for each kind of operation it makes. -/
module

public import proofs.«01_k».proof.Proof.Talk

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores -/

section Mem

variable (c : Dev nD)

/-- A load of a whole block. -/
theorem load_owns {S : Shape} {e : EltTy} (m : Memref sig .tc .vmem S e) {off : Fin S.rank → Nat} (hz : off = fun _ => 0)
    (inb : ∀ a, off a + S.size a ≤ S.size a) {hl : m.view.LoadsAt (Rect.unit off S.size inb).toLoadRect} (q : PosShare TreeShare)
    (x : S.Idx → Elt F e) {R : (S.Idx → Elt F e) → sProp 𝕄} :
    iprop(owns (c : Thread nD τ) m q x ∗ (owns (c : Thread nD τ) m q x -∗ R x))
      ⊢ wp frame (wpE (defs₀ (F := F)) Variants.none c none) Set.univ
          (Prog.lift (.load m (Rect.unit off S.size inb).toLoadRect hl) : Prog (TpuEff nD τ sig (Elt F) Λ₀ .tc) _) R := by
  unfold owns
  iintro ⟨⟨%f, %hf, H⟩, Hk⟩
  iapply (wp_load Variants.none (c : Thread nD τ) none Set.univ (m := m) (r := (Rect.unit off S.size inb).toLoadRect) (S := m.view.set) (q := q) (f := f)
    (View.setOn_subset_set _ _)) $$ H
  iintro H
  rw [View.readAt_eq_ld, View.ld_unit_zero (S := S) hz, hf, wp_ret]
  imodintro
  iapply Hk
  iexists f; isplitr; · ipureintro; exact hf
  iexact H

/-- A store over a whole block. -/
theorem store_owns {S : Shape} {e : EltTy} [∀ e, Nonempty (Elt F e)] (m : Memref sig .tc .vmem S e) {off : Fin S.rank → Nat} (hz : off = fun _ => 0)
    (inb : ∀ a, off a + S.size a ≤ S.size a) (w : S.Idx → Elt F e)
    {hx : (m.access (Rect.unit off S.size inb)).Stores Finset.univ} {hm} {Q : PUnit → sProp 𝕄} :
    iprop((∃ x, owns (c : Thread nD τ) m fullShare x) ∗ (owns (c : Thread nD τ) m fullShare w -∗ Q ⟨⟩))
      ⊢ wp frame (wpE (defs₀ (F := F)) Variants.none c none) Set.univ
          (Prog.lift (.store m (Rect.unit off S.size inb) w Finset.univ hx hm) : Prog (TpuEff nD τ sig (Elt F) Λ₀ .tc) _) Q := by
  unfold owns
  iintro ⟨⟨%x, %f, -, H⟩, Hk⟩
  iapply (wp_store Variants.none (c : Thread nD τ) none Set.univ (m := m) (r := Rect.unit off S.size inb) (S := m.view.set) (f := f)
    (by rw [View.setOn_univ]; exact View.set_slice_subset _ _)) $$ H
  iintro H
  rw [wp_ret]
  imodintro
  iapply Hk
  iexists _; isplitr
  swap; · iexact H
  ipureintro
  show m.view.read (Elt F) (m.view.writes (Elt F) f [⟨Rect.unit off S.size inb, w⟩]) = w
  rw [View.read_writes_eq_canon _ _ _ (fun y => ⟨_, List.mem_singleton_self _, by
    subst hz; show y ∈ (Rect.whole S).set; rw [Rect.set_whole]; exact Finset.mem_univ y⟩), View.canon_unit_zero hz]

/-- A load of one quarter of the landing buffer. -/
theorem load_x (k : Fin 4) {off : Fin 2 → Nat} (ho : off = ![576 * k.val, 0]) (inb) {hl} (f : S2304x2048.Idx → Elt F .bf16)
    {R : (S576x2048.Idx → Elt F .bf16) → sProp 𝕄} :
    iprop(xPts c k f ∗ (xPts c k f -∗ R ((xM k).view.read (Elt F) f)))
      ⊢ wp frame (wpE (defs₀ (F := F)) Variants.none c none) Set.univ
          (Prog.lift (.load (Memref.whole cc1_scratch0 : Memref sig .tc .vmem S2304x2048 .bf16)
            (Rect.unit (s := S2304x2048) off S576x2048.size inb).toLoadRect hl) : Prog (TpuEff nD τ sig (Elt F) Λ₀ .tc) _) R := by
  subst ho
  iintro ⟨H, Hk⟩
  iapply (wp_load_rect Variants.none (c : Thread nD τ) none Set.univ (m := (Memref.whole cc1_scratch0 : Memref sig .tc .vmem S2304x2048 .bf16))
    (r := Rect.unit (s := S2304x2048) ![576 * k.val, 0] S576x2048.size inb) (S := (xM k).view.set) (q := fullShare) (f := f)
    (Finset.Subset.refl _)) $$ H
  iintro H
  rw [wp_ret]
  imodintro
  iapply Hk
  iexact H

/-- A load of one quarter of the departure buffer, whatever it holds. -/
theorem load_y (k : Fin 4) {off : Fin 2 → Nat} (ho : off = ![576 * k.val, 0]) (inb) {hl}
    {R : (S576x2048.Idx → Elt F .bf16) → sProp 𝕄} :
    iprop((∃ f, yPts c k f) ∗ (∀ v, (∃ f, yPts c k f) -∗ R v))
      ⊢ wp frame (wpE (defs₀ (F := F)) Variants.none c none) Set.univ
          (Prog.lift (.load (Memref.whole cc1_scratch1 : Memref sig .tc .vmem S2304x2048 .bf16)
            (Rect.unit (s := S2304x2048) off S576x2048.size inb).toLoadRect hl) : Prog (TpuEff nD τ sig (Elt F) Λ₀ .tc) _) R := by
  subst ho
  iintro ⟨⟨%f, H⟩, Hk⟩
  iapply (wp_load_rect Variants.none (c : Thread nD τ) none Set.univ (m := (Memref.whole cc1_scratch1 : Memref sig .tc .vmem S2304x2048 .bf16))
    (r := Rect.unit (s := S2304x2048) ![576 * k.val, 0] S576x2048.size inb) (S := (yM k).view.set) (q := fullShare) (f := f)
    (Finset.Subset.refl _)) $$ H
  iintro H
  rw [wp_ret]
  imodintro
  iapply Hk
  iexists f
  iexact H

/-- A store into one quarter of the departure buffer. -/
theorem store_y (k : Fin 4) {off : Fin 2 → Nat} (ho : off = ![576 * k.val, 0]) (inb) (w : S576x2048.Idx → Elt F .bf16) {hx} {hm} {Q : PUnit → sProp 𝕄} :
    iprop((∃ f, yPts c k f) ∗ ((∃ f, ⌜(yM k).view.read (Elt F) f = w⌝ ∗ yPts c k f) -∗ Q ⟨⟩))
      ⊢ wp frame (wpE (defs₀ (F := F)) Variants.none c none) Set.univ
          (Prog.lift (.store (Memref.whole cc1_scratch1 : Memref sig .tc .vmem S2304x2048 .bf16)
            (Rect.unit (s := S2304x2048) off S576x2048.size inb) w Finset.univ hx hm) : Prog (TpuEff nD τ sig (Elt F) Λ₀ .tc) _) Q := by
  subst ho
  iintro ⟨⟨%f, H⟩, Hk⟩
  iapply (wp_store Variants.none (c : Thread nD τ) none Set.univ (m := (Memref.whole cc1_scratch1 : Memref sig .tc .vmem S2304x2048 .bf16))
    (r := Rect.unit (s := S2304x2048) ![576 * k.val, 0] S576x2048.size inb) (S := (yM k).view.set) (f := f)
    (Finset.Subset.refl _)) $$ H
  iintro H
  rw [wp_ret]
  imodintro
  iapply Hk
  iexists _; isplitr
  swap; · iexact H
  ipureintro
  exact View.read_write_univ _ _

end Mem

/-! ## The exchange's steps -/

section Talk

variable (XE : Dev nD → S4608x2048.Idx → Elt F .bf16) (YE : Dev nD → S2304x2048.Idx → Elt F .bf16)
variable (K : GSem nD τ sig → ℕ) (c : Dev nD)

/-- The barrier's unit to the partner, with this device's landing places. -/
theorem step_signal (W : Waits sig Unit) {d : Dev nD} (hd : d = pr c) {s : Sem sig} (hs : s = barS) {Q : PUnit → sProp 𝕄} :
    iprop(allInv XE YE K ∗ owes (c : Thread nD τ) (O₀ c) W ∗ dutyTok ER (cell (pr c) (.reg barS)) 0 () ∗ barPay (pr c)
        ∗ reached ER (cell (pr c) (.reg barS)) 0 ∗ (owes (c : Thread nD τ) (due c Finset.univ) W -∗ Q ⟨⟩))
      ⊢ wp frame (wpE (defs₀ (F := F)) Variants.none c none) Set.univ
          (semSignalWord d s 1#32 : Prog (TpuEff nD τ sig (Elt F) Λ₀ .tc) _) Q := by
  subst hd; subst hs
  iintro ⟨#HI, HO, Htok, Hpay, #Hr, Hk⟩
  ihave #Hi := (inv_bar XE YE K (pr c)) $$ HI
  iapply (Rounds.wp_signal Variants.none ER (rd XE YE) (c : Thread nD τ) none (dst := (pr c : Thread nD τ)) (sem := barS) (r := 0) (d := ())
      (κ := K (cell (pr c) (.reg barS))) (duty_mem XE YE (pr c) isT_bar) (amount_eq XE YE (pr c) ()) () (due c Finset.univ) rfl) $$ [HO Htok Hpay]
  · isplitr; · iexact Hi
    isplitl [HO]; · iexact HO
    isplitl [Htok]; · iexact Htok
    isplitl [Hpay]; · iapply (Entails.of_eq (show barPay (pr c) = (rd XE YE).payload (cell (pr c) (.reg barS)) 0 () from rfl)); iexact Hpay
    iexact Hr
  iintro HO
  rw [wp_ret]
  imodintro
  iapply Hk
  iexact HO

/-- The wait for the partner's unit: its landing places; the cell is closed. -/
theorem step_wait_bar (W : Waits sig Unit) {s : Sem sig} (hs : s = barS) {Q : PUnit → sProp 𝕄} :
    iprop(allInv XE YE K ∗ levAts L lv ∗ cred (tallyAt (cell c (.reg barS)) () 1) ∗ owes (c : Thread nD τ) (due c Finset.univ) W
        ∗ atPos ER (cell c (.reg barS)) 0 ∅ 0
        ∗ (iprop((∃ W', owes (c : Thread nD τ) (due c Finset.univ) W') ∗ semVal (cell c (.reg barS)) 0 ∗ barPay c) -∗ Q ⟨⟩))
      ⊢ wp frame (wpE (defs₀ (F := F)) Variants.none c none) Set.univ
          (semWaitWord s 1#32 : Prog (TpuEff nD τ sig (Elt F) Λ₀ .tc) _) Q := by
  subst hs
  iintro ⟨#HI, #Hlev, Hc, HO, Hat, Hk⟩
  ihave #Hi := (inv_bar XE YE K c) $$ HI
  iapply (Rounds.wp_wait_rest_token Variants.none ER (rd XE YE) (c : Thread nD τ) none (κ := K (cell c (.reg barS)))
      (wpE_semWait_eq Variants.none (c : Thread nD τ) none Set.univ) (Set.mem_univ _) () (O := due c Finset.univ) (W := W) (R := 0) (m := 0) (T := ∅)
      ((Nat.zero_add 1).trans (expect_eq XE YE c isT_bar).symm)) $$ [Hc HO Hat]
  · isplitr; · iexact Hi
    isplitl [Hc]; · iexact Hc
    isplitl [HO]; · iexact HO
    isplitr; · iapply (mayWait_due c (.reg barS) Finset.univ (fun p _ => by show 1 < 2 + p.1.val; omega)); iexact Hlev
    iexact Hat
  iintro ⟨HO, Hat, -, Hpay⟩
  ihave Hp := (Entails.of_eq ((rest_eq XE YE c isT_bar).trans (pay_bar XE YE c))) $$ Hpay
  rw [wp_ret]
  imod (close XE YE (K (cell c (.reg barS))) (cell c (.reg barS))) $$ [Hat] with Hv
  · isplitr; · iexact Hi
    iexact Hat
  imodintro
  iapply Hk
  isplitl [HO]; · iexists _; iexact HO
  isplitl [Hv]; · iexact Hv
  iexact Hp

/-- A wait on one of the transfer semaphores: what was paid into it; the cell is closed. -/
theorem step_wait {s : DmaSem sig} (hT : isT (.dma s) = true) (hI : allInv XE YE K ⊢ cellInv ER (rd XE YE) (K (cell c (.dma s))) (cell c (.dma s)))
    (S : Finset (Fin 2 × Fin 4)) (hlv : ∀ p ∈ S, lvS (.dma s) < 2 + p.1.val)
    {sp sp' : Space} {s₁ s₂ : Shape} {e₁ e₂ : EltTy} {src : Memref sig .tc sp' s₂ e₂} {dst : Memref sig .tc sp s₁ e₁} {hs₁ hs₂}
    (hN : dst.view.dmaCredit = N) {s' : DmaSem sig} (hs : s' = s) {Q : PUnit → sProp 𝕄} :
    iprop(allInv XE YE K ∗ levAts L lv ∗ cred (tallyAt (cell c (.dma s)) () N) ∗ (∃ W, owes (c : Thread nD τ) (due c S) W)
        ∗ atPos ER (cell c (.dma s)) 0 ∅ 0
        ∗ (iprop((∃ W', owes (c : Thread nD τ) (due c S) W') ∗ semVal (cell c (.dma s)) 0 ∗ pay XE YE c (.dma s)) -∗ Q ⟨⟩))
      ⊢ wp frame (wpE (defs₀ (F := F)) Variants.none c none) Set.univ
          (Prog.lift (.waitDma2 s' src dst hs₁ hs₂) : Prog (TpuEff nD τ sig (Elt F) Λ₀ .tc) _) Q := by
  subst hs
  iintro ⟨#HI, #Hlev, Hc, ⟨%W, HO⟩, Hat, Hk⟩
  ihave #Hi := hI $$ HI
  iapply (Rounds.wp_wait_rest_token Variants.none ER (rd XE YE) (c : Thread nD τ) none (κ := K (cell c (.dma s')))
      (wpE_waitDma2_eq (src := src) (dst := dst) (sem := s') (hsrc := hs₁) (hdst := hs₂) Variants.none (c : Thread nD τ) none Set.univ)
      (Set.mem_univ _) () (O := due c S) (W := W) (R := 0) (m := 0) (T := ∅)
      ((Nat.zero_add _).trans (hN.trans (expect_eq XE YE c hT).symm))) $$ [Hc HO Hat]
  · isplitr; · iexact Hi
    isplitl [Hc]; · rw [hN]; iexact Hc
    isplitl [HO]; · iexact HO
    isplitr; · iapply (mayWait_due c (.dma s') S hlv); iexact Hlev
    iexact Hat
  iintro ⟨HO, Hat, -, Hpay⟩
  ihave Hp := (Entails.of_eq (rest_eq XE YE c hT)) $$ Hpay
  rw [wp_ret]
  imod (close XE YE (K (cell c (.dma s'))) (cell c (.dma s'))) $$ [Hat] with Hv
  · isplitr; · iexact Hi
    iexact Hat
  imodintro
  iapply Hk
  isplitl [HO]; · iexists _; iexact HO
  isplitl [Hv]; · iexact Hv
  iexact Hp

/-- What lands of a quarter of the rows is the quarter of what the whole exchange lands. -/
theorem land_x (k : Fin 4) (f : S2304x2048.Idx → Elt F .bf16) :
    xPts (pr c) k ((xM k).view.write (Elt F) f ((srcM k).view.read (Elt F) (XE c)) Finset.univ) ⊢ (xPts (pr c) k (landed XE (pr c)) : sProp 𝕄) := by
  refine Entails.of_eq (pointsTo_congr fun i hi => ?_)
  obtain ⟨x, -, rfl⟩ := Finset.mem_map.mp hi
  rw [View.write_emb_of_mem _ _ (Finset.mem_univ x)]
  unfold landed
  rw [pr_pr]
  show XE c _ = XE c _
  refine congrArg (XE c) (funext fun a => Fin.ext ?_)
  fin_cases a
  · show 576 * k.val + 2304 + 1 * (x 0).val = 2304 + (576 * k.val + 1 * (x 0).val)
    omega
  · show 0 + 1 * (x 1).val = 0 + 1 * (x 1).val
    rfl

theorem land_r (k : Fin 4) (f f' : S2304x2048.Idx → Elt F .bf16) (hf : (yM k).view.read (Elt F) f' = (yM k).view.read (Elt F) (YE c)) :
    rPts (pr c) k ((rM k).view.write (Elt F) f ((yM k).view.read (Elt F) f') Finset.univ) ⊢ (rPts (pr c) k (YE c) : sProp 𝕄) := by
  refine Entails.of_eq (pointsTo_congr fun i hi => ?_)
  obtain ⟨x, -, rfl⟩ := Finset.mem_map.mp hi
  rw [View.write_emb_of_mem _ _ (Finset.mem_univ x), hf]
  rfl

/-- A quarter of the rows goes to the partner. -/
theorem step_send_x (k : Fin 4) (S : Finset (Fin 2 × Fin 4)) (hk : (0, k) ∈ S) {d : Dev nD} (hd : d = pr c)
    {src : Memref sig .tc .hbm S576x2048 .bf16} {dst : Memref sig .tc .vmem S576x2048 .bf16} (hsrc : src = srcM k) (hdst : dst = xM k)
    {s s' : DmaSem sig} (hs : s = xsS k) (hs' : s' = xrS k) {hsc : dst.view.ref.isScScratch = false} {h₁ h₂ h₃} {Q : PUnit → sProp 𝕄} :
    iprop(allInv XE YE K ∗ srcPts c k half (XE c) ∗ (∃ f, xPts (pr c) k f) ∗ (∃ W, owes (c : Thread nD τ) (due c S) W)
        ∗ dutyTok ER (cell c (.dma (xsS k))) 0 () ∗ reached ER (cell c (.dma (xsS k))) 0
        ∗ dutyTok ER (cell (pr c) (.dma (xrS k))) 0 () ∗ reached ER (cell (pr c) (.dma (xrS k))) 0
        ∗ (iprop((∃ W', owes (c : Thread nD τ) (due c (S.erase (0, k))) W') ∗ cred (tallyAt (cell c (.dma (xsS k))) () N)) -∗ Q ⟨⟩))
      ⊢ wp frame (wpE (defs₀ (F := F)) Variants.none c none) Set.univ
          (Prog.lift (.enqueueDma src (.remote (Dev.tc d) dst (.dma s) hsc) (.dma s') h₁ h₂ h₃) : Prog (TpuEff nD τ sig (Elt F) Λ₀ .tc) _) Q := by
  subst hd; subst hsrc; subst hdst; subst hs; subst hs'
  iintro ⟨#HI, Hs, ⟨%f, Hd⟩, ⟨%W, HO⟩, Ht1, #Hr1, Ht2, #Hr2, Hk⟩
  ihave #Hi1 := (inv_xs XE YE K c k) $$ HI
  ihave #Hi2 := (inv_xr XE YE K (pr c) k) $$ HI
  iapply (Rounds.wp_send_pointsTo Variants.none ER (rd XE YE) (c : Thread nD τ) none (c' := (pr c : Thread nD τ)) (src := srcM k) (dst := xM k)
      (sS := .dma (xsS k)) (sem := .dma (xrS k)) (q := half) (fs := XE c) (κ₁ := K (cell c (.dma (xsS k)))) (κ₂ := K (cell (pr c) (.dma (xrS k))))
      (r₁ := 0) (r₂ := 0) (d₁ := ()) (d₂ := ()) (fd := f)
      (duty_mem XE YE c (isT_xs k)) (duty_mem XE YE (pr c) (isT_xr k))
      () () N rfl rfl rfl (due c (S.erase (0, k))) (due_erase c hk) (W := W)
      (Entails.of_eq (pay_xs XE YE c k).symm)
      ((land_x XE c k f).trans (Entails.of_eq (pay_xr XE YE (pr c) k).symm))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [HO]; · iexists W; iexact HO
  iexact Hc

/-- A quarter of the answers goes to the partner. -/
theorem step_send_y (k : Fin 4) (S : Finset (Fin 2 × Fin 4)) (hk : (1, k) ∈ S) {d : Dev nD} (hd : d = pr c)
    {src : Memref sig .tc .vmem S576x2048 .bf16} {dst : Memref sig .tc .hbm S576x2048 .bf16} (hsrc : src = yM k) (hdst : dst = rM k)
    {s s' : DmaSem sig} (hs : s = ysS k) (hs' : s' = yrS k) {hsc : dst.view.ref.isScScratch = false} {h₁ h₂ h₃}
    (w : S576x2048.Idx → Elt F .bf16) (hw : w = (yM k).view.read (Elt F) (YE c)) {Q : PUnit → sProp 𝕄} :
    iprop(allInv XE YE K ∗ (∃ f, ⌜(yM k).view.read (Elt F) f = w⌝ ∗ yPts c k f) ∗ (∃ f, rPts (pr c) k f) ∗ (∃ W, owes (c : Thread nD τ) (due c S) W)
        ∗ dutyTok ER (cell c (.dma (ysS k))) 0 () ∗ reached ER (cell c (.dma (ysS k))) 0
        ∗ dutyTok ER (cell (pr c) (.dma (yrS k))) 0 () ∗ reached ER (cell (pr c) (.dma (yrS k))) 0
        ∗ (iprop((∃ W', owes (c : Thread nD τ) (due c (S.erase (1, k))) W') ∗ cred (tallyAt (cell c (.dma (ysS k))) () N)) -∗ Q ⟨⟩))
      ⊢ wp frame (wpE (defs₀ (F := F)) Variants.none c none) Set.univ
          (Prog.lift (.enqueueDma src (.remote (Dev.tc d) dst (.dma s) hsc) (.dma s') h₁ h₂ h₃) : Prog (TpuEff nD τ sig (Elt F) Λ₀ .tc) _) Q := by
  subst hd; subst hsrc; subst hdst; subst hs; subst hs'
  iintro ⟨#HI, ⟨%f', %hf', Hs⟩, ⟨%f, Hd⟩, ⟨%W, HO⟩, Ht1, #Hr1, Ht2, #Hr2, Hk⟩
  ihave #Hi1 := (inv_ys XE YE K c k) $$ HI
  ihave #Hi2 := (inv_yr XE YE K (pr c) k) $$ HI
  iapply (Rounds.wp_send_pointsTo Variants.none ER (rd XE YE) (c : Thread nD τ) none (c' := (pr c : Thread nD τ)) (src := yM k) (dst := rM k)
      (sS := .dma (ysS k)) (sem := .dma (yrS k)) (q := fullShare) (fs := f') (κ₁ := K (cell c (.dma (ysS k)))) (κ₂ := K (cell (pr c) (.dma (yrS k))))
      (r₁ := 0) (r₂ := 0) (d₁ := ()) (d₂ := ()) (fd := f)
      (duty_mem XE YE c (isT_ys k)) (duty_mem XE YE (pr c) (isT_yr k))
      () () N rfl rfl rfl (due c (S.erase (1, k))) (due_erase c hk) (W := W)
      ((by iintro H; iexists f'; iexact H : yPts c k f' ⊢ (iprop(∃ f, yPts c k f) : sProp 𝕄)).trans (Entails.of_eq (pay_ys XE YE c k).symm))
      ((land_r YE c k f f' (hf'.trans hw)).trans (Entails.of_eq ((pay_yr XE YE (pr c) k).trans (by rw [pr_pr])).symm))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [HO]; · iexists W; iexact HO
  iexact Hc

end Talk

end Cert.KernelIdeal.Moe

end
-- ==== Proof.State.lean ====
/- What the middle call's body holds and owes between its points, and how one point changes it. -/
module

public import proofs.«01_k».proof.Proof.Talk

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The points of the grid -/

theorem co1 (t : Fin grid1.N) : (grid1.coords t 0).val = t.val / 32 % 2 ∧ (grid1.coords t 1).val = t.val / 8 % 4 ∧ (grid1.coords t 2).val = t.val % 8 :=
  ⟨Pipeline.Grid.coords_val t 0 (by decide) rfl, Pipeline.Grid.coords_val t 1 (by decide) rfl,
    (show (grid1.coords t 2).val = t.val / 1 % 8 from Pipeline.Grid.coords_val t 2 (by decide) rfl).trans (by rw [Nat.div_one])⟩

theorem lt1 (t : Fin grid1.N) : t.val < 64 := Nat.lt_of_lt_of_eq t.isLt N_1

/-- The block of rows point `t` works on. -/
def jj (t : ℕ) : Fin 4 := ⟨t / 8 % 4, Nat.mod_lt _ (by decide)⟩

theorem cond1_iff (t : Fin grid1.N) : k1_cond1 (grid1.coords t) = 1#1 ↔ t.val = 0 := by
  obtain ⟨e0, e1, e2⟩ := co1 t; have ht := lt1 t
  simp only [k1_cond1, e0, e1, e2]
  word_cmp
theorem cond2_iff (t : Fin grid1.N) : k1_cond2 (grid1.coords t) = 1#1 ↔ t.val % 8 = 0 := by
  obtain ⟨e0, e1, e2⟩ := co1 t; have ht := lt1 t
  simp only [k1_cond2, e0, e1, e2]
  word_cmp
theorem cond3_iff (t : Fin grid1.N) : k1_cond3 (grid1.coords t) = 1#1 ↔ 32 ≤ t.val ∧ t.val % 8 = 0 := by
  obtain ⟨e0, e1, e2⟩ := co1 t; have ht := lt1 t
  simp only [k1_cond3, e0, e1, e2]
  word_cmp
theorem cond4_iff (t : Fin grid1.N) : k1_cond4 (grid1.coords t) = 1#1 ↔ t.val < 32 := by
  obtain ⟨e0, e1, e2⟩ := co1 t; have ht := lt1 t
  simp only [k1_cond4, e0, e1, e2]
  word_cmp
theorem cond5_iff (t : Fin grid1.N) : k1_cond5 (grid1.coords t) = 1#1 ↔ 32 ≤ t.val := by
  obtain ⟨e0, e1, e2⟩ := co1 t; have ht := lt1 t
  simp only [k1_cond5, e0, e1, e2]
  word_cmp
theorem cond6_iff (t : Fin grid1.N) : k1_cond6 (grid1.coords t) = 1#1 ↔ 32 ≤ t.val ∧ t.val % 8 = 7 := by
  obtain ⟨e0, e1, e2⟩ := co1 t; have ht := lt1 t
  simp only [k1_cond6, e0, e1, e2]
  word_cmp

/-- The body's test for the last point. -/
abbrev cond7 (i : grid1.Coords) : Prop :=
  (Scalar.cmpi .ne (Scalar.extui (Scalar.andi (Scalar.cmpi .eq (BitVec.ofNat 32 (i 0).val) 1#32)
    (Scalar.andi (Scalar.cmpi .eq (BitVec.ofNat 32 (i 1).val) 3#32) (Scalar.cmpi .eq (BitVec.ofNat 32 (i 2).val) 7#32)))) 0#32) = 1#1

theorem cond7_iff (t : Fin grid1.N) : cond7 (grid1.coords t) ↔ t.val = 63 := by
  obtain ⟨e0, e1, e2⟩ := co1 t; have ht := lt1 t
  simp only [cond7, e0, e1, e2]
  word_cmp

theorem off1_jj (t : Fin grid1.N) : k1_off1 (grid1.coords t) = ![(jj t.val).val] := by rw [k1_off1_eq, (co1 t).2.1]; rfl
theorem off2_jj (t : Fin grid1.N) : k1_off2 (grid1.coords t) = ![576 * (jj t.val).val, 0] := by rw [k1_off2_eq, (co1 t).2.1]; rfl
theorem off3_jj (t : Fin grid1.N) : k1_off3 (grid1.coords t) = ![576 * (jj t.val).val + 2304, 0] := by rw [k1_off3_eq, (co1 t).2.1]; rfl
theorem off4_jj (t : Fin grid1.N) : k1_off4 (grid1.coords t) = ![576 * (jj t.val).val, 0] := by rw [k1_off4_eq, (co1 t).2.1]; rfl
theorem off5_jj (t : Fin grid1.N) : k1_off5 (grid1.coords t) = ![576 * (jj t.val).val, 0] := by rw [k1_off5_eq, (co1 t).2.1]; rfl
theorem off6_jj (t : Fin grid1.N) : k1_off6 (grid1.coords t) = ![(jj t.val).val] := by rw [k1_off6_eq, (co1 t).2.1]; rfl
theorem off7_jj (t : Fin grid1.N) : k1_off7 (grid1.coords t) = ![576 * (jj t.val).val, 0] := by rw [k1_off7_eq, (co1 t).2.1]; rfl

/-! ## What the body holds between its points -/

section State

variable (XE : Dev nD → S4608x2048.Idx → Elt F .bf16) (YE : Dev nD → S2304x2048.Idx → Elt F .bf16)
variable (K : GSem nD τ sig → ℕ) (c : Dev nD)

/-- The arrivals a device has yet to make before point `t`. -/
def left (t : ℕ) : Finset (Fin 2 × Fin 4) := Finset.univ.filter fun p => p.1 = 1 ∧ t < 40 + 8 * p.2.val

theorem mem_left {t : ℕ} {p : Fin 2 × Fin 4} : p ∈ left t ↔ p.1 = 1 ∧ t < 40 + 8 * p.2.val := by
  unfold left; rw [Finset.mem_filter]; exact and_iff_right (Finset.mem_univ _)

theorem left_start : ((((Finset.univ : Finset (Fin 2 × Fin 4)).erase (0, 0)).erase (0, 1)).erase (0, 2)).erase (0, 3) = left 0 := by decide
theorem left_end : left 64 = ∅ := by decide
theorem left_step (t : ℕ) (h : 32 ≤ t) (h' : t < 64) (hm : t % 8 = 7) : (left t).erase (1, jj t) = left (t + 1) := by
  ext ⟨a, k⟩
  rw [Finset.mem_erase, mem_left, mem_left, ne_eq, Prod.mk.injEq, Fin.ext_iff (a := k)]
  show ¬(a = 1 ∧ k.val = t / 8 % 4) ∧ a = 1 ∧ t < 40 + 8 * k.val ↔ a = 1 ∧ t + 1 < 40 + 8 * k.val
  have := k.isLt
  constructor
  · rintro ⟨h1, rfl, h2⟩; refine ⟨rfl, ?_⟩; have : ¬k.val = t / 8 % 4 := fun e => h1 ⟨rfl, e⟩; omega
  · rintro ⟨rfl, h2⟩; refine ⟨fun e => ?_, rfl, by omega⟩; have := e.2; omega
theorem left_keep (t : ℕ) (h : ¬(32 ≤ t ∧ t % 8 = 7)) : left t = left (t + 1) := by
  ext ⟨a, k⟩
  rw [mem_left, mem_left]
  dsimp only
  have := k.isLt
  constructor <;> rintro ⟨rfl, h2⟩ <;> refine ⟨rfl, ?_⟩ <;> omega

/-- That the cells of the answers are open. -/
def opened : sProp 𝕄 := bigSep Finset.univ fun k : Fin 4 =>
  iprop(reached ER (cell c (.dma (ysS k))) 0 ∗ reached ER (cell (pr c) (.dma (yrS k))) 0)

instance opened_persistent : BI.Persistent (opened (F := F) c) := by unfold opened; infer_instance

/-- What stays as it is until the last point. -/
def baseK (k : Fin 4) : sProp 𝕄 :=
  iprop(atPos ER (cell c (.dma (xsS k))) 0 ∅ 0 ∗ cred (tallyAt (cell c (.dma (xsS k))) () N) ∗ atPos ER (cell c (.dma (ysS k))) 0 ∅ 0
    ∗ atPos ER (cell c (.dma (yrS k))) 0 ∅ 0 ∗ cred (tallyAt (cell c (.dma (yrS k))) () N))

/-- The `k`-th arrival of rows: still to be waited for, or landed. -/
def rowsK (t : ℕ) (k : Fin 4) : sProp 𝕄 :=
  if t ≤ 32 + 8 * k.val then iprop(atPos ER (cell c (.dma (xrS k))) 0 ∅ 0 ∗ cred (tallyAt (cell c (.dma (xrS k))) () N))
  else iprop(xPts c k (landed XE c) ∗ semVal (cell c (.dma (xrS k))) 0)

/-- The `k`-th departure of answers: still to be made, or under way. -/
def sendK (t : ℕ) (k : Fin 4) : sProp 𝕄 :=
  if t < 40 + 8 * k.val then iprop(dutyTok ER (cell c (.dma (ysS k))) 0 () ∗ dutyTok ER (cell (pr c) (.dma (yrS k))) 0 ()
    ∗ (∃ f, yPts c k f) ∗ (∃ f, rPts (pr c) k f))
  else cred (tallyAt (cell c (.dma (ysS k))) () N)

/-- Between the points: the rows waited for up to `a`, the answers sent up to `b`. -/
def mid (a b : ℕ) : sProp 𝕄 :=
  iprop(allInv XE YE K ∗ levAts L lv ∗ opened c ∗ semVal (cell c (.reg barS)) 0 ∗ bigSep Finset.univ (baseK c)
    ∗ bigSep Finset.univ (rowsK XE c a) ∗ bigSep Finset.univ (sendK c b))

/-- What the first point needs for the `k`-th departure of rows, and what it passes on. -/
def startK (k : Fin 4) : sProp 𝕄 :=
  iprop((srcPts c k half (XE c) ∗ dutyTok ER (cell c (.dma (xsS k))) 0 () ∗ reached ER (cell c (.dma (xsS k))) 0
      ∗ dutyTok ER (cell (pr c) (.dma (xrS k))) 0 ())
    ∗ atPos ER (cell c (.dma (xsS k))) 0 ∅ 0 ∗ atPos ER (cell c (.dma (ysS k))) 0 ∅ 0
    ∗ atPos ER (cell c (.dma (yrS k))) 0 ∅ 0 ∗ cred (tallyAt (cell c (.dma (yrS k))) () N)
    ∗ dutyTok ER (cell c (.dma (ysS k))) 0 () ∗ dutyTok ER (cell (pr c) (.dma (yrS k))) 0 () ∗ (∃ f, yPts c k f)
    ∗ reached ER (cell c (.dma (ysS k))) 0)

/-- Before the first point. -/
def atStart : sProp 𝕄 :=
  iprop(allInv XE YE K ∗ levAts L lv
    ∗ (atPos ER (cell c (.reg barS)) 0 ∅ 0 ∗ reached ER (cell (pr c) (.reg barS)) 0 ∗ dutyTok ER (cell (pr c) (.reg barS)) 0 ()
      ∗ cred (tallyAt (cell c (.reg barS)) () 1))
    ∗ barPay (pr c) ∗ bigSep Finset.univ (startK XE c) ∗ bigSep Finset.univ (rowsK XE c 0))

/-- One slice after the last point: its counters at zero, its buffers back. -/
def endK (k : Fin 4) : sProp 𝕄 :=
  iprop((semVal (cell c (.dma (xsS k))) 0 ∗ semVal (cell c (.dma (xrS k))) 0 ∗ semVal (cell c (.dma (ysS k))) 0 ∗ semVal (cell c (.dma (yrS k))) 0)
    ∗ srcPts c k half (XE c) ∗ xPts c k (landed XE c) ∗ (∃ f, yPts c k f) ∗ rPts c k (YE (pr c)))

/-- After the last point. -/
def atEnd : sProp 𝕄 := iprop(semVal (cell c (.reg barS)) 0 ∗ bigSep Finset.univ (endK XE YE c))

/-- What the body holds before point `t`. -/
def held1 (t : ℕ) : sProp 𝕄 :=
  if t = 0 then iprop(∃ K, atStart XE YE K c) else if t < 64 then iprop(∃ K, mid XE YE K c t t) else atEnd XE YE c

/-- What device `c` owes before point `t`. -/
def owed1 (t : ℕ) : CellTallies nD τ sig Unit := if t = 0 then O₀ c else due c (left t)

theorem owed1_zero : owed1 c 0 = O₀ c := if_pos rfl
theorem owed1_pos {t : ℕ} (h : t ≠ 0) : owed1 c t = due c (left t) := if_neg h
theorem owed1_end : owed1 c 64 = 0 := by rw [owed1_pos c (by decide), left_end, due_empty]

variable {t : ℕ}

theorem rows_keep (h : ¬(32 ≤ t ∧ t % 8 = 0)) (ht : t < 64) : bigSep Finset.univ (rowsK XE c t) = bigSep Finset.univ (rowsK XE c (t + 1)) := by
  refine bigSep_congr fun k _ => ?_
  have := k.isLt
  unfold rowsK
  by_cases h1 : t ≤ 32 + 8 * k.val
  · rw [if_pos h1, if_pos (by omega)]
  · rw [if_neg h1, if_neg (by omega)]
theorem send_keep (h : ¬(32 ≤ t ∧ t % 8 = 7)) : bigSep Finset.univ (sendK (F := F) c t) = bigSep Finset.univ (sendK c (t + 1)) := by
  refine bigSep_congr fun k _ => ?_
  have := k.isLt
  unfold sendK
  by_cases h1 : t < 40 + 8 * k.val
  · rw [if_pos h1, if_pos (by omega)]
  · rw [if_neg h1, if_neg (by omega)]

theorem rows_step (h : 32 ≤ t) (ht : t < 64) (hm : t % 8 = 0) :
    bigSep Finset.univ (rowsK XE c t) ⊢ iprop((atPos ER (cell c (.dma (xrS (jj t)))) 0 ∅ 0 ∗ cred (tallyAt (cell c (.dma (xrS (jj t)))) () N))
      ∗ (iprop(xPts c (jj t) (landed XE c) ∗ semVal (cell c (.dma (xrS (jj t)))) 0) -∗ bigSep Finset.univ (rowsK XE c (t + 1)))) := by
  have hj : (jj t).val = t / 8 % 4 := rfl
  rw [bigSep_univ_at _ (jj t), bigSep_univ_at (rowsK XE c (t + 1)) (jj t),
    show rowsK XE c t (jj t) = _ from if_pos (by omega), show rowsK XE c (t + 1) (jj t) = _ from if_neg (by omega),
    show bigSep (Finset.univ.erase (jj t)) (rowsK XE c t) = bigSep (Finset.univ.erase (jj t)) (rowsK XE c (t + 1)) from
      bigSep_congr fun k hk => by
        have hne : k.val ≠ (jj t).val := fun e => (Finset.mem_erase.mp hk).1 (Fin.ext e)
        have := k.isLt
        unfold rowsK
        by_cases h1 : t ≤ 32 + 8 * k.val
        · rw [if_pos h1, if_pos (by omega)]
        · rw [if_neg h1, if_neg (by omega)]]
  iintro ⟨H, Hr⟩
  isplitl [H]; · iexact H
  iintro H
  isplitl [H]; · iexact H
  iexact Hr

theorem rows_read (h : 32 ≤ t) (ht : t < 64) :
    bigSep Finset.univ (rowsK XE c (t + 1)) ⊢ iprop(xPts c (jj t) (landed XE c) ∗ (xPts c (jj t) (landed XE c) -∗ bigSep Finset.univ (rowsK XE c (t + 1)))) := by
  have hj : (jj t).val = t / 8 % 4 := rfl
  rw [bigSep_univ_at _ (jj t), show rowsK XE c (t + 1) (jj t) = _ from if_neg (by omega)]
  iintro ⟨⟨H, Hv⟩, Hr⟩
  isplitl [H]; · iexact H
  iintro H
  isplitl [H Hv]; · isplitl [H] <;> iassumption
  iexact Hr

theorem send_step (h : 32 ≤ t) (ht : t < 64) (hm : t % 8 = 7) :
    bigSep Finset.univ (sendK c t) ⊢ (iprop((dutyTok ER (cell c (.dma (ysS (jj t)))) 0 () ∗ dutyTok ER (cell (pr c) (.dma (yrS (jj t)))) 0 ()
        ∗ (∃ f, yPts c (jj t) f) ∗ (∃ f, rPts (pr c) (jj t) f))
      ∗ (cred (tallyAt (cell c (.dma (ysS (jj t)))) () N) -∗ bigSep Finset.univ (sendK c (t + 1)))) : sProp 𝕄) := by
  have hj : (jj t).val = t / 8 % 4 := rfl
  rw [bigSep_univ_at _ (jj t), bigSep_univ_at (sendK c (t + 1)) (jj t),
    show sendK c t (jj t) = _ from if_pos (by omega), show sendK c (t + 1) (jj t) = _ from if_neg (by omega),
    show bigSep (Finset.univ.erase (jj t)) (sendK (F := F) c t) = bigSep (Finset.univ.erase (jj t)) (sendK c (t + 1)) from
      bigSep_congr fun k hk => by
        have hne : k.val ≠ (jj t).val := fun e => (Finset.mem_erase.mp hk).1 (Fin.ext e)
        have := k.isLt
        unfold sendK
        by_cases h1 : t < 40 + 8 * k.val
        · rw [if_pos h1, if_pos (by omega)]
        · rw [if_neg h1, if_neg (by omega)]]
  iintro ⟨H, Hr⟩
  isplitl [H]; · iexact H
  iintro H
  isplitl [H]; · iexact H
  iexact Hr

theorem opened_at (k : Fin 4) : opened c ⊢ (iprop(reached ER (cell c (.dma (ysS k))) 0 ∗ reached ER (cell (pr c) (.dma (yrS k))) 0) : sProp 𝕄) :=
  bigSep_elim (Finset.mem_univ k)

end State

end Cert.KernelIdeal.Moe

end
-- ==== Proof.Body.lean ====
/- The middle call's body: one run of it at any point of the grid. -/
module

public import proofs.«01_k».proof.Proof.Steps
public import proofs.«01_k».proof.Proof.State

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body

variable (XE : Dev nD → S4608x2048.Idx → Elt F .bf16) (YE : Dev nD → S2304x2048.Idx → Elt F .bf16)
variable (c : Dev nD) (t : Fin grid1.N)

/-- The sum after a point, from the block of rows, the two blocks of weights and the sum before it. -/
def next1 (c : Dev nD) (t : ℕ) (x0 : Vec F S576x2048 .bf16) (x1 : Vec F S1x2048x512 .f32) (x2 : Vec F S1x512x2048 .f32) (a : Vec F S576x2048 .f32) :
    Vec F S576x2048 .f32 :=
  if t < 32 then k1_pay5 x1 x2 x0 a else k1_pay6 x1 x2 ((xM (jj t)).view.read (Elt F) (landed XE c)) a

theorem step_deviceId {Q : Dev nD → sProp 𝕄} :
    Q c ⊢ wp frame (wpE (defs₀ (F := F)) Variants.none c none) Set.univ (Prog.lift .deviceId : Prog (TpuEff nD τ sig (Elt F) Λ₀ .tc) _) Q := by
  show _ ⊢ wp frame (wpE (defs₀ (F := F)) Variants.none c none) Set.univ (.op .deviceId .ret : Prog (TpuEff nD τ sig (Elt F) Λ₀ .tc) _) Q
  rw [wp_deviceId, wp_ret]
  iintro H
  imodintro
  iexact H

/-- A run of the body between the states `A` and `B`, the sum going from `a` to `b`. -/
def Runs (c : Dev nD) (t : Fin grid1.N) (x0 : Vec F S576x2048 .bf16) (x1 : Vec F S1x2048x512 .f32) (x2 : Vec F S1x512x2048 .f32)
    (A B : sProp 𝕄) (a : Option (Vec F S576x2048 .f32)) (b : Vec F S576x2048 .f32) : Prop :=
  ∀ (arg3 : Memref sig .tc .vmem S576x2048 .bf16) (harg3 : arg3.IsWhole)
    (arg5 : Memref sig .tc .vmem S1x2048x512 .f32) (harg5 : arg5.IsWhole) (arg6 : Memref sig .tc .vmem S1x512x2048 .f32) (harg6 : arg6.IsWhole)
    (arg7 : Memref sig .tc .vmem S576x2048 .f32) (harg7 : arg7.IsWhole) (Q : PUnit → sProp 𝕄),
    iprop(A ∗ owns (c : Thread nD τ) arg3 fullShare x0 ∗ owns (c : Thread nD τ) arg5 fullShare x1 ∗ owns (c : Thread nD τ) arg6 fullShare x2
        ∗ (∃ d, ⌜∀ v, a = some v → d = v⌝ ∗ owns (c : Thread nD τ) arg7 fullShare d)
        ∗ (iprop(B ∗ owns (c : Thread nD τ) arg3 fullShare x0 ∗ owns (c : Thread nD τ) arg5 fullShare x1 ∗ owns (c : Thread nD τ) arg6 fullShare x2
          ∗ owns (c : Thread nD τ) arg7 fullShare b) -∗ Q ⟨⟩))
      ⊢ wp frame (wpE (defs₀ (F := F)) Variants.none c none) Set.univ
        (cc1_body (grid1.coords t) arg3 harg3 (Memref.whole main_v31) (Memref.isWhole_whole _) arg5 harg5 arg6 harg6 arg7 harg7
          (Memref.whole main_v32_1) (Memref.isWhole_whole _) (Memref.whole cc1_scratch0) (Memref.isWhole_whole _) (Memref.whole cc1_scratch1) (Memref.isWhole_whole _)
          cc1_scratch2 cc1_scratch3 cc1_scratch4 cc1_scratch5) Q

variable (x0 : Vec F S576x2048 .bf16) (x1 : Vec F S1x2048x512 .f32) (x2 : Vec F S1x512x2048 .f32) (a : Vec F S576x2048 .f32)

/-- A point of the first half that goes on with a sum. -/
theorem run_C (h0 : t.val < 32) (hm : ¬t.val % 8 = 0) (A : sProp 𝕄) : Runs c t x0 x1 x2 A A (some a) (k1_pay5 x1 x2 x0 a) := by
  intro arg3 harg3 arg5 harg5 arg6 harg6 arg7 harg7 Q
  have n1 : ¬k1_cond1 (grid1.coords t) = 1#1 := fun h => by have := (cond1_iff t).mp h; omega
  have n2 : ¬k1_cond2 (grid1.coords t) = 1#1 := fun h => by have := (cond2_iff t).mp h; omega
  have n3 : ¬k1_cond3 (grid1.coords t) = 1#1 := fun h => by have := (cond3_iff t).mp h; omega
  have p4 : k1_cond4 (grid1.coords t) = 1#1 := (cond4_iff t).mpr (by omega)
  have n5 : ¬k1_cond5 (grid1.coords t) = 1#1 := fun h => by have := (cond5_iff t).mp h; omega
  have n6 : ¬k1_cond6 (grid1.coords t) = 1#1 := fun h => by have := (cond6_iff t).mp h; omega
  have n7 : ¬cond7 (grid1.coords t) := fun h => by have := (cond7_iff t).mp h; omega
  rw [cc1_body_eq_skeleton]; unfold cc1_body_skel
  rw [k1_part10_eq_skeleton]; unfold k1_part10_skel
  simp only [wp_bind, dif_neg n1, dif_neg n2, dif_neg n3, dif_pos p4, dif_neg n5, dif_neg n6]
  iintro ⟨HA, H3, H5, H6, ⟨%d, %hd, H7⟩, Hk⟩
  obtain rfl := hd a rfl
  iapply (load_owns c arg5 hz3 _ fullShare x1)
  isplitl [H5]; · iexact H5
  iintro H5
  iapply (load_owns c arg6 hz3 _ fullShare x2)
  isplitl [H6]; · iexact H6
  iintro H6
  iapply (load_owns c arg3 hz2 _ fullShare x0)
  isplitl [H3]; · iexact H3
  iintro H3
  iapply (load_owns c arg7 hz2 _ fullShare d)
  isplitl [H7]; · iexact H7
  iintro H7
  iapply (load_owns c arg7 hz2 _ fullShare d)
  isplitl [H7]; · iexact H7
  iintro H7
  iapply (store_owns c arg7 hz2 _ _)
  isplitl [H7]; · iexists d; iexact H7
  iintro H7
  rw [wp_pure]
  imodintro
  rw [dif_neg n7, wp_pure]
  imodintro
  iapply Hk
  isplitl [HA]; · iexact HA
  isplitl [H3]; · iexact H3
  isplitl [H5]; · iexact H5
  isplitl [H6]; · iexact H6
  iexact H7

/-- A later point of the first half that starts a sum. -/
theorem run_B (h0 : t.val < 32) (hp : 0 < t.val) (hm : t.val % 8 = 0) (A : sProp 𝕄) : Runs c t x0 x1 x2 A A none (k1_pay5 x1 x2 x0 k1_pay2) := by
  intro arg3 harg3 arg5 harg5 arg6 harg6 arg7 harg7 Q
  have n1 : ¬k1_cond1 (grid1.coords t) = 1#1 := fun h => by have := (cond1_iff t).mp h; omega
  have p2 : k1_cond2 (grid1.coords t) = 1#1 := (cond2_iff t).mpr (by omega)
  have n3 : ¬k1_cond3 (grid1.coords t) = 1#1 := fun h => by have := (cond3_iff t).mp h; omega
  have p4 : k1_cond4 (grid1.coords t) = 1#1 := (cond4_iff t).mpr (by omega)
  have n5 : ¬k1_cond5 (grid1.coords t) = 1#1 := fun h => by have := (cond5_iff t).mp h; omega
  have n6 : ¬k1_cond6 (grid1.coords t) = 1#1 := fun h => by have := (cond6_iff t).mp h; omega
  have n7 : ¬cond7 (grid1.coords t) := fun h => by have := (cond7_iff t).mp h; omega
  rw [cc1_body_eq_skeleton]; unfold cc1_body_skel
  rw [k1_part10_eq_skeleton]; unfold k1_part10_skel
  simp only [wp_bind, dif_neg n1, dif_pos p2, dif_neg n3, dif_pos p4, dif_neg n5, dif_neg n6]
  iintro ⟨HA, H3, H5, H6, ⟨%d, -, H7⟩, Hk⟩
  iapply (load_owns c arg7 hz2 _ fullShare d)
  isplitl [H7]; · iexact H7
  iintro H7
  iapply (store_owns c arg7 hz2 _ _)
  isplitl [H7]; · iexists d; iexact H7
  iintro H7
  iapply (load_owns c arg5 hz3 _ fullShare x1)
  isplitl [H5]; · iexact H5
  iintro H5
  iapply (load_owns c arg6 hz3 _ fullShare x2)
  isplitl [H6]; · iexact H6
  iintro H6
  iapply (load_owns c arg3 hz2 _ fullShare x0)
  isplitl [H3]; · iexact H3
  iintro H3
  iapply (load_owns c arg7 hz2 _ fullShare k1_pay2)
  isplitl [H7]; · iexact H7
  iintro H7
  iapply (load_owns c arg7 hz2 _ fullShare k1_pay2)
  isplitl [H7]; · iexact H7
  iintro H7
  iapply (store_owns c arg7 hz2 _ _)
  isplitl [H7]; · iexists k1_pay2; iexact H7
  iintro H7
  rw [wp_pure]
  imodintro
  rw [dif_neg n7, wp_pure]
  imodintro
  iapply Hk
  isplitl [HA]; · iexact HA
  isplitl [H3]; · iexact H3
  isplitl [H5]; · iexact H5
  isplitl [H6]; · iexact H6
  iexact H7

/-- What the body holds and owes between its points. -/
def midO (a b : ℕ) : sProp 𝕄 := iprop(∃ K, mid XE YE K c a b ∗ ∃ W, owes (c : Thread nD τ) (due c (left b)) W)

theorem sem_at (S : DmaSems sig S4) (k : Fin 4) {off : Fin 1 → Nat} (ho : off = ![k.val]) (inb : ∀ a, off a + S1.size a ≤ S4.size a) :
    ((S.slice (Rect.unit (s := S4) off S1.size inb)).squeeze S_ squeezes_S1_S_).sem
      = ((S.slice (Rect.unit (s := S4) ![k.val] S1.size (inb_s k))).squeeze S_ squeezes_S1_S_).sem := by
  subst ho; rfl

theorem quarter_at {sp : Space} (m : Memref sig .tc sp S2304x2048 .bf16) (k : Fin 4) {off : Fin 2 → Nat} (ho : off = ![576 * k.val, 0])
    (inb : ∀ a, off a + S576x2048.size a ≤ S2304x2048.size a) :
    m.slice (Rect.unit (s := S2304x2048) off S576x2048.size inb) (fun _ => rfl)
      = m.slice (Rect.unit (s := S2304x2048) ![576 * k.val, 0] S576x2048.size (inb_lo k)) (fun _ => rfl) := by
  subst ho; rfl

theorem credit_lo {off : Fin 2 → Nat} (inb : ∀ a, off a + S576x2048.size a ≤ S2304x2048.size a) :
    ((Memref.whole cc1_scratch0 : Memref sig .tc .vmem S2304x2048 .bf16).slice (Rect.unit (s := S2304x2048) off S576x2048.size inb) (fun _ => rfl)).view.dmaCredit = N := rfl

/-- The wait for the rows that a sum of the second half starts from. -/
theorem step_arrive (K : GSem nD τ sig → ℕ) (h0 : 32 ≤ t.val) (hm : t.val % 8 = 0) {h} {hi hi' hf hf' hs₁ hs₂} {Q : PUnit → sProp 𝕄} :
    iprop(allInv XE YE K ∗ levAts L lv ∗ bigSep Finset.univ (rowsK XE c t.val) ∗ (∃ W, owes (c : Thread nD τ) (due c (left (t.val + 1))) W)
        ∗ (iprop((∃ W', owes (c : Thread nD τ) (due c (left (t.val + 1))) W') ∗ bigSep Finset.univ (rowsK XE c (t.val + 1))) -∗ Q ⟨⟩))
      ⊢ wp frame (wpE (defs₀ (F := F)) Variants.none c none) Set.univ
          (Prog.lift (.waitDma2 ((cc1_scratch3.slice (Rect.unit (s := S4) (k1_off1 (grid1.coords t)) S1.size (k1_off1_inb (grid1.coords t) h))).squeeze S_ squeezes_S1_S_).sem
            ((Memref.whole main_v31 : Memref sig .tc .hbm S4608x2048 .bf16).slice (Rect.unit (s := S4608x2048) (k1_off3 (grid1.coords t)) S576x2048.size hi') hf')
            ((Memref.whole cc1_scratch0 : Memref sig .tc .vmem S2304x2048 .bf16).slice (Rect.unit (s := S2304x2048) (k1_off2 (grid1.coords t)) S576x2048.size hi) hf)
            hs₁ hs₂) : Prog (TpuEff nD τ sig (Elt F) Λ₀ .tc) _) Q := by
  iintro ⟨#HI, #HL, Hrows, HO, Hk⟩
  ihave Hw := (rows_step XE c (t := t.val) h0 (lt1 t) hm) $$ Hrows
  icases Hw with ⟨⟨Hat, Hc⟩, Hrows⟩
  iapply (step_wait XE YE K c (isT_xr (jj t.val)) (inv_xr XE YE K c (jj t.val)) (left (t.val + 1)) (fun p hp => by
      rw [lv_xr]
      have e : p.1.val = 1 := congrArg Fin.val (mem_left.mp hp).1
      omega) (credit_lo hi) (sem_at cc1_scratch3 (jj t.val) (off1_jj t) _))
  isplitr; · iexact HI
  isplitr; · iexact HL
  isplitl [Hc]; · iexact Hc
  isplitl [HO]; · iexact HO
  isplitl [Hat]; · iexact Hat
  iintro ⟨HO, Hv, Hx⟩
  ihave Hx := (Entails.of_eq (pay_xr XE YE c (jj t.val))) $$ Hx
  iapply Hk
  isplitl [HO]; · iexact HO
  iapply Hrows
  isplitl [Hx] <;> iassumption

/-- A point of the second half that goes on with a sum and does not end it. -/
theorem run_E (h0 : 32 ≤ t.val) (hm : ¬t.val % 8 = 0) (hm' : ¬t.val % 8 = 7) :
    Runs c t x0 x1 x2 (midO XE YE c t.val t.val) (midO XE YE c (t.val + 1) (t.val + 1)) (some a)
      (k1_pay6 x1 x2 ((xM (jj t.val)).view.read (Elt F) (landed XE c)) a) := by
  intro arg3 harg3 arg5 harg5 arg6 harg6 arg7 harg7 Q
  have n1 : ¬k1_cond1 (grid1.coords t) = 1#1 := fun h => by have := (cond1_iff t).mp h; omega
  have n2 : ¬k1_cond2 (grid1.coords t) = 1#1 := fun h => by have := (cond2_iff t).mp h; omega
  have n3 : ¬k1_cond3 (grid1.coords t) = 1#1 := fun h => by have := (cond3_iff t).mp h; omega
  have n4 : ¬k1_cond4 (grid1.coords t) = 1#1 := fun h => by have := (cond4_iff t).mp h; omega
  have p5 : k1_cond5 (grid1.coords t) = 1#1 := (cond5_iff t).mpr (by omega)
  have n6 : ¬k1_cond6 (grid1.coords t) = 1#1 := fun h => by have := (cond6_iff t).mp h; omega
  have n7 : ¬cond7 (grid1.coords t) := fun h => by have := (cond7_iff t).mp h; omega
  rw [cc1_body_eq_skeleton]; unfold cc1_body_skel
  rw [k1_part10_eq_skeleton]; unfold k1_part10_skel
  simp only [wp_bind, dif_neg n1, dif_neg n2, dif_neg n3, dif_neg n4, dif_pos p5, dif_neg n6]
  unfold midO mid
  rw [rows_keep XE c (t := t.val) (by omega) (lt1 t), send_keep c (t := t.val) (by omega), left_keep t.val (by omega)]
  iintro ⟨⟨%K, ⟨#HI, #HL, #Hop, Hbar, Hbase, Hrows, Hsend⟩, HO⟩, H3, H5, H6, ⟨%d, %hd, H7⟩, Hk⟩
  obtain rfl := hd a rfl
  iapply (load_owns c arg5 hz3 _ fullShare x1)
  isplitl [H5]; · iexact H5
  iintro H5
  iapply (load_owns c arg6 hz3 _ fullShare x2)
  isplitl [H6]; · iexact H6
  iintro H6
  ihave Hx := (rows_read XE c (t := t.val) h0 (lt1 t)) $$ Hrows
  icases Hx with ⟨Hx, Hrows⟩
  iapply (load_x c (jj t.val) (off4_jj t) _ (landed XE c))
  isplitl [Hx]; · iexact Hx
  iintro Hx
  ihave Hrows := Hrows $$ Hx
  iapply (load_owns c arg7 hz2 _ fullShare d)
  isplitl [H7]; · iexact H7
  iintro H7
  iapply (load_owns c arg7 hz2 _ fullShare d)
  isplitl [H7]; · iexact H7
  iintro H7
  iapply (store_owns c arg7 hz2 _ _)
  isplitl [H7]; · iexists d; iexact H7
  iintro H7
  rw [wp_pure]
  imodintro
  rw [dif_neg n7, wp_pure]
  imodintro
  iapply Hk
  isplitl [Hbar Hbase Hrows Hsend HO]
  · iexists K
    iframe HI HL Hop Hbar Hbase Hrows Hsend HO
  iframe H3 H5 H6 H7

/-- A point of the second half that starts a sum: the rows have landed. -/
theorem run_D (h0 : 32 ≤ t.val) (hm : t.val % 8 = 0) :
    Runs c t x0 x1 x2 (midO XE YE c t.val t.val) (midO XE YE c (t.val + 1) (t.val + 1)) none
      (k1_pay6 x1 x2 ((xM (jj t.val)).view.read (Elt F) (landed XE c)) k1_pay2) := by
  intro arg3 harg3 arg5 harg5 arg6 harg6 arg7 harg7 Q
  have n1 : ¬k1_cond1 (grid1.coords t) = 1#1 := fun h => by have := (cond1_iff t).mp h; omega
  have p2 : k1_cond2 (grid1.coords t) = 1#1 := (cond2_iff t).mpr (by omega)
  have p3 : k1_cond3 (grid1.coords t) = 1#1 := (cond3_iff t).mpr (by omega)
  have n4 : ¬k1_cond4 (grid1.coords t) = 1#1 := fun h => by have := (cond4_iff t).mp h; omega
  have p5 : k1_cond5 (grid1.coords t) = 1#1 := (cond5_iff t).mpr (by omega)
  have n6 : ¬k1_cond6 (grid1.coords t) = 1#1 := fun h => by have := (cond6_iff t).mp h; omega
  have n7 : ¬cond7 (grid1.coords t) := fun h => by have := (cond7_iff t).mp h; omega
  rw [cc1_body_eq_skeleton]; unfold cc1_body_skel
  rw [k1_part10_eq_skeleton]; unfold k1_part10_skel
  simp only [wp_bind, dif_neg n1, dif_pos p2, dif_pos p3, dif_neg n4, dif_pos p5, dif_neg n6]
  unfold midO mid
  rw [send_keep c (t := t.val) (by omega), left_keep t.val (by omega)]
  iintro ⟨⟨%K, ⟨#HI, #HL, #Hop, Hbar, Hbase, Hrows, Hsend⟩, HO⟩, H3, H5, H6, ⟨%d, -, H7⟩, Hk⟩
  iapply (load_owns c arg7 hz2 _ fullShare d)
  isplitl [H7]; · iexact H7
  iintro H7
  iapply (store_owns c arg7 hz2 _ _)
  isplitl [H7]; · iexists d; iexact H7
  iintro H7
  iapply (step_deviceId c)
  iapply (step_arrive XE YE c t K h0 hm (h := p3))
  isplitr; · iexact HI
  isplitr; · iexact HL
  isplitl [Hrows]; · iexact Hrows
  isplitl [HO]; · iexact HO
  iintro ⟨HO, Hrows⟩
  iapply (load_owns c arg5 hz3 _ fullShare x1)
  isplitl [H5]; · iexact H5
  iintro H5
  iapply (load_owns c arg6 hz3 _ fullShare x2)
  isplitl [H6]; · iexact H6
  iintro H6
  ihave Hx := (rows_read XE c (t := t.val) h0 (lt1 t)) $$ Hrows
  icases Hx with ⟨Hx, Hrows⟩
  iapply (load_x c (jj t.val) (off4_jj t) _ (landed XE c))
  isplitl [Hx]; · iexact Hx
  iintro Hx
  ihave Hrows := Hrows $$ Hx
  iapply (load_owns c arg7 hz2 _ fullShare k1_pay2)
  isplitl [H7]; · iexact H7
  iintro H7
  iapply (load_owns c arg7 hz2 _ fullShare k1_pay2)
  isplitl [H7]; · iexact H7
  iintro H7
  iapply (store_owns c arg7 hz2 _ _)
  isplitl [H7]; · iexists k1_pay2; iexact H7
  iintro H7
  rw [wp_pure]
  imodintro
  rw [dif_neg n7, wp_pure]
  imodintro
  iapply Hk
  isplitl [Hbar Hbase Hrows Hsend HO]
  · iexists K
    iframe HI HL Hop Hbar Hbase Hrows Hsend HO
  iframe H3 H5 H6 H7

theorem rows_end : bigSep Finset.univ (rowsK XE c 64) ⊢ iprop((xPts c 0 (landed XE c) ∗ semVal (cell c (.dma (xrS 0))) 0)
    ∗ (xPts c 1 (landed XE c) ∗ semVal (cell c (.dma (xrS 1))) 0) ∗ (xPts c 2 (landed XE c) ∗ semVal (cell c (.dma (xrS 2))) 0)
    ∗ (xPts c 3 (landed XE c) ∗ semVal (cell c (.dma (xrS 3))) 0)) :=
  Entails.of_eq ((bigSep_congr fun k _ => if_neg (by have := k.isLt; omega)).trans
    (bigSep_fin4 fun k => iprop(xPts c k (landed XE c) ∗ semVal (cell c (.dma (xrS k))) 0)))

theorem send_end : bigSep Finset.univ (sendK c 64) ⊢ (iprop(cred (tallyAt (cell c (.dma (ysS 0))) () N) ∗ cred (tallyAt (cell c (.dma (ysS 1))) () N)
    ∗ cred (tallyAt (cell c (.dma (ysS 2))) () N) ∗ cred (tallyAt (cell c (.dma (ysS 3))) () N)) : sProp 𝕄) :=
  Entails.of_eq ((bigSep_congr fun k _ => if_neg (by have := k.isLt; omega)).trans
    (bigSep_fin4 fun k => cred (tallyAt (cell c (.dma (ysS k))) () N)))

/-- The departure of the answers of a finished sum. -/
theorem step_answer (K : GSem nD τ sig → ℕ) (h0 : 32 ≤ t.val) (hm : t.val % 8 = 7)
    (w : S576x2048.Idx → Elt F .bf16) (hw : w = (yM (jj t.val)).view.read (Elt F) (YE c))
    {hl hi hi' hi'' hf hf' hsc h₁ h₂ h₃} {Q : PUnit → sProp 𝕄} :
    iprop(allInv XE YE K ∗ opened c ∗ (∃ f, ⌜(yM (jj t.val)).view.read (Elt F) f = w⌝ ∗ yPts c (jj t.val) f) ∗ (∃ f, rPts (pr c) (jj t.val) f)
        ∗ dutyTok ER (cell c (.dma (ysS (jj t.val)))) 0 () ∗ dutyTok ER (cell (pr c) (.dma (yrS (jj t.val)))) 0 ()
        ∗ (∃ W, owes (c : Thread nD τ) (due c (left t.val)) W)
        ∗ (iprop((∃ W', owes (c : Thread nD τ) (due c (left (t.val + 1))) W') ∗ cred (tallyAt (cell c (.dma (ysS (jj t.val)))) () N)) -∗ Q ⟨⟩))
      ⊢ wp frame (wpE (defs₀ (F := F)) Variants.none c none) Set.univ
          (Prog.lift (.enqueueDma
            ((Memref.whole cc1_scratch1 : Memref sig .tc .vmem S2304x2048 .bf16).slice (Rect.unit (s := S2304x2048) (k1_off7 (grid1.coords t)) S576x2048.size hi) hf)
            (.remote (Dev.tc (⟨k1_dev6 c, hl⟩ : Dev nD))
              ((Memref.whole main_v32_1 : Memref sig .tc .hbm S2304x2048 .bf16).slice (Rect.unit (s := S2304x2048) (k1_off7 (grid1.coords t)) S576x2048.size hi') hf')
              (.dma ((cc1_scratch4.slice (Rect.unit (s := S4) (k1_off6 (grid1.coords t)) S1.size hi'')).squeeze S_ squeezes_S1_S_).sem) hsc)
            (.dma ((cc1_scratch5.slice (Rect.unit (s := S4) (k1_off6 (grid1.coords t)) S1.size hi'')).squeeze S_ squeezes_S1_S_).sem) h₁ h₂ h₃)
            : Prog (TpuEff nD τ sig (Elt F) Λ₀ .tc) _) Q := by
  iintro ⟨#HI, #Hop, Hy, Hr, Ht1, Ht2, HO, Hk⟩
  ihave Ho := (opened_at c (jj t.val)) $$ Hop
  icases Ho with ⟨Hr1, Hr2⟩
  iapply (step_send_y XE YE K c (jj t.val) (left t.val) (mem_left.mpr ⟨rfl, by show t.val < 40 + 8 * (t.val / 8 % 4); have := lt1 t; omega⟩) (dev6_pr c hl)
    (quarter_at (Memref.whole cc1_scratch1) (jj t.val) (off7_jj t) hi) (quarter_at (Memref.whole main_v32_1) (jj t.val) (off7_jj t) hi')
    (sem_at cc1_scratch4 (jj t.val) (off6_jj t) hi'') (sem_at cc1_scratch5 (jj t.val) (off6_jj t) hi'') w hw)
  isplitr; · iexact HI
  isplitl [Hy]; · iexact Hy
  isplitl [Hr]; · iexact Hr
  isplitl [HO]; · iexact HO
  isplitl [Ht1]; · iexact Ht1
  isplitl [Hr1]; · iexact Hr1
  isplitl [Ht2]; · iexact Ht2
  isplitl [Hr2]; · iexact Hr2
  iintro ⟨HO, Hc⟩
  iapply Hk
  isplitl [HO]; · iapply (Entails.of_eq (congrArg (fun S => iprop(∃ W', owes (c : Thread nD τ) (due c S) W')) (left_step t.val h0 (lt1 t) hm))); iexact HO
  iexact Hc

theorem step_xs (K : GSem nD τ sig → ℕ) (k : Fin 4) {off : Fin 1 → Nat} (ho : off = ![k.val] := by rfl) {inb : ∀ a, off a + S1.size a ≤ S4.size a}
    {sp : Space} {src : Memref sig .tc sp S576x2048 .bf16} {off' : Fin 2 → Nat} {hi hf hs₁ hs₂} {Q : PUnit → sProp 𝕄} :
    iprop(allInv XE YE K ∗ levAts L lv ∗ (∃ W, owes (c : Thread nD τ) (due c (left 64)) W)
        ∗ atPos ER (cell c (.dma (xsS k))) 0 ∅ 0 ∗ cred (tallyAt (cell c (.dma (xsS k))) () N)
        ∗ (iprop((∃ W, owes (c : Thread nD τ) (due c (left 64)) W) ∗ semVal (cell c (.dma (xsS k))) 0 ∗ srcPts c k half (XE c)) -∗ Q ⟨⟩))
      ⊢ wp frame (wpE (defs₀ (F := F)) Variants.none c none) Set.univ
          (Prog.lift (.waitDma2 ((cc1_scratch2.slice (Rect.unit (s := S4) off S1.size inb)).squeeze S_ squeezes_S1_S_).sem src
            ((Memref.whole main_v31 : Memref sig .tc .hbm S4608x2048 .bf16).slice (Rect.unit (s := S4608x2048) off' S576x2048.size hi) hf)
            hs₁ hs₂) : Prog (TpuEff nD τ sig (Elt F) Λ₀ .tc) _) Q := by
  iintro ⟨#HI, #HL, HO, Hat, Hc, Hk⟩
  iapply (step_wait XE YE K c (isT_xs k) (inv_xs XE YE K c k) (left 64) (fun p hp => absurd (left_end ▸ hp) (Finset.notMem_empty p))
    (rfl : ((Memref.whole main_v31 : Memref sig .tc .hbm S4608x2048 .bf16).slice (Rect.unit (s := S4608x2048) off' S576x2048.size hi) hf).view.dmaCredit = N)
    (sem_at cc1_scratch2 k ho _))
  isplitr; · iexact HI
  isplitr; · iexact HL
  isplitl [Hc]; · iexact Hc
  isplitl [HO]; · iexact HO
  isplitl [Hat]; · iexact Hat
  iintro ⟨HO, Hv, Hx⟩
  ihave Hx := (Entails.of_eq (pay_xs XE YE c k)) $$ Hx
  iapply Hk
  isplitl [HO]; · iexact HO
  isplitl [Hv] <;> iassumption

theorem step_ys (K : GSem nD τ sig → ℕ) (k : Fin 4) {off : Fin 1 → Nat} (ho : off = ![k.val] := by rfl) {inb : ∀ a, off a + S1.size a ≤ S4.size a}
    {sp : Space} {src : Memref sig .tc sp S576x2048 .bf16} {off' : Fin 2 → Nat} {hi hf hs₁ hs₂} {Q : PUnit → sProp 𝕄} :
    iprop(allInv XE YE K ∗ levAts L lv ∗ (∃ W, owes (c : Thread nD τ) (due c (left 64)) W)
        ∗ atPos ER (cell c (.dma (ysS k))) 0 ∅ 0 ∗ cred (tallyAt (cell c (.dma (ysS k))) () N)
        ∗ (iprop((∃ W, owes (c : Thread nD τ) (due c (left 64)) W) ∗ semVal (cell c (.dma (ysS k))) 0 ∗ (∃ f, yPts c k f)) -∗ Q ⟨⟩))
      ⊢ wp frame (wpE (defs₀ (F := F)) Variants.none c none) Set.univ
          (Prog.lift (.waitDma2 ((cc1_scratch4.slice (Rect.unit (s := S4) off S1.size inb)).squeeze S_ squeezes_S1_S_).sem src
            ((Memref.whole cc1_scratch1 : Memref sig .tc .vmem S2304x2048 .bf16).slice (Rect.unit (s := S2304x2048) off' S576x2048.size hi) hf)
            hs₁ hs₂) : Prog (TpuEff nD τ sig (Elt F) Λ₀ .tc) _) Q := by
  iintro ⟨#HI, #HL, HO, Hat, Hc, Hk⟩
  iapply (step_wait XE YE K c (isT_ys k) (inv_ys XE YE K c k) (left 64) (fun p hp => absurd (left_end ▸ hp) (Finset.notMem_empty p))
    (rfl : ((Memref.whole cc1_scratch1 : Memref sig .tc .vmem S2304x2048 .bf16).slice (Rect.unit (s := S2304x2048) off' S576x2048.size hi) hf).view.dmaCredit = N)
    (sem_at cc1_scratch4 k ho _))
  isplitr; · iexact HI
  isplitr; · iexact HL
  isplitl [Hc]; · iexact Hc
  isplitl [HO]; · iexact HO
  isplitl [Hat]; · iexact Hat
  iintro ⟨HO, Hv, Hx⟩
  ihave Hx := (Entails.of_eq (pay_ys XE YE c k)) $$ Hx
  iapply Hk
  isplitl [HO]; · iexact HO
  isplitl [Hv] <;> iassumption

theorem step_yr (K : GSem nD τ sig → ℕ) (k : Fin 4) {off : Fin 1 → Nat} (ho : off = ![k.val] := by rfl) {inb : ∀ a, off a + S1.size a ≤ S4.size a}
    {sp : Space} {src : Memref sig .tc sp S576x2048 .bf16} {off' : Fin 2 → Nat} {hi hf hs₁ hs₂} {Q : PUnit → sProp 𝕄} :
    iprop(allInv XE YE K ∗ levAts L lv ∗ (∃ W, owes (c : Thread nD τ) (due c (left 64)) W)
        ∗ atPos ER (cell c (.dma (yrS k))) 0 ∅ 0 ∗ cred (tallyAt (cell c (.dma (yrS k))) () N)
        ∗ (iprop((∃ W, owes (c : Thread nD τ) (due c (left 64)) W) ∗ semVal (cell c (.dma (yrS k))) 0 ∗ rPts c k (YE (pr c))) -∗ Q ⟨⟩))
      ⊢ wp frame (wpE (defs₀ (F := F)) Variants.none c none) Set.univ
          (Prog.lift (.waitDma2 ((cc1_scratch5.slice (Rect.unit (s := S4) off S1.size inb)).squeeze S_ squeezes_S1_S_).sem src
            ((Memref.whole main_v32_1 : Memref sig .tc .hbm S2304x2048 .bf16).slice (Rect.unit (s := S2304x2048) off' S576x2048.size hi) hf)
            hs₁ hs₂) : Prog (TpuEff nD τ sig (Elt F) Λ₀ .tc) _) Q := by
  iintro ⟨#HI, #HL, HO, Hat, Hc, Hk⟩
  iapply (step_wait XE YE K c (isT_yr k) (inv_yr XE YE K c k) (left 64) (fun p hp => absurd (left_end ▸ hp) (Finset.notMem_empty p))
    (rfl : ((Memref.whole main_v32_1 : Memref sig .tc .hbm S2304x2048 .bf16).slice (Rect.unit (s := S2304x2048) off' S576x2048.size hi) hf).view.dmaCredit = N)
    (sem_at cc1_scratch5 k ho _))
  isplitr; · iexact HI
  isplitr; · iexact HL
  isplitl [Hc]; · iexact Hc
  isplitl [HO]; · iexact HO
  isplitl [Hat]; · iexact Hat
  iintro ⟨HO, Hv, Hx⟩
  ihave Hx := (Entails.of_eq (pay_yr XE YE c k)) $$ Hx
  iapply Hk
  isplitl [HO]; · iexact HO
  isplitl [Hv] <;> iassumption

/-- What a point that ends a sum leaves. -/
def after7 : sProp 𝕄 := if t.val = 63 then iprop(atEnd XE YE c ∗ ∃ W, owes (c : Thread nD τ) (due c (left 64)) W) else midO XE YE c (t.val + 1) (t.val + 1)

/-- A point of the second half that ends a sum: the answers leave; after the last point everything is back. -/
theorem run_F (h0 : 32 ≤ t.val) (hm : t.val % 8 = 7)
    (hw : k1_pay1 (k1_pay6 x1 x2 ((xM (jj t.val)).view.read (Elt F) (landed XE c)) a) = (yM (jj t.val)).view.read (Elt F) (YE c)) :
    Runs c t x0 x1 x2 (midO XE YE c t.val t.val) (after7 XE YE c t) (some a)
      (k1_pay6 x1 x2 ((xM (jj t.val)).view.read (Elt F) (landed XE c)) a) := by
  intro arg3 harg3 arg5 harg5 arg6 harg6 arg7 harg7 Q
  have n1 : ¬k1_cond1 (grid1.coords t) = 1#1 := fun h => by have := (cond1_iff t).mp h; omega
  have n2 : ¬k1_cond2 (grid1.coords t) = 1#1 := fun h => by have := (cond2_iff t).mp h; omega
  have n3 : ¬k1_cond3 (grid1.coords t) = 1#1 := fun h => by have := (cond3_iff t).mp h; omega
  have n4 : ¬k1_cond4 (grid1.coords t) = 1#1 := fun h => by have := (cond4_iff t).mp h; omega
  have p5 : k1_cond5 (grid1.coords t) = 1#1 := (cond5_iff t).mpr (by omega)
  have p6 : k1_cond6 (grid1.coords t) = 1#1 := (cond6_iff t).mpr (by omega)
  rw [cc1_body_eq_skeleton]; unfold cc1_body_skel
  rw [k1_part10_eq_skeleton]; unfold k1_part10_skel
  simp only [wp_bind, dif_neg n1, dif_neg n2, dif_neg n3, dif_neg n4, dif_pos p5, dif_pos p6]
  unfold midO mid
  rw [rows_keep XE c (t := t.val) (by omega) (lt1 t)]
  iintro ⟨⟨%K, ⟨#HI, #HL, #Hop, Hbar, Hbase, Hrows, Hsend⟩, HO⟩, H3, H5, H6, ⟨%d, %hd, H7⟩, Hk⟩
  obtain rfl := hd a rfl
  iapply (load_owns c arg5 hz3 _ fullShare x1)
  isplitl [H5]; · iexact H5
  iintro H5
  iapply (load_owns c arg6 hz3 _ fullShare x2)
  isplitl [H6]; · iexact H6
  iintro H6
  ihave Hx := (rows_read XE c (t := t.val) h0 (lt1 t)) $$ Hrows
  icases Hx with ⟨Hx, Hrows⟩
  iapply (load_x c (jj t.val) (off4_jj t) _ (landed XE c))
  isplitl [Hx]; · iexact Hx
  iintro Hx
  ihave Hrows := Hrows $$ Hx
  iapply (load_owns c arg7 hz2 _ fullShare d)
  isplitl [H7]; · iexact H7
  iintro H7
  iapply (load_owns c arg7 hz2 _ fullShare d)
  isplitl [H7]; · iexact H7
  iintro H7
  iapply (store_owns c arg7 hz2 _ _)
  isplitl [H7]; · iexists d; iexact H7
  iintro H7
  rw [wp_pure]
  imodintro
  iapply (load_owns c arg7 hz2 _ fullShare _)
  isplitl [H7]; · iexact H7
  iintro H7
  ihave Hs := (send_step c (t := t.val) h0 (lt1 t) hm) $$ Hsend
  icases Hs with ⟨⟨Ht1, Ht2, Hy, Hr⟩, Hsend⟩
  iapply (load_y c (jj t.val) (off5_jj t) _)
  isplitl [Hy]; · iexact Hy
  iintro %v Hy
  iapply (store_y c (jj t.val) (off5_jj t) _ _)
  isplitl [Hy]; · iexact Hy
  iintro Hy
  iapply (step_deviceId c)
  iapply (step_answer XE YE c t K h0 hm _ hw)
  isplitr; · iexact HI
  isplitr; · iexact Hop
  isplitl [Hy]; · iexact Hy
  isplitl [Hr]; · iexact Hr
  isplitl [Ht1]; · iexact Ht1
  isplitl [Ht2]; · iexact Ht2
  isplitl [HO]; · iexact HO
  iintro ⟨HO, Hc⟩
  ihave Hsend := Hsend $$ Hc
  by_cases e : t.val = 63
  · have p7 : cond7 (grid1.coords t) := (cond7_iff t).mpr e
    rw [dif_pos p7]
    rw [show after7 XE YE c t = _ from if_pos e]
    obtain ⟨t, ht⟩ := t
    obtain rfl : t = 63 := e
    ihave Hb := (Entails.of_eq (bigSep_fin4 (baseK (F := F) c))) $$ Hbase
    ihave Hq := (rows_end XE c) $$ Hrows
    ihave Hs := (send_end c) $$ Hsend
    icases Hq with ⟨⟨Q0, Q0'⟩, ⟨Q1, Q1'⟩, ⟨Q2, Q2'⟩, ⟨Q3, Q3'⟩⟩
    icases Hs with ⟨Y0', Y1', Y2', Y3'⟩
    unfold baseK
    icases Hb with ⟨⟨X0, X0', Y0, R0, R0'⟩, ⟨X1, X1', Y1, R1, R1'⟩, ⟨X2, X2', Y2, R2, R2'⟩, ⟨X3, X3', Y3, R3, R3'⟩⟩
    simp only [wp_bind, k1_part4_eq_skeleton, k1_part4_skel, k1_part5_eq_skeleton, k1_part5_skel, k1_part6_eq_skeleton, k1_part6_skel,
    k1_part7_eq_skeleton, k1_part7_skel, k1_part8_eq_skeleton, k1_part8_skel, k1_part9_eq_skeleton, k1_part9_skel]
    iapply (step_deviceId c)
    iapply (step_xs XE YE c K 0)
    iframe HI HL HO X0 X0'
    iintro ⟨HO, X0, X0'⟩
    iapply (step_ys XE YE c K 0)
    iframe HI HL HO Y0 Y0'
    iintro ⟨HO, Y0, Y0'⟩
    rw [wp_pure]
    imodintro
    iapply (step_yr XE YE c K 0)
    iframe HI HL HO R0 R0'
    iintro ⟨HO, R0, R0'⟩
    rw [wp_pure]
    imodintro
    iapply (step_xs XE YE c K 1)
    iframe HI HL HO X1 X1'
    iintro ⟨HO, X1, X1'⟩
    iapply (step_ys XE YE c K 1)
    iframe HI HL HO Y1 Y1'
    iintro ⟨HO, Y1, Y1'⟩
    rw [wp_pure]
    imodintro
    iapply (step_yr XE YE c K 1)
    iframe HI HL HO R1 R1'
    iintro ⟨HO, R1, R1'⟩
    iapply (step_xs XE YE c K 2)
    iframe HI HL HO X2 X2'
    iintro ⟨HO, X2, X2'⟩
    rw [wp_pure]
    imodintro
    iapply (step_ys XE YE c K 2)
    iframe HI HL HO Y2 Y2'
    iintro ⟨HO, Y2, Y2'⟩
    iapply (step_yr XE YE c K 2)
    iframe HI HL HO R2 R2'
    iintro ⟨HO, R2, R2'⟩
    rw [wp_pure]
    imodintro
    iapply (step_xs XE YE c K 3)
    iframe HI HL HO X3 X3'
    iintro ⟨HO, X3, X3'⟩
    iapply (step_ys XE YE c K 3)
    iframe HI HL HO Y3 Y3'
    iintro ⟨HO, Y3, Y3'⟩
    rw [wp_pure]
    imodintro
    iapply (step_yr XE YE c K 3)
    iframe HI HL HO R3 R3'
    iintro ⟨HO, R3, R3'⟩
    rw [wp_pure]
    imodintro
    iapply Hk
    iframe H3 H5 H6 H7 HO
    unfold atEnd
    isplitl [Hbar]; · iexact Hbar
    iapply (Entails.of_eq (bigSep_fin4 (endK XE YE c)).symm)
    unfold endK
    iframe
  · have n7 : ¬cond7 (grid1.coords t) := fun h => e ((cond7_iff t).mp h)
    rw [dif_neg n7, wp_pure]
    rw [show after7 XE YE c t = _ from if_neg e]
    unfold midO mid
    imodintro
    iapply Hk
    isplitl [Hbar Hbase Hrows Hsend HO]
    · iexists K
      iframe HI HL Hop Hbar Hbase Hrows Hsend HO
    iframe H3 H5 H6 H7

theorem send_start : (iprop((dutyTok ER (cell c (.dma (ysS 0))) 0 () ∗ dutyTok ER (cell (pr c) (.dma (yrS 0))) 0 () ∗ (∃ f, yPts c 0 f) ∗ (∃ f, rPts (pr c) 0 f))
    ∗ (dutyTok ER (cell c (.dma (ysS 1))) 0 () ∗ dutyTok ER (cell (pr c) (.dma (yrS 1))) 0 () ∗ (∃ f, yPts c 1 f) ∗ (∃ f, rPts (pr c) 1 f))
    ∗ (dutyTok ER (cell c (.dma (ysS 2))) 0 () ∗ dutyTok ER (cell (pr c) (.dma (yrS 2))) 0 () ∗ (∃ f, yPts c 2 f) ∗ (∃ f, rPts (pr c) 2 f))
    ∗ (dutyTok ER (cell c (.dma (ysS 3))) 0 () ∗ dutyTok ER (cell (pr c) (.dma (yrS 3))) 0 () ∗ (∃ f, yPts c 3 f) ∗ (∃ f, rPts (pr c) 3 f))) : sProp 𝕄)
      ⊢ bigSep Finset.univ (sendK c 0) :=
  Entails.of_eq ((bigSep_congr fun k _ => if_pos (by omega)).trans
    (bigSep_fin4 fun k => iprop((dutyTok ER (cell c (.dma (ysS k))) 0 () ∗ dutyTok ER (cell (pr c) (.dma (yrS k))) 0 () ∗ (∃ f, yPts c k f) ∗ (∃ f, rPts (pr c) k f))))).symm

/-- The departure of a quarter of the rows. -/
theorem step_rows (K : GSem nD τ sig → ℕ) (k : Fin 4) (S : Finset (Fin 2 × Fin 4)) (hk : (0, k) ∈ S) {d : Dev nD} (hd : d = pr c)
    {off off' : Fin 2 → Nat} {off'' : Fin 1 → Nat} (ho : off = ![576 * k.val + 2304, 0] := by rfl) (ho' : off' = ![576 * k.val, 0] := by rfl)
    (ho'' : off'' = ![k.val] := by rfl)
    {hi hi' hi'' hf hf' hsc h₁ h₂ h₃} {Q : PUnit → sProp 𝕄} :
    iprop(allInv XE YE K ∗ srcPts c k half (XE c) ∗ (∃ f, xPts (pr c) k f) ∗ (∃ W, owes (c : Thread nD τ) (due c S) W)
        ∗ dutyTok ER (cell c (.dma (xsS k))) 0 () ∗ reached ER (cell c (.dma (xsS k))) 0
        ∗ dutyTok ER (cell (pr c) (.dma (xrS k))) 0 () ∗ reached ER (cell (pr c) (.dma (xrS k))) 0
        ∗ (iprop((∃ W', owes (c : Thread nD τ) (due c (S.erase (0, k))) W') ∗ cred (tallyAt (cell c (.dma (xsS k))) () N)) -∗ Q ⟨⟩))
      ⊢ wp frame (wpE (defs₀ (F := F)) Variants.none c none) Set.univ
          (Prog.lift (.enqueueDma
            ((Memref.whole main_v31 : Memref sig .tc .hbm S4608x2048 .bf16).slice (Rect.unit (s := S4608x2048) off S576x2048.size hi) hf)
            (.remote (Dev.tc d)
              ((Memref.whole cc1_scratch0 : Memref sig .tc .vmem S2304x2048 .bf16).slice (Rect.unit (s := S2304x2048) off' S576x2048.size hi') hf')
              (.dma ((cc1_scratch2.slice (Rect.unit (s := S4) off'' S1.size hi'')).squeeze S_ squeezes_S1_S_).sem) hsc)
            (.dma ((cc1_scratch3.slice (Rect.unit (s := S4) off'' S1.size hi'')).squeeze S_ squeezes_S1_S_).sem) h₁ h₂ h₃)
            : Prog (TpuEff nD τ sig (Elt F) Λ₀ .tc) _) Q :=
  step_send_x XE YE K c k S hk hd (by subst ho; rfl) (quarter_at (Memref.whole cc1_scratch0) k ho' hi')
    (sem_at cc1_scratch2 k ho'' hi'') (sem_at cc1_scratch3 k ho'' hi'')

/-- The first point: the handshake, the rows leave, and the first sum starts. -/
theorem run_A (h0 : t.val = 0) :
    Runs c t x0 x1 x2 iprop((∃ K, atStart XE YE K c) ∗ ∃ W, owes (c : Thread nD τ) (O₀ c) W) (midO XE YE c (t.val + 1) (t.val + 1)) none
      (k1_pay5 x1 x2 x0 k1_pay2) := by
  intro arg3 harg3 arg5 harg5 arg6 harg6 arg7 harg7 Q
  have p1 : k1_cond1 (grid1.coords t) = 1#1 := (cond1_iff t).mpr (by omega)
  have p2 : k1_cond2 (grid1.coords t) = 1#1 := (cond2_iff t).mpr (by omega)
  have n3 : ¬k1_cond3 (grid1.coords t) = 1#1 := fun h => by have := (cond3_iff t).mp h; omega
  have p4 : k1_cond4 (grid1.coords t) = 1#1 := (cond4_iff t).mpr (by omega)
  have n5 : ¬k1_cond5 (grid1.coords t) = 1#1 := fun h => by have := (cond5_iff t).mp h; omega
  have n6 : ¬k1_cond6 (grid1.coords t) = 1#1 := fun h => by have := (cond6_iff t).mp h; omega
  have n7 : ¬cond7 (grid1.coords t) := fun h => by have := (cond7_iff t).mp h; omega
  rw [cc1_body_eq_skeleton]; unfold cc1_body_skel
  rw [k1_part10_eq_skeleton]; unfold k1_part10_skel
  simp only [wp_bind, k1_part1_eq_skeleton, k1_part1_skel, k1_part2_eq_skeleton, k1_part2_skel, k1_part3_eq_skeleton, k1_part3_skel, dif_pos p1, dif_pos p2, dif_neg n3, dif_pos p4, dif_neg n5, dif_neg n6]
  unfold midO mid atStart
  rw [← rows_keep XE c (t := t.val) (by omega) (lt1 t), ← send_keep c (t := t.val) (by omega), ← left_keep t.val (by omega), h0]
  iintro ⟨⟨⟨%K, #HI, #HL, ⟨Hat, Hrb, Htb, Hcb⟩, Hpay, Hst, Hrows⟩, ⟨%W, HO⟩⟩, H3, H5, H6, ⟨%d, -, H7⟩, Hk⟩
  iapply (step_deviceId c)
  iapply (step_signal XE YE K c W (dev1_pr c _) rfl)
  iframe HI HO Htb Hpay Hrb
  iintro HO
  iapply (step_wait_bar XE YE K c W rfl)
  iframe HI HL Hcb HO Hat
  iintro ⟨HO, Hbar, Hpay⟩
  rw [wp_pure]
  imodintro
  unfold barPay
  ihave Hpay := (Entails.of_eq (bigSep_fin4 (fun k : Fin 4 => iprop((∃ f, xPts (pr c) k f) ∗ (∃ f, rPts (pr c) k f)
    ∗ reached ER (cell (pr c) (.dma (xrS k))) 0 ∗ reached ER (cell (pr c) (.dma (yrS k))) 0)))) $$ Hpay
  ihave Hst := (Entails.of_eq (bigSep_fin4 (startK XE c))) $$ Hst
  unfold startK
  icases Hpay with ⟨⟨D0, R0, G0, #Z0⟩, ⟨D1, R1, G1, #Z1⟩, ⟨D2, R2, G2, #Z2⟩, ⟨D3, R3, G3, #Z3⟩⟩
  icases Hst with ⟨S0, S1, S2, S3⟩
  icases S0 with ⟨⟨A0, B0, C0, E0⟩, T0, U0, V0, V0', W0, X0, Y0, #Y0'⟩
  icases S1 with ⟨⟨A1, B1, C1, E1⟩, T1, U1, V1, V1', W1, X1, Y1, #Y1'⟩
  icases S2 with ⟨⟨A2, B2, C2, E2⟩, T2, U2, V2, V2', W2, X2, Y2, #Y2'⟩
  icases S3 with ⟨⟨A3, B3, C3, E3⟩, T3, U3, V3, V3', W3, X3, Y3, #Y3'⟩
  iapply (step_rows XE YE c K 0 (Finset.univ) (by decide) (dev2_pr c _))
  iframe HI A0 D0 HO B0 C0 E0 G0
  iintro ⟨HO, A0⟩
  iapply (step_rows XE YE c K 1 ((Finset.univ).erase (0, 0)) (by decide) (dev3_pr c _))
  iframe HI A1 D1 HO B1 C1 E1 G1
  iintro ⟨HO, A1⟩
  rw [wp_pure]
  imodintro
  iapply (step_rows XE YE c K 2 (((Finset.univ).erase (0, 0)).erase (0, 1)) (by decide) (dev4_pr c _))
  iframe HI A2 D2 HO B2 C2 E2 G2
  iintro ⟨HO, A2⟩
  rw [wp_pure]
  imodintro
  iapply (step_rows XE YE c K 3 ((((Finset.univ).erase (0, 0)).erase (0, 1)).erase (0, 2)) (by decide) (dev5_pr c _))
  iframe HI A3 D3 HO B3 C3 E3 G3
  iintro ⟨HO, A3⟩
  iapply (load_owns c arg7 hz2 _ fullShare d)
  isplitl [H7]; · iexact H7
  iintro H7
  iapply (store_owns c arg7 hz2 _ _)
  isplitl [H7]; · iexists d; iexact H7
  iintro H7
  iapply (load_owns c arg5 hz3 _ fullShare x1)
  isplitl [H5]; · iexact H5
  iintro H5
  iapply (load_owns c arg6 hz3 _ fullShare x2)
  isplitl [H6]; · iexact H6
  iintro H6
  iapply (load_owns c arg3 hz2 _ fullShare x0)
  isplitl [H3]; · iexact H3
  iintro H3
  iapply (load_owns c arg7 hz2 _ fullShare k1_pay2)
  isplitl [H7]; · iexact H7
  iintro H7
  iapply (load_owns c arg7 hz2 _ fullShare k1_pay2)
  isplitl [H7]; · iexact H7
  iintro H7
  iapply (store_owns c arg7 hz2 _ _)
  isplitl [H7]; · iexists k1_pay2; iexact H7
  iintro H7
  rw [wp_pure]
  imodintro
  rw [dif_neg n7, wp_pure]
  imodintro
  iapply Hk
  isplitr [H3 H5 H6 H7]
  · iexists K
    isplitr [HO]
    · isplitr; · iexact HI
      isplitr; · iexact HL
      isplitr
      · unfold opened
        iapply (Entails.of_eq (bigSep_fin4 (fun k : Fin 4 => iprop(reached ER (cell c (.dma (ysS k))) 0 ∗ reached ER (cell (pr c) (.dma (yrS k))) 0))).symm)
        iframe Z0 Z1 Z2 Z3 Y0' Y1' Y2' Y3'
      isplitl [Hbar]; · iexact Hbar
      isplitr [Hrows R0 R1 R2 R3 W0 W1 W2 W3 X0 X1 X2 X3 Y0 Y1 Y2 Y3]
      · iapply (Entails.of_eq (bigSep_fin4 (baseK (F := F) c)).symm)
        unfold baseK
        iframe A0 T0 U0 V0 V0' A1 T1 U1 V1 V1' A2 T2 U2 V2 V2' A3 T3 U3 V3 V3'
      isplitl [Hrows]; · iexact Hrows
      iapply (send_start c)
      iframe W0 X0 Y0 R0 W1 X1 Y1 R1 W2 X2 Y2 R2 W3 X3 Y3 R3
    iapply (Entails.of_eq (congrArg (fun S => iprop(∃ W', owes (c : Thread nD τ) (due c S) W')) left_start))
    iexact HO
  iframe H3 H5 H6 H7

theorem held1_zero : held1 XE YE c 0 = iprop(∃ K, atStart XE YE K c) := if_pos rfl
theorem held1_mid {t : ℕ} (h : 0 < t) (h' : t < 64) : held1 XE YE c t = iprop(∃ K, mid XE YE K c t t) := (if_neg (by omega)).trans (if_pos h')
theorem held1_end : held1 XE YE c 64 = atEnd XE YE c := (if_neg (by decide)).trans (if_neg (by decide))

theorem midO_same {t : ℕ} (h : ¬(32 ≤ t ∧ t % 8 = 0)) (h' : ¬(32 ≤ t ∧ t % 8 = 7)) (ht : t < 64 := by omega) :
    midO XE YE c t t ⊢ midO XE YE c (t + 1) (t + 1) := by
  unfold midO mid
  rw [rows_keep XE c h ht, send_keep c h', left_keep t h']

theorem midO_of {t : ℕ} (h : 0 < t) (h' : t < 64) :
    iprop(held1 XE YE c t ∗ ∃ W, owes (c : Thread nD τ) (owed1 c t) W) ⊢ midO XE YE c t t := by
  rw [held1_mid XE YE c h h', owed1_pos c (by omega)]
  unfold midO
  iintro ⟨⟨%K, H⟩, HO⟩
  iexists K
  isplitl [H] <;> iassumption

theorem of_midO {t : ℕ} (h : 0 < t) (h' : t < 64) :
    midO XE YE c t t ⊢ iprop(held1 XE YE c t ∗ ∃ W, owes (c : Thread nD τ) (owed1 c t) W) := by
  rw [held1_mid XE YE c h h', owed1_pos c (by omega)]
  unfold midO
  iintro ⟨%K, H, HO⟩
  isplitl [H]; · iexists K; iexact H
  iexact HO

/-- A run between weaker states. -/
theorem Runs.mono {A A' B B' : sProp 𝕄} {a : Option (Vec F S576x2048 .f32)} {b : Vec F S576x2048 .f32}
    (h : Runs c t x0 x1 x2 A B a b) (hA : A' ⊢ A) (hB : B ⊢ B') : Runs c t x0 x1 x2 A' B' a b := by
  intro arg3 harg3 arg5 harg5 arg6 harg6 arg7 harg7 Q
  refine .trans ?_ (h arg3 harg3 arg5 harg5 arg6 harg6 arg7 harg7 Q)
  iintro ⟨HA, H3, H5, H6, H7, Hk⟩
  isplitl [HA]; · iapply hA; iexact HA
  iframe H3 H5 H6 H7
  iintro ⟨HB, H⟩
  iapply Hk
  isplitl [HB]; · iapply hB; iexact HB
  iexact H

/-- One run of the body at any point. -/
theorem run1 (hw : 32 ≤ t.val → t.val % 8 = 7 →
      k1_pay1 (next1 XE c t.val x0 x1 x2 a) = (yM (jj t.val)).view.read (Elt F) (YE c)) :
    Runs c t x0 x1 x2 iprop(held1 XE YE c t.val ∗ ∃ W, owes (c : Thread nD τ) (owed1 c t.val) W)
      iprop(held1 XE YE c (t.val + 1) ∗ ∃ W, owes (c : Thread nD τ) (owed1 c (t.val + 1)) W)
      (if t.val % 8 = 0 then none else some a) (next1 XE c t.val x0 x1 x2 (if t.val % 8 = 0 then k1_pay2 else a)) := by
  have ht := lt1 t
  unfold next1 at hw ⊢
  by_cases h32 : t.val < 32
  · rw [if_pos h32]
    by_cases hm : t.val % 8 = 0
    · rw [if_pos hm, if_pos hm]
      by_cases h0 : t.val = 0
      · refine (run_A XE YE c t x0 x1 x2 h0).mono c t x0 x1 x2 ?_ (of_midO XE YE c (by omega) (by omega))
        rw [h0, held1_zero, owed1_zero]
      · exact (run_B c t x0 x1 x2 h32 (by omega) hm _).mono c t x0 x1 x2 (midO_of XE YE c (by omega) ht)
          ((midO_same XE YE c (by omega) (by omega)).trans (of_midO XE YE c (by omega) (by omega)))
    · rw [if_neg hm, if_neg hm]
      exact (run_C c t x0 x1 x2 a h32 hm _).mono c t x0 x1 x2 (midO_of XE YE c (by omega) ht)
          ((midO_same XE YE c (by omega) (by omega)).trans (of_midO XE YE c (by omega) (by omega)))
  · rw [if_neg h32] at hw ⊢
    have h32' : 32 ≤ t.val := by omega
    by_cases hm : t.val % 8 = 0
    · rw [if_pos hm, if_pos hm]
      exact (run_D XE YE c t x0 x1 x2 h32' hm).mono c t x0 x1 x2 (midO_of XE YE c (by omega) ht) (of_midO XE YE c (by omega) (by omega))
    · rw [if_neg hm, if_neg hm]
      by_cases h7 : t.val % 8 = 7
      · refine (run_F XE YE c t x0 x1 x2 a h32' h7 (hw h32' h7)).mono c t x0 x1 x2 (midO_of XE YE c (by omega) ht) ?_
        unfold after7
        by_cases h63 : t.val = 63
        · rw [if_pos h63, h63, held1_end, owed1_pos c (by decide)]
        · rw [if_neg h63]; exact of_midO XE YE c (by omega) (by omega)
      · exact (run_E XE YE c t x0 x1 x2 a h32' hm h7).mono c t x0 x1 x2 (midO_of XE YE c (by omega) ht) (of_midO XE YE c (by omega) (by omega))

end Body

end Cert.KernelIdeal.Moe

end
-- ==== Proof.Middle.lean ====
/- The middle call: its proof data, its body's obligation, and what it leaves. -/
module

public import proofs.«01_k».proof.Proof.Body
public import proofs.«01_k».proof.Proof.Base

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Data

variable (V : Dev nD → Valuation τ sig (Elt F))

/-- Window `w`'s block at point `t`, of the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The routed rows of each device. -/
def XE (d : Dev nD) : S4608x2048.Idx → Elt F .bf16 := V d (Proc.devRef .tc main_v31)

/-- What point `n` leaves on top of `acc`. -/
def step1 (c : Dev nD) (n : ℕ) (h : n < cfg1.N) (acc : Vec F S576x2048 .f32) : Vec F S576x2048 .f32 :=
  next1 (XE V) c n (iblk1 V c 0 ⟨n, h⟩) (iblk1 V c 1 ⟨n, h⟩) (iblk1 V c 2 ⟨n, h⟩) acc

/-- The sum after point `n`. -/
def acc1 (c : Dev nD) (n : ℕ) (h : n < cfg1.N) : Vec F S576x2048 .f32 :=
  accum 8 (fun n h => step1 V c n h (k1_pay2 (F := F))) (step1 V c) n h

theorem acc1_congr (c : Dev nD) {n n' : ℕ} (e : n = n') (h h') : acc1 V c n h = acc1 V c n' h' := by subst e; rfl

/-- The place in its block of a row of an array cut into blocks of 576 rows. -/
def within {a : Shape} (h0 : a.rank = 2) (i : a.Idx) (r : Fin 2048) (x : ℕ) : S576x2048.Idx := fun d => match d with
  | ⟨0, _⟩ => ⟨x % 576, Nat.mod_lt _ (by decide)⟩
  | ⟨1, _⟩ => r

/-- The answers for the partner's rows: block `b` is what point `8 b + 39` leaves, narrowed. -/
def YE (d : Dev nD) : S2304x2048.Idx → Elt F .bf16 := fun i =>
  k1_pay1 (acc1 V d (32 + 8 * ((i 0).val / 576) + 7) (by have h : (i 0).val < 2304 := (i 0).isLt; have := N_1; show _ < grid1.N; omega))
    (fun a => match a with
      | ⟨0, _⟩ => ⟨(i 0).val % 576, Nat.mod_lt _ (by decide)⟩
      | ⟨1, _⟩ => i 1)

/-- The sums, block by block. -/
def out32 (c : Dev nD) : S4608x2048.Idx → Elt F .f32 := fun i =>
  acc1 V c (8 * ((i 0).val / 576) + 7) (by have h : (i 0).val < 4608 := (i 0).isLt; have := N_1; show _ < grid1.N; omega)
    (fun a => match a with
      | ⟨0, _⟩ => ⟨(i 0).val % 576, Nat.mod_lt _ (by decide)⟩
      | ⟨1, _⟩ => i 1)

/-- A buffer of the core, whole, at some contents. -/
abbrev any (c : Dev nD) (b : Ref sig .tc) : sProp 𝕄 := iprop(∃ f : Buf (Elt F) ((c : Thread nD τ).loc b), ((c : Thread nD τ).loc b) ↦{fullShare} f)

/-- The scoped buffers of the other calls. -/
def rest1 (c : Dev nD) : sProp 𝕄 := iprop(any c cc0_stg0_0 ∗ any c cc0_stg0_1 ∗ any c cc0_stg1_0 ∗ any c cc0_stg1_1 ∗ any c cc0_stg2_0 ∗ any c cc0_stg2_1 ∗ any c cc2_stg0_0 ∗ any c cc2_stg0_1 ∗ any c cc2_stg1_0 ∗ any c cc2_stg1_1 ∗ any c cc2_stg2_0 ∗ any c cc2_stg2_1 ∗ any c cc2_stg3_0 ∗ any c cc2_stg3_1 ∗ any c cc2_stg4_0 ∗ any c cc2_stg4_1)

/-- The call's proof data. -/
def dat1 (c : Dev nD) : Dat τ (Elt F) Unit ℕ UU ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => acc1 V c t.val t.isLt
  Φ t := iprop(held1 (XE V) (YE V) c t.val ∗ rest1 c ∗ ∃ r, prngReg c r)
  q w := if w = 0 then fullShare.right else fullShare
  owed t := owed1 c t.val

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A1_eq]) t d).trans (by unfold Dat.fetched Dat.blockOf iblk1; rw [A1_eq]; rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A1_eq]) t d).trans (by unfold Dat.fetched Dat.blockOf iblk1; rw [A1_eq]; rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A1_eq]) t d).trans (by unfold Dat.fetched Dat.blockOf iblk1; rw [A1_eq]; rfl)
theorem live1_3 : ∀ i : grid1.Coords, idle1 3 i = false := by decide +kernel
theorem before1_3 (c : Dev nD) (t : Fin cfg1.N) (h0 : ¬t.val % 8 = 0) (d) :
    (dat1 V c).before 3 t d = acc1 V c (t.val - 1) (Nat.lt_of_le_of_lt (Nat.sub_le _ _) t.isLt) := by
  have hN : t.val < 64 := lt_of_lt_of_eq t.isLt N_1
  rw [(dat1 V c).before_out_kept 3 rfl t (by omega) (Bool.eq_false_iff.mpr fun h => by have := (flush1_3 _).mp h; dsimp only at this; omega)
    (by intro i; change idle1 (3 : Fin 4) i = false; exact live1_3 i) (fun _ _ => rfl)]
  dsimp only [dat1]

theorem answer_of_sum (c : Dev nD) (t : Fin cfg1.N) (h : 32 ≤ t.val) (hm : t.val % 8 = 7) :
    k1_pay1 (acc1 V c t.val t.isLt) = (yM (jj t.val)).view.read (Elt F) (YE V c) := by
  have hN : t.val < 64 := lt_of_lt_of_eq t.isLt N_1
  funext y
  have hy0 : (y 0).val < 576 := (y 0).isLt
  have hj : (jj t.val).val = t.val / 8 % 4 := rfl
  have hb0 : ((yM (jj t.val)).view.emb y 0).val = 576 * (jj t.val).val + 1 * (y 0).val := rfl
  have hb1 : ((yM (jj t.val)).view.emb y 1).val = 0 + 1 * (y 1).val := rfl
  show _ = YE V c ((yM (jj t.val)).view.emb y)
  unfold YE
  rw [acc1_congr V c (n := 32 + 8 * (((yM (jj t.val)).view.emb y 0).val / 576) + 7) (n' := t.val) (by rw [hb0]; omega) _ t.isLt]
  refine congrArg _ (funext fun a => Fin.ext ?_)
  match a with
  | ⟨0, _⟩ => show (y 0).val = ((yM (jj t.val)).view.emb y 0).val % 576; rw [hb0]; omega
  | ⟨1, _⟩ => show (y 1).val = ((yM (jj t.val)).view.emb y 1).val; rw [hb1]; omega

theorem acc1_eq (c : Dev nD) (t : Fin cfg1.N) (a : Vec F S576x2048 .f32)
    (ha : ¬t.val % 8 = 0 → a = acc1 V c (t.val - 1) (Nat.lt_of_le_of_lt (Nat.sub_le _ _) t.isLt)) :
    acc1 V c t.val t.isLt = next1 (XE V) c t.val (iblk1 V c 0 t) (iblk1 V c 1 t) (iblk1 V c 2 t) (if t.val % 8 = 0 then k1_pay2 else a) := by
  by_cases h0 : t.val % 8 = 0
  · rw [if_pos h0]; exact accum_reset 8 _ _ t.val t.isLt h0
  · rw [if_neg h0, ha h0]; exact accum_step' 8 _ _ t.val t.isLt h0

theorem owes_elim (c : Dev nD) (t : Fin (cfg1.N + 1)) :
    (dat1 V c).owesAt () t ⊢ iprop(∃ W, owes (c : Thread nD τ) (owed1 c t.val) W) := by
  unfold Dat.owesAt Pipeline.owesWithin
  iintro ⟨%W, -, HO⟩
  iexists W
  iexact HO

theorem owes_intro (c : Dev nD) (t : Fin (cfg1.N + 1)) :
    iprop(∃ W, owes (c : Thread nD τ) (owed1 c t.val) W) ⊢ (dat1 V c).owesAt () t := by
  unfold Dat.owesAt Pipeline.owesWithin Dat.bound
  iintro ⟨%W, HO⟩
  iexists W; isplitr; · ipureintro; exact fun _ _ => Or.inl trivial
  iexact HO

set_option maxHeartbeats 800000 in
/-- The body's obligation at every point. -/
theorem body1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc],
    after1_0, after1_1, after1_2, after1_3]
  simp only [before1_0, before1_1, before1_2]
  have el : idle1 (3 : Fin 4) (grid1.coords t) = false := live1_3 _
  simp only [el]
  have key : ∀ a : Vec F S576x2048 .f32, (¬t.val % 8 = 0 → a = acc1 V c (t.val - 1) (Nat.lt_of_le_of_lt (Nat.sub_le _ _) t.isLt)) →
      iprop((dat1 V c).Φ t.castSucc ∗ (dat1 V c).owesAt () t.castSucc
        ∗ owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ owns (c : Thread nD τ) (st1_3 t) fullShare a)
      ⊢ wp frame (wpE (defs₀ (F := F)) Variants.none c none) Set.univ (bodyAt1 t) (fun _ => iprop((dat1 V c).Φ t.succ ∗ (dat1 V c).owesAt () t.succ
        ∗ owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ owns (c : Thread nD τ) (st1_3 t) fullShare (acc1 V c t.val t.isLt))) := by
    intro a ha
    have hacc := acc1_eq V c t a ha
    have hr := run1 (XE V) (YE V) c t (iblk1 V c 0 t) (iblk1 V c 1 t) (iblk1 V c 2 t) a (fun h h7 => by
      rw [← answer_of_sum V c t h h7, hacc, if_neg (by omega)])
    rw [← hacc] at hr
    refine .trans ?_ (hr _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _)
    rw [show (dat1 V c).Φ t.castSucc = iprop(held1 (XE V) (YE V) c t.val ∗ rest1 c ∗ ∃ r, prngReg c r) from rfl,
      show (dat1 V c).Φ t.succ = iprop(held1 (XE V) (YE V) c (t.val + 1) ∗ rest1 c ∗ ∃ r, prngReg c r) from rfl]
    iintro ⟨⟨Hh, Hr, Hp⟩, HO, H0, H1, H2, H3⟩
    ihave HO := (owes_elim V c t.castSucc) $$ HO
    isplitl [Hh HO]
    · isplitl [Hh]; · iexact Hh
      iexact HO
    isplitl [H0]; · iexact H0
    isplitl [H1]; · iexact H1
    isplitl [H2]; · iexact H2
    isplitl [H3]
    · iexists a; isplitr
      · ipureintro; intro v hv
        by_cases h0 : t.val % 8 = 0
        · rw [if_pos h0] at hv; exact absurd hv (by simp)
        · rw [if_neg h0] at hv; exact Option.some.inj hv
      iexact H3
    iintro ⟨⟨Hh, HO⟩, H0, H1, H2, H3⟩
    isplitl [Hh Hr Hp]
    · isplitl [Hh]; · iexact Hh
      isplitl [Hr]; · iexact Hr
      iexact Hp
    isplitl [HO]; · iapply (owes_intro V c t.succ); iexact HO
    isplitl [H0]; · iexact H0
    isplitl [H1]; · iexact H1
    isplitl [H2]; · iexact H2
    iexact H3
  by_cases h0 : t.val % 8 = 0
  · iintro ⟨HΦ, Ho, ⟨%d0, H0⟩, ⟨%d1, H1⟩, ⟨%d2, H2⟩, ⟨%d3, H3⟩⟩
    iapply (key _ (fun h => absurd h0 h))
    isplitl [HΦ]; · iexact HΦ
    isplitl [Ho]; · iexact Ho
    isplitl [H0]; · iexact H0
    isplitl [H1]; · iexact H1
    isplitl [H2]; · iexact H2
    iexact H3
  · simp only [before1_3 V c t h0]
    iintro ⟨HΦ, Ho, ⟨%d0, H0⟩, ⟨%d1, H1⟩, ⟨%d2, H2⟩, ⟨%d3, H3⟩⟩
    iapply (key _ (fun _ => rfl))
    isplitl [HΦ]; · iexact HΦ
    isplitl [Ho]; · iexact Ho
    isplitl [H0]; · iexact H0
    isplitl [H1]; · iexact H1
    isplitl [H2]; · iexact H2
    iexact H3

/-! ## What the call leaves -/

theorem index1_3 (t : Fin grid1.N) : win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0) t

theorem mem_blk1_3 (t : Fin cfg1.N) (i : S4608x2048.Idx) :
    i ∈ ((cfg1.win 3).blk t).view.set ↔ ∀ a : Fin 2, win1_3.index t a * S576x2048.size a ≤ (i a).val
      ∧ (i a).val < win1_3.index t a * S576x2048.size a + S576x2048.size a := by
  show i ∈ ((View.whole main_v32_0).slice (win1_3.rect t)).set ↔ _
  rw [View.set_slice_whole, Rect.mem_set_unit]
  exact Iff.rfl

theorem final1 (c : Dev nD) : (dat1 V c).arrAt 3 cfg1.N = out32 V c := by
  refine (dat1 V c).arrAt_eq_of_cover 3 _ (fun t hf => ?_) (fun i => ?_)
  · show (cfg1.win 3).cut (grid1.coords t) ((dat1 V c).after 3 t) = _
    rw [after1_3]
    have hm : t.val % 8 = 7 := (flush1_3 t).mp hf
    obtain ⟨e0, e1⟩ := index1_3 t
    funext y
    have hy0 : (y 0).val < 576 := (y 0).isLt
    have hb0 : (((cfg1.win 3).blk t).view.emb y 0).val = win1_3.index t (0 : Fin 2) * 576 + 1 * (y 0).val := rfl
    have hb1 : (((cfg1.win 3).blk t).view.emb y 1).val = win1_3.index t (1 : Fin 2) * 2048 + 1 * (y 1).val := rfl
    show acc1 V c t.val t.isLt ((cfg1.win 3).xinj (grid1.coords t) y) = out32 V c (((cfg1.win 3).blk t).view.emb y)
    unfold out32
    rw [acc1_congr V c (n := t.val) (n' := 8 * ((((cfg1.win 3).blk t).view.emb y 0).val / 576) + 7) (by rw [hb0]; omega)]
    refine congrArg _ (funext fun a => Fin.ext ?_)
    match a with
    | ⟨0, _⟩ => show (y 0).val = (((cfg1.win 3).blk t).view.emb y 0).val % 576; rw [hb0]; omega
    | ⟨1, _⟩ => show (y 1).val = (((cfg1.win 3).blk t).view.emb y 1).val; rw [hb1]; omega
  · have hi0 : (i 0).val < 4608 := (i 0).isLt
    have hi1 : (i 1).val < 2048 := (i 1).isLt
    have hN := N_1
    obtain ⟨t, ht⟩ : ∃ t : Fin cfg1.N, t.val = 8 * ((i 0).val / 576) + 7 := ⟨⟨_, by show _ < grid1.N; omega⟩, rfl⟩
    refine ⟨t, (flush1_3 t).mpr (by omega), (mem_blk1_3 t i).mpr fun a => ?_⟩
    obtain ⟨e0, e1⟩ := index1_3 t
    match a with
    | ⟨0, _⟩ => show win1_3.index t (0 : Fin 2) * 576 ≤ (i 0).val ∧ (i 0).val < win1_3.index t (0 : Fin 2) * 576 + 576; omega
    | ⟨1, _⟩ => show win1_3.index t (1 : Fin 2) * 2048 ≤ (i 1).val ∧ (i 1).val < win1_3.index t (1 : Fin 2) * 2048 + 2048; omega

end Data

end Cert.KernelIdeal.Moe

end
-- ==== Proof.Pieces.lean ====
/- The buffers of the middle call, whole and quarter by quarter. -/
module

public import proofs.«01_k».proof.Proof.Middle
public import Idealize.ShloMosaic.Lib.Ring

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Quarters of the buffers -/

def qlo (k : Fin 4) : Finset S2304x2048.Idx := (Rect.unit (s := S2304x2048) ![576 * k.val, 0] S576x2048.size (inb_lo k)).set
def qhi (k : Fin 4) : Finset S4608x2048.Idx := (Rect.unit (s := S4608x2048) ![576 * k.val + 2304, 0] S576x2048.size (inb_hi k)).set

theorem mem_qlo (k : Fin 4) (i : S2304x2048.Idx) : i ∈ qlo k ↔ 576 * k.val ≤ (i 0).val ∧ (i 0).val < 576 * k.val + 576 := by
  unfold qlo
  rw [Rect.mem_set_unit]
  have h1 : (i 1).val < 2048 := (i 1).isLt
  constructor
  · intro h; exact h 0
  · intro h a
    match a with
    | ⟨0, _⟩ => exact h
    | ⟨1, _⟩ => show 0 ≤ (i 1).val ∧ (i 1).val < 0 + 2048; omega

theorem mem_qhi (k : Fin 4) (i : S4608x2048.Idx) : i ∈ qhi k ↔ 576 * k.val + 2304 ≤ (i 0).val ∧ (i 0).val < 576 * k.val + 2304 + 576 := by
  unfold qhi
  rw [Rect.mem_set_unit]
  have h1 : (i 1).val < 2048 := (i 1).isLt
  constructor
  · intro h; exact h 0
  · intro h a
    match a with
    | ⟨0, _⟩ => exact h
    | ⟨1, _⟩ => show 0 ≤ (i 1).val ∧ (i 1).val < 0 + 2048; omega

theorem qlo_disj (b b' : Fin 4) (h : b ≠ b') : Disjoint (qlo b) (qlo b') := by
  rw [Finset.disjoint_left]
  intro i h1 h2
  rw [mem_qlo] at h1 h2
  exact h (Fin.ext (by omega))
theorem qhi_disj (b b' : Fin 4) (h : b ≠ b') : Disjoint (qhi b) (qhi b') := by
  rw [Finset.disjoint_left]
  intro i h1 h2
  rw [mem_qhi] at h1 h2
  exact h (Fin.ext (by omega))
theorem qlo_cover : Finset.univ.biUnion qlo = Finset.univ := by
  refine Finset.eq_univ_of_forall fun i => ?_
  have h0 : (i 0).val < 2304 := (i 0).isLt
  exact Finset.mem_biUnion.mpr ⟨⟨(i 0).val / 576, by omega⟩, Finset.mem_univ _, (mem_qlo _ _).mpr (by dsimp only; omega)⟩

def hi : Finset S4608x2048.Idx := Finset.univ.biUnion qhi

theorem xM_set (k : Fin 4) : (xM k).view.set = qlo k := View.set_slice_whole _ _
theorem yM_set (k : Fin 4) : (yM k).view.set = qlo k := View.set_slice_whole _ _
theorem rM_set (k : Fin 4) : (rM k).view.set = qlo k := View.set_slice_whole _ _
theorem srcM_set (k : Fin 4) : (srcM k).view.set = qhi k := View.set_slice_whole _ _

section Split

variable (c : Dev nD)

theorem x_split (f : S2304x2048.Idx → Elt F .bf16) :
    (((c : Thread nD τ).loc cc1_scratch0) ↦{fullShare} f : sProp 𝕄) = bigSep Finset.univ fun k : Fin 4 => xPts c k f := by
  rw [Ring.pointsTo_blocks (ℓ := (c : Thread nD τ).loc cc1_scratch0) qlo qlo_disj qlo_cover]
  exact bigSep_congr fun k _ => by rw [← xM_set k]
theorem y_split (f : S2304x2048.Idx → Elt F .bf16) :
    (((c : Thread nD τ).loc cc1_scratch1) ↦{fullShare} f : sProp 𝕄) = bigSep Finset.univ fun k : Fin 4 => yPts c k f := by
  rw [Ring.pointsTo_blocks (ℓ := (c : Thread nD τ).loc cc1_scratch1) qlo qlo_disj qlo_cover]
  exact bigSep_congr fun k _ => by rw [← yM_set k]
theorem r_split (f : S2304x2048.Idx → Elt F .bf16) :
    (((c : Thread nD τ).loc main_v32_1) ↦{fullShare} f : sProp 𝕄) = bigSep Finset.univ fun k : Fin 4 => rPts c k f := by
  rw [Ring.pointsTo_blocks (ℓ := (c : Thread nD τ).loc main_v32_1) qlo qlo_disj qlo_cover]
  exact bigSep_congr fun k _ => by rw [← rM_set k]
theorem src_split (q : PosShare TreeShare) (f : S4608x2048.Idx → Elt F .bf16) :
    (((c : Thread nD τ).loc main_v31) ↦{q} f : sProp 𝕄)
      = iprop((bigSep Finset.univ fun k : Fin 4 => srcPts c k q f) ∗ (((c : Thread nD τ).loc main_v31) ↦[Finset.univ \ hi]{q} f)) := by
  have e : (((c : Thread nD τ).loc main_v31) ↦{q} f : sProp 𝕄) = iprop((((c : Thread nD τ).loc main_v31) ↦[hi]{q} f) ∗ (((c : Thread nD τ).loc main_v31) ↦[Finset.univ \ hi]{q} f)) :=
    BI.Entails.antisymm (pointsTo_split_subset (Finset.subset_univ hi)).1 (pointsTo_split_subset (Finset.subset_univ hi)).2
  rw [e, Ring.pointsTo_sub_blocks (ℓ := (c : Thread nD τ).loc main_v31) qhi qhi_disj hi rfl]
  exact congrArg (fun a : sProp 𝕄 => iprop(a ∗ (((c : Thread nD τ).loc main_v31) ↦[Finset.univ \ hi]{q} f)))
    (bigSep_congr fun k _ => by rw [← srcM_set k])

theorem x_join (f₀ : S2304x2048.Idx → Elt F .bf16) :
    (bigSep Finset.univ fun k : Fin 4 => iprop(∃ f, xPts c k f)) ⊢ (any c cc1_scratch0 : sProp 𝕄) := by
  refine .trans ?_ (Ring.pointsTo_blocks_join_exists (ℓ := (c : Thread nD τ).loc cc1_scratch0) qlo qlo_disj qlo_cover f₀)
  exact Entails.of_eq (bigSep_congr fun k _ => by rw [← xM_set k]; rfl)
theorem y_join (f₀ : S2304x2048.Idx → Elt F .bf16) :
    (bigSep Finset.univ fun k : Fin 4 => iprop(∃ f, yPts c k f)) ⊢ (any c cc1_scratch1 : sProp 𝕄) := by
  refine .trans ?_ (Ring.pointsTo_blocks_join_exists (ℓ := (c : Thread nD τ).loc cc1_scratch1) qlo qlo_disj qlo_cover f₀)
  exact Entails.of_eq (bigSep_congr fun k _ => by rw [← yM_set k]; rfl)

theorem halves (f : S4608x2048.Idx → Elt F .bf16) :
    (((c : Thread nD τ).loc main_v31) ↦{fullShare} f : sProp 𝕄)
      = iprop((((c : Thread nD τ).loc main_v31) ↦{half} f) ∗ ((c : Thread nD τ).loc main_v31) ↦{fullShare.right} f) :=
  BI.Entails.antisymm (pointsTo_share (PosShare.mem_left_op_right fullShare)).1 (pointsTo_share (PosShare.mem_left_op_right fullShare)).2

/-! ## The arrays the call uses, among the buffers -/

/-- The arrays the middle call reads and writes. -/
def five : Finset (DevRef τ sig) :=
  {Proc.devRef .tc main_v31, Proc.devRef .tc main_arg2, Proc.devRef .tc main_arg3, Proc.devRef .tc main_v32_0, Proc.devRef .tc main_v32_1}

theorem five_sub : five ⊆ Pipeline.ucRefs τ sig := by
  intro b hb
  unfold five at hb
  simp only [Finset.mem_insert, Finset.mem_singleton] at hb
  rcases hb with rfl | rfl | rfl | rfl | rfl <;> exact Finset.mem_filter.mpr ⟨StableHlo.devRef_mem_tcRefs _, by decide⟩

theorem held_five (W : Valuation τ sig (Elt F)) :
    (StableHlo.held (c : Thread nD τ) five W : sProp 𝕄)
      = iprop((((c : Thread nD τ).loc main_v31) ↦{fullShare} W (Proc.devRef .tc main_v31)) ∗ (((c : Thread nD τ).loc main_arg2) ↦{fullShare} W (Proc.devRef .tc main_arg2))
        ∗ (((c : Thread nD τ).loc main_arg3) ↦{fullShare} W (Proc.devRef .tc main_arg3)) ∗ (((c : Thread nD τ).loc main_v32_0) ↦{fullShare} W (Proc.devRef .tc main_v32_0))
        ∗ (((c : Thread nD τ).loc main_v32_1) ↦{fullShare} W (Proc.devRef .tc main_v32_1))) := by
  unfold StableHlo.held five
  rw [bigSep_insert (by decide), bigSep_insert (by decide), bigSep_insert (by decide), bigSep_insert (by decide), bigSep_singleton]
  rfl

theorem arrays1 (V : Dev nD → Valuation τ sig (Elt F)) (G : (w : Fin cfg1.W) → Buf (Elt F) ((cfg1.win w).arr.view.loc (c : Thread nD τ))) :
    (dat1 V c).arrays G
      = iprop((((c : Thread nD τ).loc main_v31) ↦{fullShare.right} G 0) ∗ (((c : Thread nD τ).loc main_arg2) ↦{fullShare} G 1)
        ∗ (((c : Thread nD τ).loc main_arg3) ↦{fullShare} G 2) ∗ (((c : Thread nD τ).loc main_v32_0) ↦{fullShare} G 3)) := by
  unfold Dat.arrays
  rw [bigSep_W1, show (dat1 V c).share 0 = fullShare.right from rfl, show (dat1 V c).share 1 = fullShare from rfl,
    show (dat1 V c).share 2 = fullShare from rfl, show (dat1 V c).share 3 = fullShare from rfl]
  have h (w : Fin cfg1.W) : (cfg1.win w).arr.view.set = Finset.univ := (arr_whole1 w).set_eq_univ
  rw [h 0, h 1, h 2, h 3]

theorem ownSems1_eq : (Pipeline.ownSems0 osem1 c : sProp 𝕄)
    = bigSep Finset.univ fun k : Fin 4 => iprop(semVal (cell c (.dma (xsS k))) 0 ∗ semVal (cell c (.dma (xrS k))) 0
      ∗ semVal (cell c (.dma (ysS k))) 0 ∗ semVal (cell c (.dma (yrS k))) 0) := by
  unfold Pipeline.ownSems0
  rw [bigSep_univ_prod, bigSep_fin4, bigSep_sep', bigSep_sep', bigSep_sep']
  rfl

end Split

end Cert.KernelIdeal.Moe

end
-- ==== Proof.Route.lean ====
/- The first call: each block of the routed rows is accumulated over the eight tiles of tokens. The body's triple, the proof data, and
   what the call leaves in its result. -/
module

public import proofs.«01_k».proof.Proof.Base

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The body's test for the first tile of tokens. -/
abbrev first0 (i : grid0.Coords) : Prop := (Scalar.cmpi .ne (Scalar.extui (Scalar.cmpi .eq (BitVec.ofNat 32 (i 1).val) 0#32)) 0#32) = 1#1

theorem first0_iff (t : Fin grid0.N) : first0 (grid0.coords t) ↔ t.val % 8 = 0 := by
  have ht : t.val < 32 := Nat.lt_of_lt_of_eq t.isLt N_0
  have e1 : (grid0.coords t 1).val = t.val / 1 % 8 := Pipeline.Grid.coords_val t 1 (by decide) rfl
  simp only [first0, e1]
  word_cmp

set_option maxHeartbeats 1000000 in
/-- At the first tile the body leaves the product added to zero. -/
theorem run0_first (c : Dev nD) (i : grid0.Coords) (arg2 : Memref sig .tc .vmem S1152x1 .i32) (harg2 : arg2.IsWhole)
    (arg3 : Memref sig .tc .vmem S512x2048 .f32) (harg3 : arg3.IsWhole) (arg4 : Memref sig .tc .vmem S1152x2048 .bf16) (harg4 : arg4.IsWhole)
    (hc : first0 i) (x0 : Vec F S1152x1 .i32) (x1 : Vec F S512x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay2 i x0 (k0_pay1 (F := F)) x1)) -∗ K ⟨⟩))
      ⊢ wp frame (wpE (defs₀ (F := F)) Variants.none c none) E (cc0_body i arg2 harg2 arg3 harg3 arg4 harg4) K := by
  simp only [cc0_body_eq_skeleton]; unfold cc0_body_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (View.cover_of_tiledL _ S1152x2048.size (by sl_kernel_rfl)),
    View.canon_cons_unit_zero (S := S1152x2048) hz2]
  sl_unfold_words
  rw [View.readCov_unit_zero (S := S1152x2048) _ hz2]
  simp only [View.readAt_eq_ld, harg2.read_unread, harg3.read_unread, View.ld_unit_zero (S := S1152x1) hz2,
    View.ld_unit_zero (S := S1152x2048) hz2, View.ld_unit_zero (S := S512x2048) hz2, shapeCast_self]

set_option maxHeartbeats 1000000 in
/-- At a later tile it adds the product to what the tile before left. -/
theorem run0_later (c : Dev nD) (i : grid0.Coords) (arg2 : Memref sig .tc .vmem S1152x1 .i32) (harg2 : arg2.IsWhole)
    (arg3 : Memref sig .tc .vmem S512x2048 .f32) (harg3 : arg3.IsWhole) (arg4 : Memref sig .tc .vmem S1152x2048 .bf16) (harg4 : arg4.IsWhole)
    (hc : ¬first0 i) (x0 : Vec F S1152x1 .i32) (x1 : Vec F S512x2048 .f32) (x2 : Vec F S1152x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (iprop(owns (c : Thread nD τ) arg2 fullShare x0 ∗ owns (c : Thread nD τ) arg3 fullShare x1
            ∗ owns (c : Thread nD τ) arg4 fullShare (k0_pay2 i x0 x2 x1)) -∗ K ⟨⟩))
      ⊢ wp frame (wpE (defs₀ (F := F)) Variants.none c none) E (cc0_body i arg2 harg2 arg3 harg3 arg4 harg4) K := by
  simp only [cc0_body_eq_skeleton]; unfold cc0_body_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (View.cover_of_tiledL _ S1152x2048.size (by sl_kernel_rfl)), View.canon_unit_zero hz2]
  simp only [View.readAt_eq_ld, harg2.read_unread, harg3.read_unread, harg4.read_unread, View.ld_unit_zero (S := S1152x1) hz2,
    View.ld_unit_zero (S := S1152x2048) hz2, View.ld_unit_zero (S := S512x2048) hz2, shapeCast_self]

/-! ## The proof data -/

section Data

variable (V : Dev nD → Valuation τ sig (Elt F))

/-- Window `w`'s block at point `t`, of the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What point `n` leaves on top of `acc`. -/
def step0 (c : Dev nD) (n : ℕ) (h : n < cfg0.N) (acc : Vec F S1152x2048 .bf16) : Vec F S1152x2048 .bf16 :=
  k0_pay2 (grid0.coords ⟨n, h⟩) (iblk0 V c 0 ⟨n, h⟩) acc (iblk0 V c 1 ⟨n, h⟩)

/-- The result's staging buffer after point `n`. -/
def acc0 (c : Dev nD) (n : ℕ) (h : n < cfg0.N) : Vec F S1152x2048 .bf16 :=
  accum 8 (fun n h => step0 V c n h (k0_pay1 (F := F))) (step0 V c) n h

/-- The call's proof data, beside any dues `D`. -/
def dat0 (D : Dev nD → CellTallies nD τ sig Unit) (c : Dev nD) : Dat τ (Elt F) Unit ℕ UU ℕ cfg0 c where
  A w := V c (Proc.devRef .tc (Pipeline.arrRef spec0 w))
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := D c

variable (D : Dev nD → CellTallies nD τ sig Unit)

theorem A0_eq (c : Dev nD) (w : Fin cfg0.W) : (dat0 V D c).A w = V c (Proc.devRef .tc (Pipeline.arrRef spec0 w)) := by dsimp only [dat0]
theorem after0_0 (c : Dev nD) (t : Fin cfg0.N) : (dat0 V D c).after 0 t = iblk0 V c 0 t := by dsimp only [dat0]
theorem after0_1 (c : Dev nD) (t : Fin cfg0.N) : (dat0 V D c).after 1 t = iblk0 V c 1 t := by dsimp only [dat0]
theorem after0_2 (c : Dev nD) (t : Fin cfg0.N) : (dat0 V D c).after 2 t = acc0 V c t.val t.isLt := by dsimp only [dat0]

theorem before0_0 (c : Dev nD) (t : Fin cfg0.N) (d) : (dat0 V D c).before 0 t d = iblk0 V c 0 t :=
  ((dat0 V D c).before_in_eq_fetched 0 rfl (fun _ => rfl) (fun _ _ _ => rfl)
    (fun t => by rw [after0_0]; unfold Dat.blockOf iblk0; rw [A0_eq]) t d).trans (by unfold Dat.fetched Dat.blockOf iblk0; rw [A0_eq]; rfl)
theorem before0_1 (c : Dev nD) (t : Fin cfg0.N) (d) : (dat0 V D c).before 1 t d = iblk0 V c 1 t :=
  ((dat0 V D c).before_in_eq_fetched 1 rfl (fun _ => rfl) (fun _ _ _ => rfl)
    (fun t => by rw [after0_1]; unfold Dat.blockOf iblk0; rw [A0_eq]) t d).trans (by unfold Dat.fetched Dat.blockOf iblk0; rw [A0_eq]; rfl)
theorem before0_2 (c : Dev nD) (t : Fin cfg0.N) (h0 : ¬t.val % 8 = 0) (d) :
    (dat0 V D c).before 2 t d = acc0 V c (t.val - 1) (Nat.lt_of_le_of_lt (Nat.sub_le _ _) t.isLt) := by
  have hN : t.val < 32 := lt_of_lt_of_eq t.isLt N_0
  rw [Dat.before_out_kept _ 2 rfl t (by omega) (Bool.eq_false_iff.mpr fun h => by have := (flush0_2 _).mp h; dsimp only at this; omega)
    (fun _ => rfl) (fun _ _ => rfl)]
  dsimp only [dat0]

set_option maxHeartbeats 800000 in
/-- The body's obligation at every point. -/
theorem body0 (c : Dev nD) : BodyObligation (dat0 V D c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc],
    show (dat0 V D c).Φ t.succ = (dat0 V D c).Φ t.castSucc from rfl,
    show (dat0 V D c).owesAt () t.succ = (dat0 V D c).owesAt () t.castSucc from rfl, after0_0, after0_1, after0_2]
  simp only [before0_0, before0_1]
  unfold bodyAt0
  by_cases h0 : t.val % 8 = 0
  · rw [show acc0 V c t.val t.isLt = _ from accum_reset 8 _ _ t.val t.isLt h0]
    iintro ⟨HΦ, Ho, ⟨%d0, H0⟩, ⟨%d1, H1⟩, ⟨%d2, H2⟩⟩
    iapply (run0_first c (grid0.coords t) _ _ _ _ _ _ ((first0_iff t).mpr h0) (iblk0 V c 0 t) (iblk0 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [show acc0 V c t.val t.isLt = _ from accum_step' 8 _ _ t.val t.isLt h0]
    simp only [before0_2 V D c t h0]
    iintro ⟨HΦ, Ho, ⟨%d0, H0⟩, ⟨%d1, H1⟩, ⟨%d2, H2⟩⟩
    iapply (run0_later c (grid0.coords t) _ _ _ _ _ _ (fun h => h0 ((first0_iff t).mp h)) (iblk0 V c 0 t) (iblk0 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-! ## What the call leaves -/

/-- The routed rows: row `r` is row `r % 1152` of what the last point of block `r / 1152` leaves. -/
def xe (c : Dev nD) : S4608x2048.Idx → Elt F .bf16 := fun i =>
  acc0 V c (8 * ((i 0).val / 1152) + 7) (by have h : (i 0).val < 4608 := (i 0).isLt; have := N_0; show _ < grid0.N; omega)
    (fun a => match a with
      | ⟨0, _⟩ => ⟨(i 0).val % 1152, Nat.mod_lt _ (by decide)⟩
      | ⟨1, _⟩ => i 1)

theorem index0_2 (t : Fin grid0.N) : win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0) t

theorem acc0_congr (c : Dev nD) {n n' : ℕ} (e : n = n') (h h') : acc0 V c n h = acc0 V c n' h' := by subst e; rfl

theorem mem_blk0_2 (t : Fin cfg0.N) (i : S4608x2048.Idx) :
    i ∈ ((cfg0.win 2).blk t).view.set ↔ ∀ a : Fin 2, win0_2.index t a * S1152x2048.size a ≤ (i a).val
      ∧ (i a).val < win0_2.index t a * S1152x2048.size a + S1152x2048.size a := by
  show i ∈ ((View.whole main_v31).slice (win0_2.rect t)).set ↔ _
  rw [View.set_slice_whole, Rect.mem_set_unit]
  exact Iff.rfl

theorem final0 (c : Dev nD) : (dat0 V D c).arrAt 2 cfg0.N = xe V c := by
  refine (dat0 V D c).arrAt_eq_of_cover 2 _ (fun t hf => ?_) (fun i => ?_)
  · show (cfg0.win 2).cut (grid0.coords t) ((dat0 V D c).after 2 t) = _
    rw [after0_2]
    have hm : t.val % 8 = 7 := (flush0_2 t).mp hf
    obtain ⟨e0, e1⟩ := index0_2 t
    funext y
    have hy0 : (y 0).val < 1152 := (y 0).isLt
    have hb0 : (((cfg0.win 2).blk t).view.emb y 0).val = win0_2.index t (0 : Fin 2) * 1152 + 1 * (y 0).val := rfl
    have hb1 : (((cfg0.win 2).blk t).view.emb y 1).val = win0_2.index t (1 : Fin 2) * 2048 + 1 * (y 1).val := rfl
    show acc0 V c t.val t.isLt ((cfg0.win 2).xinj (grid0.coords t) y) = xe V c (((cfg0.win 2).blk t).view.emb y)
    unfold xe
    rw [acc0_congr V c (n := t.val) (n' := 8 * ((((cfg0.win 2).blk t).view.emb y 0).val / 1152) + 7) (by rw [hb0]; omega)]
    refine congrArg _ (funext fun a => Fin.ext ?_)
    match a with
    | ⟨0, _⟩ => show (y 0).val = (((cfg0.win 2).blk t).view.emb y 0).val % 1152; rw [hb0]; omega
    | ⟨1, _⟩ => show (y 1).val = (((cfg0.win 2).blk t).view.emb y 1).val; rw [hb1]; omega
  · have hi0 : (i 0).val < 4608 := (i 0).isLt
    have hi1 : (i 1).val < 2048 := (i 1).isLt
    have hN := N_0
    obtain ⟨t, ht⟩ : ∃ t : Fin cfg0.N, t.val = 8 * ((i 0).val / 1152) + 7 := ⟨⟨_, by show _ < grid0.N; omega⟩, rfl⟩
    refine ⟨t, (flush0_2 t).mpr (by omega), (mem_blk0_2 t i).mpr fun a => ?_⟩
    obtain ⟨e0, e1⟩ := index0_2 t
    match a with
    | ⟨0, _⟩ => show win0_2.index t (0 : Fin 2) * 1152 ≤ (i 0).val ∧ (i 0).val < win0_2.index t (0 : Fin 2) * 1152 + 1152; omega
    | ⟨1, _⟩ => show win0_2.index t (1 : Fin 2) * 2048 ≤ (i 1).val ∧ (i 1).val < win0_2.index t (1 : Fin 2) * 2048 + 2048; omega

end Data

end Cert.KernelIdeal.Moe

end
-- ==== Proof.Unroute.lean ====
/- The last call: each tile of tokens is accumulated over the three blocks of slots, the device's own and the returned ones. -/
module

public import proofs.«01_k».proof.Proof.Base
public import Idealize.ShloMosaic.Lib.VecWindow

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The body's test for the first block of slots. -/
abbrev first2 (i : grid2.Coords) : Prop := (Scalar.cmpi .ne (Scalar.extui (Scalar.cmpi .eq (BitVec.ofNat 32 (i 1).val) 0#32)) 0#32) = 1#1

theorem first2_iff (t : Fin grid2.N) : first2 (grid2.coords t) ↔ t.val % 3 = 0 := by
  have ht : t.val < 12 := Nat.lt_of_lt_of_eq t.isLt N_2
  have e1 : (grid2.coords t 1).val = t.val / 1 % 3 := Pipeline.Grid.coords_val t 1 (by decide) rfl
  simp only [first2, e1]
  word_cmp

set_option maxHeartbeats 1000000 in
/-- At the first block of slots the body leaves both products added to zero. -/
theorem run2_first (c : Dev nD) (i : grid2.Coords) (arg2 : Memref sig .tc .vmem S1x768 .i32) (harg2 : arg2.IsWhole)
    (arg3 : Memref sig .tc .vmem S1x768 .i32) (harg3 : arg3.IsWhole)
    (arg4 : Memref sig .tc .vmem S768x2048 .bf16) (harg4 : arg4.IsWhole)
    (arg5 : Memref sig .tc .vmem S768x2048 .bf16) (harg5 : arg5.IsWhole)
    (arg6 : Memref sig .tc .vmem S1024x2048 .f32) (harg6 : arg6.IsWhole)
    (hc : first2 i) (x0 : Vec F S1x768 .i32) (x1 : Vec F S1x768 .i32) (x2 : Vec F S768x2048 .bf16) (x3 : Vec F S768x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay4 i x1 (k2_pay3 i x0 (k2_pay1 (F := F)) x2) x3)) -∗ K ⟨⟩))
      ⊢ wp frame (wpE (defs₀ (F := F)) Variants.none c none) E (cc2_body i arg2 harg2 arg3 harg3 arg4 harg4 arg5 harg5 arg6 harg6) K := by
  simp only [cc2_body_eq_skeleton]; unfold cc2_body_skel; simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (View.cover_of_tiledL _ S1024x2048.size (by sl_kernel_rfl)),
    View.canon_cons_unit_zero (S := S1024x2048) hz2]
  sl_unfold_words
  simp only [View.readCov_unit_zero (S := S1024x2048) _ hz2]
  simp only [View.readAt_eq_ld, harg2.read_unread, harg3.read_unread, harg4.read_unread, harg5.read_unread, harg6.read_unread,
    View.ld_unit_zero (S := S1x768) hz2, View.ld_unit_zero (S := S768x2048) hz2, View.ld_unit_zero (S := S1024x2048) hz2, shapeCast_self]
  exact congrArg (fun z => k2_pay4 i x1 z x3) (View.readCov_full (s := S1024x2048) _ _ _ _ _)

set_option maxHeartbeats 1000000 in
/-- At a later block it adds them to what the block before left. -/
theorem run2_later (c : Dev nD) (i : grid2.Coords) (arg2 : Memref sig .tc .vmem S1x768 .i32) (harg2 : arg2.IsWhole)
    (arg3 : Memref sig .tc .vmem S1x768 .i32) (harg3 : arg3.IsWhole)
    (arg4 : Memref sig .tc .vmem S768x2048 .bf16) (harg4 : arg4.IsWhole)
    (arg5 : Memref sig .tc .vmem S768x2048 .bf16) (harg5 : arg5.IsWhole)
    (arg6 : Memref sig .tc .vmem S1024x2048 .f32) (harg6 : arg6.IsWhole)
    (hc : ¬first2 i) (x0 : Vec F S1x768 .i32) (x1 : Vec F S1x768 .i32) (x2 : Vec F S768x2048 .bf16) (x3 : Vec F S768x2048 .bf16) (x4 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay4 i x1 (k2_pay3 i x0 x4 x2) x3)) -∗ K ⟨⟩))
      ⊢ wp frame (wpE (defs₀ (F := F)) Variants.none c none) E (cc2_body i arg2 harg2 arg3 harg3 arg4 harg4 arg5 harg5 arg6 harg6) K := by
  simp only [cc2_body_eq_skeleton]; unfold cc2_body_skel; simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (View.cover_of_tiledL _ S1024x2048.size (by sl_kernel_rfl)),
    View.canon_cons_unit_zero (S := S1024x2048) hz2]
  sl_unfold_words
  simp only [View.readCov_unit_zero (S := S1024x2048) _ hz2]
  simp only [View.readAt_eq_ld, harg2.read_unread, harg3.read_unread, harg4.read_unread, harg5.read_unread, harg6.read_unread,
    View.ld_unit_zero (S := S1x768) hz2, View.ld_unit_zero (S := S768x2048) hz2, View.ld_unit_zero (S := S1024x2048) hz2, shapeCast_self]

/-! ## The proof data -/

section Data

variable (V : Dev nD → Valuation τ sig (Elt F))

/-- Window `w`'s block at point `t`, of the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- What point `n` leaves on top of `acc`. -/
def step2 (c : Dev nD) (n : ℕ) (h : n < cfg2.N) (acc : Vec F S1024x2048 .f32) : Vec F S1024x2048 .f32 :=
  k2_pay4 (grid2.coords ⟨n, h⟩) (iblk2 V c 1 ⟨n, h⟩) (k2_pay3 (grid2.coords ⟨n, h⟩) (iblk2 V c 0 ⟨n, h⟩) acc (iblk2 V c 2 ⟨n, h⟩)) (iblk2 V c 3 ⟨n, h⟩)

/-- The result's staging buffer after point `n`. -/
def acc2 (c : Dev nD) (n : ℕ) (h : n < cfg2.N) : Vec F S1024x2048 .f32 :=
  accum 3 (fun n h => step2 V c n h (k2_pay1 (F := F))) (step2 V c) n h

/-- The call's proof data, beside any dues `D`. -/
def dat2 (D : Dev nD → CellTallies nD τ sig Unit) (c : Dev nD) : Dat τ (Elt F) Unit ℕ UU ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ _ := Pipeline.ΦA spec2 c
  q _ := fullShare
  owed _ := D c

variable (D : Dev nD → CellTallies nD τ sig Unit)

theorem A2_eq (c : Dev nD) (w : Fin cfg2.W) : (dat2 V D c).A w = V c (Proc.devRef .tc (Pipeline.arrRef spec2 w)) := by dsimp only [dat2]
theorem after2_4 (c : Dev nD) (t : Fin cfg2.N) : (dat2 V D c).after 4 t = acc2 V c t.val t.isLt := by dsimp only [dat2]

theorem after2_0 (c : Dev nD) (t : Fin cfg2.N) : (dat2 V D c).after 0 t = iblk2 V c 0 t := by dsimp only [dat2]
theorem before2_0 (c : Dev nD) (t : Fin cfg2.N) (d) : (dat2 V D c).before 0 t d = iblk2 V c 0 t :=
  ((dat2 V D c).before_in_eq_fetched 0 rfl (fun _ => rfl) (fun _ _ _ => rfl)
    (fun t => by rw [after2_0]; unfold Dat.blockOf iblk2; rw [A2_eq]) t d).trans (by unfold Dat.fetched Dat.blockOf iblk2; rw [A2_eq]; rfl)
theorem after2_1 (c : Dev nD) (t : Fin cfg2.N) : (dat2 V D c).after 1 t = iblk2 V c 1 t := by dsimp only [dat2]
theorem before2_1 (c : Dev nD) (t : Fin cfg2.N) (d) : (dat2 V D c).before 1 t d = iblk2 V c 1 t :=
  ((dat2 V D c).before_in_eq_fetched 1 rfl (fun _ => rfl) (fun _ _ _ => rfl)
    (fun t => by rw [after2_1]; unfold Dat.blockOf iblk2; rw [A2_eq]) t d).trans (by unfold Dat.fetched Dat.blockOf iblk2; rw [A2_eq]; rfl)
theorem after2_2 (c : Dev nD) (t : Fin cfg2.N) : (dat2 V D c).after 2 t = iblk2 V c 2 t := by dsimp only [dat2]
theorem before2_2 (c : Dev nD) (t : Fin cfg2.N) (d) : (dat2 V D c).before 2 t d = iblk2 V c 2 t :=
  ((dat2 V D c).before_in_eq_fetched 2 rfl (fun _ => rfl) (fun _ _ _ => rfl)
    (fun t => by rw [after2_2]; unfold Dat.blockOf iblk2; rw [A2_eq]) t d).trans (by unfold Dat.fetched Dat.blockOf iblk2; rw [A2_eq]; rfl)
theorem after2_3 (c : Dev nD) (t : Fin cfg2.N) : (dat2 V D c).after 3 t = iblk2 V c 3 t := by dsimp only [dat2]
theorem before2_3 (c : Dev nD) (t : Fin cfg2.N) (d) : (dat2 V D c).before 3 t d = iblk2 V c 3 t :=
  ((dat2 V D c).before_in_eq_fetched 3 rfl (fun _ => rfl) (fun _ _ _ => rfl)
    (fun t => by rw [after2_3]; unfold Dat.blockOf iblk2; rw [A2_eq]) t d).trans (by unfold Dat.fetched Dat.blockOf iblk2; rw [A2_eq]; rfl)
theorem before2_4 (c : Dev nD) (t : Fin cfg2.N) (h0 : ¬t.val % 3 = 0) (d) :
    (dat2 V D c).before 4 t d = acc2 V c (t.val - 1) (Nat.lt_of_le_of_lt (Nat.sub_le _ _) t.isLt) := by
  have hN : t.val < 12 := lt_of_lt_of_eq t.isLt N_2
  rw [Dat.before_out_kept _ 4 rfl t (by omega) (Bool.eq_false_iff.mpr fun h => by have := (flush2_4 _).mp h; dsimp only at this; omega)
    (fun _ => rfl) (fun _ _ => rfl)]
  dsimp only [dat2]

set_option maxHeartbeats 800000 in
/-- The body's obligation at every point. -/
theorem body2 (c : Dev nD) : BodyObligation (dat2 V D c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc],
    show (dat2 V D c).Φ t.succ = (dat2 V D c).Φ t.castSucc from rfl,
    show (dat2 V D c).owesAt () t.succ = (dat2 V D c).owesAt () t.castSucc from rfl, after2_0, after2_1, after2_2, after2_3, after2_4]
  simp only [before2_0, before2_1, before2_2, before2_3]
  unfold bodyAt2
  by_cases h0 : t.val % 3 = 0
  · rw [show acc2 V c t.val t.isLt = _ from accum_reset 3 _ _ t.val t.isLt h0]
    iintro ⟨HΦ, Ho, ⟨%d0, H0⟩, ⟨%d1, H1⟩, ⟨%d2, H2⟩, ⟨%d3, H3⟩, ⟨%d4, H4⟩⟩
    iapply (run2_first c (grid2.coords t) _ _ _ _ _ _ _ _ _ _ ((first2_iff t).mpr h0) (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [show acc2 V c t.val t.isLt = _ from accum_step' 3 _ _ t.val t.isLt h0]
    simp only [before2_4 V D c t h0]
    iintro ⟨HΦ, Ho, ⟨%d0, H0⟩, ⟨%d1, H1⟩, ⟨%d2, H2⟩, ⟨%d3, H3⟩, ⟨%d4, H4⟩⟩
    iapply (run2_later c (grid2.coords t) _ _ _ _ _ _ _ _ _ _ (fun h => h0 ((first2_iff t).mp h)) (iblk2 V c 0 t) (iblk2 V c 1 t) (iblk2 V c 2 t) (iblk2 V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-! ## What the call leaves -/

/-- The result: row `r` is row `r % 1024` of what the last point of tile `r / 1024` leaves. -/
def out39 (c : Dev nD) : S4096x2048.Idx → Elt F .f32 := fun i =>
  acc2 V c (3 * ((i 0).val / 1024) + 2) (by have h : (i 0).val < 4096 := (i 0).isLt; have := N_2; show _ < grid2.N; omega)
    (fun a => match a with
      | ⟨0, _⟩ => ⟨(i 0).val % 1024, Nat.mod_lt _ (by decide)⟩
      | ⟨1, _⟩ => i 1)

theorem index2_4 (t : Fin grid2.N) : win2_4.index t (0 : Fin 2) = t.val / 3 ∧ win2_4.index t (1 : Fin 2) = 0 :=
  (by decide +kernel : ∀ t : Fin grid2.N, win2_4.index t (0 : Fin 2) = t.val / 3 ∧ win2_4.index t (1 : Fin 2) = 0) t

theorem acc2_congr (c : Dev nD) {n n' : ℕ} (e : n = n') (h h') : acc2 V c n h = acc2 V c n' h' := by subst e; rfl

theorem mem_blk2_4 (t : Fin cfg2.N) (i : S4096x2048.Idx) :
    i ∈ ((cfg2.win 4).blk t).view.set ↔ ∀ a : Fin 2, win2_4.index t a * S1024x2048.size a ≤ (i a).val
      ∧ (i a).val < win2_4.index t a * S1024x2048.size a + S1024x2048.size a := by
  show i ∈ ((View.whole main_v39).slice (win2_4.rect t)).set ↔ _
  rw [View.set_slice_whole, Rect.mem_set_unit]
  exact Iff.rfl

theorem final2 (c : Dev nD) : (dat2 V D c).arrAt 4 cfg2.N = out39 V c := by
  refine (dat2 V D c).arrAt_eq_of_cover 4 _ (fun t hf => ?_) (fun i => ?_)
  · show (cfg2.win 4).cut (grid2.coords t) ((dat2 V D c).after 4 t) = _
    rw [after2_4]
    have hm : t.val % 3 = 2 := (flush2_4 t).mp hf
    obtain ⟨e0, e1⟩ := index2_4 t
    funext y
    have hy0 : (y 0).val < 1024 := (y 0).isLt
    have hb0 : (((cfg2.win 4).blk t).view.emb y 0).val = win2_4.index t (0 : Fin 2) * 1024 + 1 * (y 0).val := rfl
    have hb1 : (((cfg2.win 4).blk t).view.emb y 1).val = win2_4.index t (1 : Fin 2) * 2048 + 1 * (y 1).val := rfl
    show acc2 V c t.val t.isLt ((cfg2.win 4).xinj (grid2.coords t) y) = out39 V c (((cfg2.win 4).blk t).view.emb y)
    unfold out39
    rw [acc2_congr V c (n := t.val) (n' := 3 * ((((cfg2.win 4).blk t).view.emb y 0).val / 1024) + 2) (by rw [hb0]; omega)]
    refine congrArg _ (funext fun a => Fin.ext ?_)
    match a with
    | ⟨0, _⟩ => show (y 0).val = (((cfg2.win 4).blk t).view.emb y 0).val % 1024; rw [hb0]; omega
    | ⟨1, _⟩ => show (y 1).val = (((cfg2.win 4).blk t).view.emb y 1).val; rw [hb1]; omega
  · have hi0 : (i 0).val < 4096 := (i 0).isLt
    have hi1 : (i 1).val < 2048 := (i 1).isLt
    have hN := N_2
    obtain ⟨t, ht⟩ : ∃ t : Fin cfg2.N, t.val = 3 * ((i 0).val / 1024) + 2 := ⟨⟨_, by show _ < grid2.N; omega⟩, rfl⟩
    refine ⟨t, (flush2_4 t).mpr (by omega), (mem_blk2_4 t i).mpr fun a => ?_⟩
    obtain ⟨e0, e1⟩ := index2_4 t
    match a with
    | ⟨0, _⟩ => show win2_4.index t (0 : Fin 2) * 1024 ≤ (i 0).val ∧ (i 0).val < win2_4.index t (0 : Fin 2) * 1024 + 1024; omega
    | ⟨1, _⟩ => show win2_4.index t (1 : Fin 2) * 2048 ≤ (i 1).val ∧ (i 1).val < win2_4.index t (1 : Fin 2) * 2048 + 2048; omega

end Data

end Cert.KernelIdeal.Moe

end
-- ==== Proof.Call1.lean ====
/- The middle call entered and left: its cells opened, its buffers dealt out and collected. -/
module

public import proofs.«01_k».proof.Proof.Pieces
public import proofs.«01_k».proof.Proof.Route
public import proofs.«01_k».proof.Proof.Unroute

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Contents of the buffers, device by device. -/
abbrev Vals (F : FTy → Type) := Dev nD → Valuation τ sig (Elt F)

/-- The three calls' proof data, over what each finds. -/
def pdats (V₀ V₁ V₂ : Vals F) : (p : Fin 3) → (c : Dev nD) → Dat τ (Elt F) Unit ℕ UU ℕ (cfgs p) c
  | ⟨0, _⟩ => fun c => dat0 V₀ O₀ c
  | ⟨1, _⟩ => fun c => dat1 V₁ c
  | ⟨2, _⟩ => fun c => dat2 V₂ (fun _ => 0) c
  | ⟨_ + 3, h⟩ => absurd h (by omega)

theorem lv_stage0 : ∀ (w : Fin 3) (s : Fin (win0 w).nbuf), lvS (.dma ((win0 w).sem s)) ≤ 0 := by decide +kernel
theorem lv_stage1 : ∀ (w : Fin 4) (s : Fin (win1 w).nbuf), lvS (.dma ((win1 w).sem s)) ≤ 0 := by decide +kernel
theorem lv_stage2 : ∀ (w : Fin 5) (s : Fin (win2 w).nbuf), lvS (.dma ((win2 w).sem s)) ≤ 0 := by decide +kernel

theorem owed1_level (c : Dev nD) (t : ℕ) {g : GSem nD τ sig} {u : Unit} (h : 0 < owed1 c t g u) : u ∈ L g ∧ 0 < lv g u := by
  unfold owed1 at h
  split at h
  · exact O₀_level c h
  · exact due_level c _ 0 (fun p _ => by omega) h

section Kept

variable (V : Vals F) (c : Dev nD)

/-- One slice's rights, before its cells are opened. -/
def keptK (k : Fin 4) : sProp 𝕄 :=
  iprop((openTok ER (cell c (.dma (xsS k))) ∗ openTok ER (cell c (.dma (xrS k))) ∗ openTok ER (cell c (.dma (ysS k))) ∗ openTok ER (cell c (.dma (yrS k))))
    ∗ (dutyTok ER (cell c (.dma (xsS k))) 0 () ∗ dutyTok ER (cell (pr c) (.dma (xrS k))) 0 ()
      ∗ dutyTok ER (cell c (.dma (ysS k))) 0 () ∗ dutyTok ER (cell (pr c) (.dma (yrS k))) 0 ())
    ∗ (cred (tallyAt (cell c (.dma (xrS k))) () N) ∗ cred (tallyAt (cell c (.dma (yrS k))) () N)))

/-- A cell's owner's position, and that the cell is open. -/
def opn (sm : SemLoc sig) : sProp 𝕄 := iprop(atPos ER (cell c sm) 0 ∅ 0 ∗ reached ER (cell c sm) 0)

/-- One slice's rights, its cells opened. -/
def openK (k : Fin 4) : sProp 𝕄 :=
  iprop((opn c (.dma (xsS k)) ∗ opn c (.dma (xrS k)) ∗ opn c (.dma (ysS k)) ∗ opn c (.dma (yrS k)))
    ∗ (dutyTok ER (cell c (.dma (xsS k))) 0 () ∗ dutyTok ER (cell (pr c) (.dma (xrS k))) 0 ()
      ∗ dutyTok ER (cell c (.dma (ysS k))) 0 () ∗ dutyTok ER (cell (pr c) (.dma (yrS k))) 0 ())
    ∗ (cred (tallyAt (cell c (.dma (xrS k))) () N) ∗ cred (tallyAt (cell c (.dma (yrS k))) () N)))

/-- The barrier's part. -/
def barC : sProp 𝕄 :=
  iprop(atPos ER (cell c (.reg barS)) 0 ∅ 0 ∗ reached ER (cell (pr c) (.reg barS)) 0 ∗ dutyTok ER (cell (pr c) (.reg barS)) 0 ()
      ∗ cred (tallyAt (cell c (.reg barS)) () 1))

/-- What the launch keeps for the middle call. -/
def kept : sProp 𝕄 := iprop(∃ K, allInv (XE V) (YE V) K ∗ barC c ∗ bigSep Finset.univ (keptK c))

/-- What the middle call starts from, its cells opened. -/
def ready : sProp 𝕄 := iprop(∃ K, allInv (XE V) (YE V) K ∗ levAts L lv ∗ barC c ∗ bigSep Finset.univ (openK c))

theorem open_cell (K : GSem nD τ sig → ℕ) (sm : SemLoc sig) :
    iprop(cellInv ER (rd (XE V) (YE V)) (K (cell c sm)) (cell c sm) ∗ openTok ER (cell c sm) ∗ semVal (cell c sm) 0) ⊢ |={Set.univ}=> opn c sm :=
  Rounds.cell_open ER (rd (XE V) (YE V)) (Set.mem_univ (K (cell c sm)))

theorem open_slice (K : GSem nD τ sig → ℕ) (k : Fin 4) :
    iprop(allInv (XE V) (YE V) K ∗ keptK c k ∗ (semVal (cell c (.dma (xsS k))) 0 ∗ semVal (cell c (.dma (xrS k))) 0
      ∗ semVal (cell c (.dma (ysS k))) 0 ∗ semVal (cell c (.dma (yrS k))) 0)) ⊢ |={Set.univ}=> openK c k := by
  unfold keptK openK
  iintro ⟨#HI, ⟨⟨O0, O1, O2, O3⟩, HD, HC⟩, S0, S1, S2, S3⟩
  imod (open_cell V c K (.dma (xsS k))) $$ [O0 S0] with P0
  · isplitr; · iapply (inv_xs (XE V) (YE V) K c k); iexact HI
    isplitl [O0] <;> iassumption
  imod (open_cell V c K (.dma (xrS k))) $$ [O1 S1] with P1
  · isplitr; · iapply (inv_xr (XE V) (YE V) K c k); iexact HI
    isplitl [O1] <;> iassumption
  imod (open_cell V c K (.dma (ysS k))) $$ [O2 S2] with P2
  · isplitr; · iapply (inv_ys (XE V) (YE V) K c k); iexact HI
    isplitl [O2] <;> iassumption
  imod (open_cell V c K (.dma (yrS k))) $$ [O3 S3] with P3
  · isplitr; · iapply (inv_yr (XE V) (YE V) K c k); iexact HI
    isplitl [O3] <;> iassumption
  imodintro
  isplitl [P0 P1 P2 P3]
  · isplitl [P0]; · iexact P0
    isplitl [P1]; · iexact P1
    isplitl [P2] <;> iassumption
  isplitl [HD] <;> iassumption

theorem open_all :
    iprop(kept V c ∗ Pipeline.ownSems0 osem1 c ∗ levAts L lv) ⊢ |={Set.univ}=> ready V c := by
  unfold kept ready
  rw [ownSems1_eq, bigSep_fin4 (keptK c), bigSep_fin4 (openK c), bigSep_fin4]
  iintro ⟨⟨%K, #HI, HB, K0, K1, K2, K3⟩, ⟨S0, S1, S2, S3⟩, HL⟩
  imod (open_slice V c K 0) $$ [K0 S0] with P0
  · isplitr; · iexact HI
    isplitl [K0] <;> iassumption
  imod (open_slice V c K 1) $$ [K1 S1] with P1
  · isplitr; · iexact HI
    isplitl [K1] <;> iassumption
  imod (open_slice V c K 2) $$ [K2 S2] with P2
  · isplitr; · iexact HI
    isplitl [K2] <;> iassumption
  imod (open_slice V c K 3) $$ [K3 S3] with P3
  · isplitr; · iexact HI
    isplitl [K3] <;> iassumption
  imodintro
  iexists K
  isplitr; · iexact HI
  isplitl [HL]; · iexact HL
  isplitl [HB]; · iexact HB
  isplitl [P0]; · iexact P0
  isplitl [P1]; · iexact P1
  isplitl [P2] <;> iassumption

/-- One slice at the start, from what is opened and from the buffers. -/
theorem start_slice (k : Fin 4) :
    iprop(openK c k ∗ srcPts c k half (XE V c) ∗ (∃ f, xPts c k f) ∗ (∃ f, yPts c k f) ∗ (∃ f, rPts c k f))
      ⊢ (iprop(startK (XE V) c k ∗ rowsK (XE V) c 0 k ∗ ((∃ f, xPts (pr (pr c)) k f) ∗ (∃ f, rPts (pr (pr c)) k f)
        ∗ reached ER (cell (pr (pr c)) (.dma (xrS k))) 0 ∗ reached ER (cell (pr (pr c)) (.dma (yrS k))) 0)) : sProp 𝕄) := by
  rw [pr_pr]
  unfold openK startK rowsK opn
  rw [if_pos (Nat.zero_le _)]
  iintro ⟨⟨⟨⟨a0, #r0⟩, ⟨a1, #r1⟩, ⟨a2, #r2⟩, a3, #r3⟩, ⟨d0, d1, d2, d3⟩, c1, c3⟩, Hs, Hx, Hy, Hr⟩
  isplitl [Hs a0 a2 a3 c3 d0 d1 d2 d3 Hy]
  · isplitl [Hs d0 d1]
    · isplitl [Hs]; · iexact Hs
      isplitl [d0]; · iexact d0
      isplitr; · iexact r0
      iexact d1
    isplitl [a0]; · iexact a0
    isplitl [a2]; · iexact a2
    isplitl [a3]; · iexact a3
    isplitl [c3]; · iexact c3
    isplitl [d2]; · iexact d2
    isplitl [d3]; · iexact d3
    isplitl [Hy]; · iexact Hy
    iexact r2
  isplitl [a1 c1]
  · isplitl [a1] <;> iassumption
  isplitl [Hx]; · iexact Hx
  isplitl [Hr]; · iexact Hr
  isplitr; · iexact r1
  iexact r3

/-- The rest of the scoped buffers beside the two the middle call uses. -/
theorem scoped1 : (Pipeline.scopedRest spec1 c : sProp 𝕄) ⊣⊢ iprop(any c cc1_scratch0 ∗ any c cc1_scratch1 ∗ rest1 c) := by
  rw [scopedRest1_eq]
  unfold rest1
  refine ⟨?_, ?_⟩
  · iintro ⟨h0, h1, h2, h3, h4, h5, hx, hy, hr⟩
    iframe hx hy h0 h1 h2 h3 h4 h5 hr
  · iintro ⟨hx, hy, h0, h1, h2, h3, h4, h5, hr⟩
    iframe h0 h1 h2 h3 h4 h5 hx hy hr

theorem some_x (k : Fin 4) (f : S2304x2048.Idx → Elt F .bf16) : (xPts c k f : sProp 𝕄) ⊢ iprop(∃ f, xPts c k f) := by
  iintro H
  iexists f
  iexact H
theorem some_y (k : Fin 4) (f : S2304x2048.Idx → Elt F .bf16) : (yPts c k f : sProp 𝕄) ⊢ iprop(∃ f, yPts c k f) := by
  iintro H
  iexists f
  iexact H
theorem some_r (k : Fin 4) (f : S2304x2048.Idx → Elt F .bf16) : (rPts c k f : sProp 𝕄) ⊢ iprop(∃ f, rPts c k f) := by
  iintro H
  iexists f
  iexact H

theorem any_x : (any c cc1_scratch0 : sProp 𝕄) ⊢ bigSep Finset.univ fun k : Fin 4 => iprop(∃ f, xPts c k f) := by
  iintro ⟨%f, H⟩
  ihave H := (Entails.of_eq (x_split (F := F) c f)) $$ H
  have h : (bigSep Finset.univ fun k : Fin 4 => (xPts c k f : sProp 𝕄)) ⊢ bigSep Finset.univ fun k : Fin 4 => iprop(∃ f, xPts c k f) :=
    bigSep_mono fun k _ => some_x c k f
  iapply h $$ H
theorem any_y : (any c cc1_scratch1 : sProp 𝕄) ⊢ bigSep Finset.univ fun k : Fin 4 => iprop(∃ f, yPts c k f) := by
  iintro ⟨%f, H⟩
  ihave H := (Entails.of_eq (y_split (F := F) c f)) $$ H
  have h : (bigSep Finset.univ fun k : Fin 4 => (yPts c k f : sProp 𝕄)) ⊢ bigSep Finset.univ fun k : Fin 4 => iprop(∃ f, yPts c k f) :=
    bigSep_mono fun k _ => some_y c k f
  iapply h $$ H
theorem any_r : (any c main_v32_1 : sProp 𝕄) ⊢ bigSep Finset.univ fun k : Fin 4 => iprop(∃ f, rPts c k f) := by
  iintro ⟨%f, H⟩
  ihave H := (Entails.of_eq (r_split (F := F) c f)) $$ H
  have h : (bigSep Finset.univ fun k : Fin 4 => (rPts c k f : sProp 𝕄)) ⊢ bigSep Finset.univ fun k : Fin 4 => iprop(∃ f, rPts c k f) :=
    bigSep_mono fun k _ => some_r c k f
  iapply h $$ H

theorem start_all :
    iprop(ready V c ∗ (bigSep Finset.univ fun k : Fin 4 => srcPts c k half (XE V c)) ∗ any c main_v32_1 ∗ any c cc1_scratch0 ∗ any c cc1_scratch1)
      ⊢ (iprop(∃ K, atStart (XE V) (YE V) K c) : sProp 𝕄) := by
  have hb : iprop((bigSep Finset.univ (openK c)) ∗ (bigSep Finset.univ fun k : Fin 4 => srcPts c k half (XE V c))
        ∗ (bigSep Finset.univ fun k : Fin 4 => iprop(∃ f, xPts c k f)) ∗ (bigSep Finset.univ fun k : Fin 4 => iprop(∃ f, yPts c k f))
        ∗ (bigSep Finset.univ fun k : Fin 4 => iprop(∃ f, rPts c k f)))
      ⊢ (iprop(bigSep Finset.univ (startK (XE V) c) ∗ bigSep Finset.univ (rowsK (XE V) c 0) ∗ barPay (pr c)) : sProp 𝕄) := by
    unfold barPay
    rw [← bigSep_sep', ← bigSep_sep', ← bigSep_sep', ← bigSep_sep', ← bigSep_sep', ← bigSep_sep']
    exact bigSep_mono fun k _ => start_slice V c k
  unfold ready
  iintro ⟨⟨%K, #HI, HL, HB, HO⟩, Hs, Hr, Hx, Hy⟩
  ihave Hr := (any_r (F := F) c) $$ Hr
  ihave Hx := (any_x (F := F) c) $$ Hx
  ihave Hy := (any_y (F := F) c) $$ Hy
  ihave H := hb $$ [HO Hs Hx Hy Hr]
  · isplitl [HO]; · iexact HO
    isplitl [Hs]; · iexact Hs
    isplitl [Hx]; · iexact Hx
    isplitl [Hy] <;> iassumption
  icases H with ⟨H1, H2, H3⟩
  iexists K
  unfold atStart
  isplitr; · iexact HI
  isplitl [HL]; · iexact HL
  isplitl [HB]; · unfold barC; iexact HB
  isplitl [H3]; · iexact H3
  isplitl [H1] <;> iassumption

theorem end_slice (k : Fin 4) :
    endK (XE V) (YE V) c k ⊢ (iprop((semVal (cell c (.dma (xsS k))) 0 ∗ semVal (cell c (.dma (xrS k))) 0 ∗ semVal (cell c (.dma (ysS k))) 0 ∗ semVal (cell c (.dma (yrS k))) 0)
      ∗ srcPts c k half (XE V c) ∗ (∃ f, xPts c k f) ∗ (∃ f, yPts c k f) ∗ rPts c k (YE V (pr c))) : sProp 𝕄) := by
  unfold endK
  iintro ⟨HS, H1, H2, H3, H4⟩
  isplitl [HS]; · iexact HS
  isplitl [H1]; · iexact H1
  isplitl [H2]; · iexists _; iexact H2
  isplitl [H3] <;> iassumption

theorem end_all :
    atEnd (XE V) (YE V) c ⊢ (iprop(semVal (cell c (.reg barS)) 0 ∗ Pipeline.ownSems0 osem1 c
      ∗ (bigSep Finset.univ fun k : Fin 4 => srcPts c k half (XE V c)) ∗ (bigSep Finset.univ fun k : Fin 4 => rPts c k (YE V (pr c)))
      ∗ any c cc1_scratch0 ∗ any c cc1_scratch1) : sProp 𝕄) := by
  have hb : bigSep Finset.univ (endK (XE V) (YE V) c) ⊢ (iprop(Pipeline.ownSems0 osem1 c
      ∗ (bigSep Finset.univ fun k : Fin 4 => srcPts c k half (XE V c)) ∗ (bigSep Finset.univ fun k : Fin 4 => iprop(∃ f, xPts c k f))
      ∗ (bigSep Finset.univ fun k : Fin 4 => iprop(∃ f, yPts c k f)) ∗ (bigSep Finset.univ fun k : Fin 4 => rPts c k (YE V (pr c)))) : sProp 𝕄) := by
    rw [ownSems1_eq, ← bigSep_sep', ← bigSep_sep', ← bigSep_sep', ← bigSep_sep']
    exact bigSep_mono fun k _ => end_slice V c k
  unfold atEnd
  iintro ⟨HB, H⟩
  ihave H := hb $$ H
  icases H with ⟨HS, H1, H2, H3, H4⟩
  isplitl [HB]; · iexact HB
  isplitl [HS]; · iexact HS
  isplitl [H1]; · iexact H1
  isplitl [H4]; · iexact H4
  isplitl [H2]; · iapply (x_join (F := F) c (landed (XE V) c)); iexact H2
  iapply (y_join (F := F) c (landed (XE V) c)); iexact H3

end Kept

section Region

variable (V₀ V₁ V₂ : Vals F)

/-- What rides along up to the middle call. -/
def before (V : Vals F) (c : Dev nD) : sProp 𝕄 := iprop(kept V c ∗ (∃ r, prngReg c r) ∗ ∃ W, owes (c : Thread nD τ) (O₀ c) W)

/-- What rides along after it. -/
def behind (c : Dev nD) : sProp 𝕄 :=
  iprop(semVal (cell c (.reg barS)) 0 ∗ (∃ r, prngReg c r) ∗ ∃ W, owes (c : Thread nD τ) (0 : CellTallies nD τ sig Unit) W)

/-- The buffers after the middle call. -/
def next (V : Vals F) : Vals F := fun c =>
  Function.update (Function.update (Function.update (V c) (Proc.devRef .tc main_v32_0) (out32 V c)) (Proc.devRef .tc main_v31) (V c (Proc.devRef .tc main_v31)))
    (Proc.devRef .tc main_v32_1) (YE V (pr c))

theorem next_ret (V : Vals F) (c : Dev nD) : next V c (Proc.devRef .tc main_v32_1) = YE V (pr c) := by
  unfold next; rw [Function.update_self]
theorem next_rows (V : Vals F) (c : Dev nD) : next V c (Proc.devRef .tc main_v31) = V c (Proc.devRef .tc main_v31) := by
  unfold next
  rw [Function.update_of_ne (by decide : Proc.devRef (τ := τ) .tc main_v31 ≠ Proc.devRef .tc main_v32_1), Function.update_self]
theorem next_out (V : Vals F) (c : Dev nD) : next V c (Proc.devRef .tc main_v32_0) = out32 V c := by
  unfold next
  rw [Function.update_of_ne (by decide : Proc.devRef (τ := τ) .tc main_v32_0 ≠ Proc.devRef .tc main_v32_1),
    Function.update_of_ne (by decide : Proc.devRef (τ := τ) .tc main_v32_0 ≠ Proc.devRef .tc main_v31), Function.update_self]
theorem next_of_ne (V : Vals F) (c : Dev nD) (b : DevRef τ sig) (h0 : b ≠ Proc.devRef .tc main_v32_0) (h1 : b ≠ Proc.devRef .tc main_v31)
    (h2 : b ≠ Proc.devRef .tc main_v32_1) : next V c b = V c b := by
  unfold next
  rw [Function.update_of_ne h2, Function.update_of_ne h1, Function.update_of_ne h0]

theorem next_off (V : Vals F) (c : Dev nD) : ∀ b ∈ Pipeline.ucRefs τ sig \ five, next V c b = V c b := by
  intro b hb
  have h := (Finset.mem_sdiff.mp hb).2
  refine next_of_ne V c b ?_ ?_ ?_ <;> rintro rfl <;> exact h (by decide)

/-- What bypasses the middle call. -/
def beside (V : Vals F) (c : Dev nD) : sProp 𝕄 :=
  iprop(StableHlo.held (c : Thread nD τ) (Pipeline.ucRefs τ sig \ five) (V c) ∗ (((c : Thread nD τ).loc main_v31) ↦[Finset.univ \ hi]{half} XE V c))

theorem enter (c : Dev nD) :
    iprop((StableHlo.held (c : Thread nD τ) (Pipeline.ucRefs τ sig) (V₁ c) ∗ before V₁ c) ∗ Pipeline.ownSems0 osem1 c ∗ levAts L lv)
      ⊢ |={Set.univ}=> iprop((dat1 V₁ c).arrays (fun w => V₁ c (Proc.devRef .tc (Pipeline.arrRef spec1 w))) ∗ (∃ W, owes (c : Thread nD τ) (O₀ c) W)
        ∗ (ready V₁ c ∗ (bigSep Finset.univ fun k : Fin 4 => srcPts c k half (XE V₁ c)) ∗ any c main_v32_1 ∗ ∃ r, prngReg c r) ∗ beside V₁ c) := by
  unfold before beside
  rw [StableHlo.held_sub_split (c : Thread nD τ) five_sub (V₁ c), held_five, arrays1, halves, src_split c half]
  iintro ⟨⟨⟨⟨⟨⟨Hs, Hlo⟩, H0⟩, H1, H2, H3, Hr⟩, Hu⟩, HK, HP, HO⟩, HS, HL⟩
  imod (open_all V₁ c) $$ [HK HS HL] with HR
  · isplitl [HK]; · iexact HK
    isplitl [HS] <;> iassumption
  imodintro
  isplitl [H0 H1 H2 H3]
  · isplitl [H0]; · iexact H0
    isplitl [H1]; · iexact H1
    isplitl [H2] <;> iassumption
  isplitl [HO]; · iexact HO
  isplitl [HR Hs Hr HP]
  · isplitl [HR]; · iexact HR
    isplitl [Hs]; · iexact Hs
    isplitl [Hr]; · iexists _; iexact Hr
    iexact HP
  isplitl [Hu]; · iexact Hu
  iexact Hlo

theorem leave (c : Dev nD) :
    iprop((dat1 V₁ c).arrays (fun w => next V₁ c (Proc.devRef .tc (Pipeline.arrRef spec1 w))) ∗ (∃ W, owes (c : Thread nD τ) (0 : CellTallies nD τ sig Unit) W)
        ∗ (semVal (cell c (.reg barS)) 0 ∗ (bigSep Finset.univ fun k : Fin 4 => srcPts c k half (XE V₁ c))
          ∗ (bigSep Finset.univ fun k : Fin 4 => rPts c k (YE V₁ (pr c))) ∗ ∃ r, prngReg c r) ∗ beside V₁ c)
      ⊢ |={Set.univ}=> iprop(StableHlo.held (c : Thread nD τ) (Pipeline.ucRefs τ sig) (next V₁ c) ∗ behind c) := by
  unfold behind beside
  rw [StableHlo.held_sub_split (c : Thread nD τ) five_sub (next V₁ c), held_five, arrays1, halves, src_split c half, ← r_split,
    StableHlo.held_congr (c : Thread nD τ) (next_off V₁ c), next_ret, next_rows]
  iintro ⟨⟨H0, H1, H2, H3⟩, HO, ⟨HB, Hs, Hr, HP⟩, Hu, Hlo⟩
  imodintro
  isplitl [H0 H1 H2 H3 Hs Hr Hu Hlo]
  · isplitr [Hu]
    · isplitl [Hs Hlo H0]
      · isplitl [Hs Hlo]
        · isplitl [Hs]; · iexact Hs
          iexact Hlo
        iexact H0
      isplitl [H1]; · iexact H1
      isplitl [H2]; · iexact H2
      isplitl [H3] <;> iassumption
    iexact Hu
  isplitl [HB]; · iexact HB
  isplitl [HP] <;> iassumption

theorem owes_last (c : Dev nD) :
    (dat1 V₁ c).owesAt () (Fin.last cfg1.N) ⊢ iprop(∃ W, owes (c : Thread nD τ) (0 : CellTallies nD τ sig Unit) W) := by
  refine (owes_elim V₁ c (Fin.last cfg1.N)).trans ?_
  rw [show (Fin.last cfg1.N).val = 64 from rfl, owed1_end]

theorem own1 : Pipeline.OwnSemFacts spec1 osem1 where
  isScoped := by decide +kernel
  inj := osem1_inj
  disj := by decide +kernel

theorem final1_all (c : Dev nD) : ((dat1 V₁ c).arrAt · cfg1.N) = fun w => next V₁ c (Proc.devRef .tc (Pipeline.arrRef spec1 w)) := by
  funext w
  match w with
  | ⟨0, _⟩ => exact ((dat1 V₁ c).arrAt_in 0 rfl _).trans (next_rows V₁ c).symm
  | ⟨1, _⟩ => exact ((dat1 V₁ c).arrAt_in 1 rfl _).trans (next_of_ne V₁ c _ (by decide) (by decide) (by decide)).symm
  | ⟨2, _⟩ => exact ((dat1 V₁ c).arrAt_in 2 rfl _).trans (next_of_ne V₁ c _ (by decide) (by decide) (by decide)).symm
  | ⟨3, _⟩ => exact (final1 V₁ c).trans (next_out V₁ c).symm

/-- The middle call as a segment of @main. -/
def reg1 : Pipeline.RegionSeg (pcfgs (F := F)) adm (pdats V₀ V₁ V₂) () defs₀ Variants.none L lv 1 where
  win := launch1.win.to₀
  block_pos := launch1.block_pos
  stage_whole := launch1.stage_whole
  K := Fin 4 × Fin 4
  osem := osem1
  ho := own1
  hbody c := (body1 V₁ c).loose
  hwaits c := Pipeline.cellsWaits_intro (Pipeline.pin (pcfgs (F := F)) adm) (pdats V₀ V₁ V₂) () 1 c fun w s t =>
    MayOwe.of_cut 0 (fun q hq => by rw [Finset.mem_singleton.mp hq]; exact mem_L _ _ _)
      (fun g i hg => (owed1_level c t.val hg).1)
      (fun q hq => by rw [Finset.mem_singleton.mp hq]; exact lv_stage1 w s) (fun g i hg => (owed1_level c t.val hg).2)
  pre c := iprop(StableHlo.held (c : Thread nD τ) (Pipeline.ucRefs τ sig) (V₁ c) ∗ before V₁ c)
  post c := iprop(StableHlo.held (c : Thread nD τ) (Pipeline.ucRefs τ sig) (next V₁ c) ∗ behind c)
  X c := iprop(ready V₁ c ∗ (bigSep Finset.univ fun k : Fin 4 => srcPts c k half (XE V₁ c)) ∗ any c main_v32_1 ∗ ∃ r, prngReg c r)
  Y c := iprop(semVal (cell c (.reg barS)) 0 ∗ (bigSep Finset.univ fun k : Fin 4 => srcPts c k half (XE V₁ c))
    ∗ (bigSep Finset.univ fun k : Fin 4 => rPts c k (YE V₁ (pr c))) ∗ ∃ r, prngReg c r)
  Z c := beside V₁ c
  hentry c := by
    rw [Pipeline.prefHeld_of_none _ rfl]
    refine (enter V₁ c).trans (fupd_mono ?_)
    iintro ⟨HA, HO, HX, HZ⟩
    isplitl [HA]; · iexact HA
    isplitr; · iempintro
    isplitl [HO]; · iapply (owes_intro V₁ c 0); iexact HO
    isplitl [HX] <;> iassumption
  hin c := by
    rw [Pipeline.prefHeld_of_none _ rfl]
    show _ ⊢ iprop(held1 (XE V₁) (YE V₁) c 0 ∗ rest1 c ∗ ∃ r, prngReg c r)
    unfold held1
    rw [if_pos rfl]
    iintro ⟨⟨HR, Hs, Hr, HP⟩, -, Hsc⟩
    ihave Hsc := (scoped1 (F := F) c).1 $$ Hsc
    icases Hsc with ⟨Hx, Hy, Hrest⟩
    isplitl [HR Hs Hr Hx Hy]
    · iapply (start_all V₁ c)
      isplitl [HR]; · iexact HR
      isplitl [Hs]; · iexact Hs
      isplitl [Hr]; · iexact Hr
      isplitl [Hx] <;> iassumption
    isplitl [Hrest] <;> iassumption
  hout c := by
    show iprop(held1 (XE V₁) (YE V₁) c 64 ∗ rest1 c ∗ ∃ r, prngReg c r) ⊢ _
    unfold held1
    rw [if_neg (by decide), if_neg (by decide)]
    iintro ⟨HE, Hrest, HP⟩
    ihave HE := (end_all V₁ c) $$ HE
    icases HE with ⟨HB, HS, Hs, Hr, Hx, Hy⟩
    isplitl [HB Hs Hr HP]
    · isplitl [HB]; · iexact HB
      isplitl [Hs]; · iexact Hs
      isplitl [Hr] <;> iassumption
    isplitl [HS]; · iexact HS
    iapply (scoped1 (F := F) c).2
    isplitl [Hx]; · iexact Hx
    isplitl [Hy] <;> iassumption
  hexit c := by
    refine .trans ?_ (leave V₁ c)
    rw [show ((pdats V₀ V₁ V₂ 1 c).arrAt · (Pipeline.pin (pcfgs (F := F)) adm 1).N) = _ from final1_all V₁ c]
    iintro ⟨HA, HO, HY, HZ⟩
    isplitl [HA]; · iexact HA
    isplitl [HO]
    · iapply (owes_last V₁ c); iexact HO
    isplitl [HY] <;> iassumption

end Region

end Cert.KernelIdeal.Moe

end
-- ==== Proof.Calls.lean ====
/- The three calls as segments of the program, each over what it finds. -/
module

public import proofs.«01_k».proof.Proof.Call1
public import Idealize.ShloMosaic.Lib.Pipeline.RegionArraysS

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers between the calls -/

/-- After the first call. -/
def W5 : Vals F := fun c => Function.update (V4 m c) (Proc.devRef .tc main_v31) (xe (V4 m) c)
/-- After the middle call. -/
def W6 : Vals F := next (W5 m)
/-- Before the last call. -/
def W7 : Vals F := fun c => StableHlo.after hostOps2 (W6 m c)

/-- What each call leaves, by place. -/
def outs : Outs (F := F) := fun J r c =>
  if J = 5 then W5 m c (Proc.devRef .tc r)
  else if J = 6 then W6 m c (Proc.devRef .tc r)
  else Function.update (W7 m c) (Proc.devRef .tc main_v39) (out39 (W7 m) c) (Proc.devRef .tc r)

theorem V5_eq : V5 m (outs m) = W5 m := by
  funext c
  show Function.update (V4 m c) (Proc.devRef .tc main_v31) (outs m 5 main_v31 c) = W5 m c
  unfold outs
  rw [if_pos rfl]
  unfold W5
  rw [Function.update_self]

theorem V6_eq : V6 m (outs m) = W6 m := by
  funext c
  show Function.update (Function.update (Function.update (V5 m (outs m) c) (Proc.devRef .tc main_v32_0) (outs m 6 main_v32_0 c))
    (Proc.devRef .tc main_v31) (outs m 6 main_v31 c)) (Proc.devRef .tc main_v32_1) (outs m 6 main_v32_1 c) = W6 m c
  rw [V5_eq]
  unfold outs
  simp only [if_neg (show ¬ (6 : ℕ) = 5 by decide), if_pos]
  unfold W6
  rw [next_out, next_rows, next_ret]
  rfl

theorem V7_eq : V7 m (outs m) = W7 m := by
  funext c
  show StableHlo.after hostOps2 (V6 m (outs m) c) = W7 m c
  rw [V6_eq]
  rfl

theorem V8_out (c : Dev nD) : V8 m (outs m) c (Proc.devRef .tc main_v39) = out39 (W7 m) c := by
  show Function.update (V7 m (outs m) c) (Proc.devRef .tc main_v39) (outs m 8 main_v39 c) (Proc.devRef .tc main_v39) = _
  rw [Function.update_self]
  unfold outs
  rw [if_neg (by decide), if_neg (by decide), Function.update_self]

/-- The three calls' proof data at what each finds. -/
abbrev P3 := pdats (F := F) (V4 m) (W5 m) (W7 m)

/-! ## The first and the last call -/

theorem ref_of_uc {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

theorem keeps0 : ∀ (r : Ref sig .tc), r ≠ main_v31 → ∀ w, Pipeline.arrRef cfg0.spec w = r → (cfg0.win w).isOut = false := by
  rintro r h ⟨w, hw⟩ rfl
  match w, hw with
  | 0, _ => rfl
  | 1, _ => rfl
  | 2, _ => exact absurd rfl h

theorem left0 (c : Dev nD) : ∀ b ∈ Pipeline.ucRefs τ sig, Pipeline.afterRegion (P3 m 0 c) (V4 m c) b = W5 m c b := by
  intro b hb
  obtain ⟨r, rfl⟩ := ref_of_uc hb
  by_cases h : r = main_v31
  · subst h
    refine (Pipeline.afterRegion_arr (P3 m 0 c) (V4 m c) winFacts0.arr_inj 2).trans ?_
    refine (final0 (V4 m) O₀ c).trans ?_
    unfold W5
    rw [Function.update_self]
  · refine (Pipeline.afterRegion_keeps (P3 m 0 c) (V4 m c) winFacts0.arr_inj (A0_eq (V4 m) O₀ c) r (keeps0 r h)).trans ?_
    unfold W5
    rw [Function.update_of_ne (fun e => h (Proc.devRef_injective _ e))]

theorem keeps2 : ∀ (r : Ref sig .tc), r ≠ main_v39 → ∀ w, Pipeline.arrRef cfg2.spec w = r → (cfg2.win w).isOut = false := by
  rintro r h ⟨w, hw⟩ rfl
  match w, hw with
  | 0, _ => rfl
  | 1, _ => rfl
  | 2, _ => rfl
  | 3, _ => rfl
  | 4, _ => exact absurd rfl h

theorem left2 (c : Dev nD) : ∀ b ∈ Pipeline.ucRefs τ sig, Pipeline.afterRegion (P3 m 2 c) (W7 m c) b = V8 m (outs m) c b := by
  intro b hb
  obtain ⟨r, rfl⟩ := ref_of_uc hb
  by_cases h : r = main_v39
  · subst h
    rw [V8_out]
    exact (Pipeline.afterRegion_arr (P3 m 2 c) (W7 m c) winFacts2.arr_inj 4).trans (final2 (W7 m) (fun _ => 0) c)
  · refine (Pipeline.afterRegion_keeps (P3 m 2 c) (W7 m c) winFacts2.arr_inj (A2_eq (W7 m) (fun _ => 0) c) r (keeps2 r h)).trans ?_
    rw [V8_of m (outs m) c r (fun h' => h (List.mem_singleton.mp h')), V7_eq]

theorem cut0 : Pipeline.LevelCut (pcfgs (F := F)) adm () L lv 0 O₀ (fun _ => 0) where
  hι c w s := mem_L _ _ _
  hιb c w s := lv_stage0 w s
  hD c g i h := O₀_level c h

theorem cut2 : Pipeline.LevelCut (pcfgs (F := F)) adm () L lv 2 (fun _ => 0) (fun _ => 0) where
  hι c w s := mem_L _ _ _
  hιb c w s := lv_stage2 w s
  hD c g i h := absurd h (Nat.lt_irrefl 0)

/-- The generator's register. -/
def reg (c : Dev nD) : sProp 𝕄 := iprop(∃ r, prngReg c r)

/-- The first call as a segment of @main. -/
def reg0 : Pipeline.RegionSeg (pcfgs (F := F)) adm (P3 m) () defs₀ Variants.none L lv 0 :=
  Pipeline.RegionSeg.ofHeldIn (pcfgs (F := F)) adm (P3 m) () defs₀ Variants.none L lv 0 O₀ (Pipeline.ucRefs τ sig) reg reg
    launch0.toP rfl (fun c => (body0 (V4 m) O₀ c).loose) (fun _ _ => rfl) (fun _ => rfl) (fun _ w => by match w with | ⟨0, _⟩ => rfl | ⟨1, _⟩ => rfl | ⟨2, _⟩ => rfl)
    (fun _ => .rfl) (fun _ => .rfl) (fun _ => 0) cut0 (kept (W5 m)) (V4 m) (fun c w => A0_eq (V4 m) O₀ c w)

/-- The last call as a segment of @main. -/
def reg2 : Pipeline.RegionSeg (pcfgs (F := F)) adm (P3 m) () defs₀ Variants.none L lv 2 :=
  Pipeline.RegionSeg.ofHeldIn (pcfgs (F := F)) adm (P3 m) () defs₀ Variants.none L lv 2 (fun _ => 0) (Pipeline.ucRefs τ sig) reg reg
    launch2.toP rfl (fun c => (body2 (W7 m) (fun _ => 0) c).loose) (fun _ _ => rfl) (fun _ => rfl)
    (fun _ w => by match w with | ⟨0, _⟩ => rfl | ⟨1, _⟩ => rfl | ⟨2, _⟩ => rfl | ⟨3, _⟩ => rfl | ⟨4, _⟩ => rfl)
    (fun _ => .rfl) (fun _ => .rfl) (fun _ => 0) cut2 (fun c => semVal (cell c (.reg barS)) 0) (W7 m) (fun c w => A2_eq (W7 m) (fun _ => 0) c w)

/-- What rides along between the calls. -/
def E : Fin 4 → Dev nD → sProp 𝕄
  | ⟨0, _⟩ => before (W5 m)
  | ⟨1, _⟩ => before (W5 m)
  | ⟨2, _⟩ => behind
  | ⟨3, _⟩ => behind
  | ⟨_ + 4, h⟩ => absurd h (by omega)

theorem sub0 : Pipeline.arrRefs (pcfgs (F := F) 0).spec ⊆ Pipeline.ucRefs τ sig := Pipeline.arrRefs_sub_ucRefs spec0 winFacts0.arr_unscoped
theorem sub2 : Pipeline.arrRefs (pcfgs (F := F) 2).spec ⊆ Pipeline.ucRefs τ sig := Pipeline.arrRefs_sub_ucRefs spec2 winFacts2.arr_unscoped

theorem pre0 (c : Dev nD) : iprop(StableHlo.held (c : Thread nD τ) (Pipeline.ucRefs τ sig) (V4 m c) ∗ E m 0 c) ⊢ (reg0 m).pre c := by
  refine .trans ?_ (Pipeline.RegionSeg.ofHeldIn_pre (pcs := pcfgs (F := F)) (a := adm) (pdats := P3 m) (ι := ()) (defs₀ := defs₀) (𝒱₀ := Variants.none) (L := L) (lv := lv) (p := 0) (S := Pipeline.ucRefs τ sig) (X := reg) (Y := reg)
    (D := O₀) (R := kept (W5 m)) (W := V4 m) sub0 c)
  show iprop(_ ∗ before (W5 m) c) ⊢ _
  unfold before reg
  iintro ⟨H, HK, HP, HO⟩
  isplitl [H]; · iexact H
  isplitl [HO]; · iexact HO
  isplitl [HP] <;> iassumption

theorem post0 (c : Dev nD) : (reg0 m).post c ⊢ iprop(StableHlo.held (c : Thread nD τ) (Pipeline.ucRefs τ sig) (V5 m (outs m) c) ∗ E m 1 c) := by
  refine (Pipeline.RegionSeg.ofHeldIn_post (pcs := pcfgs (F := F)) (a := adm) (pdats := P3 m) (ι := ()) (defs₀ := defs₀) (𝒱₀ := Variants.none) (L := L) (lv := lv) (p := 0) (S := Pipeline.ucRefs τ sig) (X := reg) (Y := reg)
    (D := O₀) (R := kept (W5 m)) (W := V4 m) sub0 c).trans ?_
  show _ ⊢ iprop(_ ∗ before (W5 m) c)
  rw [StableHlo.held_congr (c : Thread nD τ) (left0 m c), V5_eq]
  unfold before reg
  iintro ⟨H, HO, HP, HK⟩
  isplitl [H]; · iexact H
  isplitl [HK]; · iexact HK
  isplitl [HP] <;> iassumption

theorem pre2 (c : Dev nD) : iprop(StableHlo.held (c : Thread nD τ) (Pipeline.ucRefs τ sig) (V7 m (outs m) c) ∗ E m 2 c) ⊢ (reg2 m).pre c := by
  refine .trans ?_ (Pipeline.RegionSeg.ofHeldIn_pre (pcs := pcfgs (F := F)) (a := adm) (pdats := P3 m) (ι := ()) (defs₀ := defs₀) (𝒱₀ := Variants.none) (L := L) (lv := lv) (p := 2) (S := Pipeline.ucRefs τ sig) (X := reg) (Y := reg)
    (D := fun _ => 0) (R := fun c => semVal (cell c (.reg barS)) 0) (W := W7 m) sub2 c)
  show iprop(_ ∗ behind c) ⊢ _
  rw [V7_eq]
  unfold behind reg
  iintro ⟨H, HK, HP, HO⟩
  isplitl [H]; · iexact H
  isplitl [HO]; · iexact HO
  isplitl [HP] <;> iassumption

theorem post2 (c : Dev nD) : (reg2 m).post c ⊢ iprop(StableHlo.held (c : Thread nD τ) (Pipeline.ucRefs τ sig) (V8 m (outs m) c) ∗ behind c) := by
  refine (Pipeline.RegionSeg.ofHeldIn_post (pcs := pcfgs (F := F)) (a := adm) (pdats := P3 m) (ι := ()) (defs₀ := defs₀) (𝒱₀ := Variants.none) (L := L) (lv := lv) (p := 2) (S := Pipeline.ucRefs τ sig) (X := reg) (Y := reg)
    (D := fun _ => 0) (R := fun c => semVal (cell c (.reg barS)) 0) (W := W7 m) sub2 c).trans ?_
  rw [StableHlo.held_congr (c : Thread nD τ) (left2 m c)]
  unfold behind reg
  iintro ⟨H, HO, HP, HK⟩
  isplitl [H]; · iexact H
  isplitl [HK]; · iexact HK
  isplitl [HP] <;> iassumption

theorem pre1 (c : Dev nD) : iprop(StableHlo.held (c : Thread nD τ) (Pipeline.ucRefs τ sig) (V5 m (outs m) c) ∗ E m 1 c) ⊢ (reg1 (V4 m) (W5 m) (W7 m)).pre c := by
  rw [V5_eq]; exact .rfl

theorem post1 (c : Dev nD) : (reg1 (V4 m) (W5 m) (W7 m)).post c ⊢ iprop(StableHlo.held (c : Thread nD τ) (Pipeline.ucRefs τ sig) (V6 m (outs m) c) ∗ E m 2 c) := by
  rw [V6_eq]; exact .rfl

end Cert.KernelIdeal.Moe

end
-- ==== Proof.Start.lean ====
/- The launch: every cell of the exchange funded, and its rights dealt among the devices. -/
module

public import proofs.«01_k».proof.Proof.Calls
public import Idealize.ShloMosaic.Harness.Basic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells at launch -/

theorem bar_ne (p : Fin 4 × Fin 4) : osem1 p ≠ .reg barS := fun h => by cases h

theorem cells_disj : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact bar_ne ck.2 (congrArg Prod.snd h)

/-- The one duty of every cell. -/
def tokEmb : GSem nD τ sig ↪ GSem nD τ sig × ℕ × Unit := ⟨fun g => (g, 0, ()), fun _ _ h => congrArg (fun x : GSem nD τ sig × ℕ × Unit => x.1) h⟩
def allToks : Finset (GSem nD τ sig × ℕ × Unit) := (barCells ∪ scCells).map tokEmb

/-- The transfer cells of one device, slice by slice. -/
theorem dev_cells (Φ : GSem nD τ sig → sProp 𝕄) (c : Dev nD) :
    bigSep Finset.univ (fun p : Fin 4 × Fin 4 => Φ (cell c (osem1 p)))
      = bigSep Finset.univ fun k : Fin 4 => iprop(Φ (cell c (.dma (xsS k))) ∗ Φ (cell c (.dma (xrS k))) ∗ Φ (cell c (.dma (ysS k))) ∗ Φ (cell c (.dma (yrS k)))) := by
  rw [bigSep_univ_prod, bigSep_fin4, bigSep_sep', bigSep_sep', bigSep_sep']
  rfl

theorem sc_cells (Φ : GSem nD τ sig → sProp 𝕄) :
    bigSep scCells Φ = bigSep Finset.univ fun c : Dev nD => bigSep Finset.univ fun k : Fin 4 =>
      iprop(Φ (cell c (.dma (xsS k))) ∗ Φ (cell c (.dma (xrS k))) ∗ Φ (cell c (.dma (ysS k))) ∗ Φ (cell c (.dma (yrS k)))) := by
  rw [bigSep_map, bigSep_univ_prod]
  exact bigSep_congr fun c _ => dev_cells Φ c

theorem bar_cells (Φ : GSem nD τ sig → sProp 𝕄) :
    bigSep barCells Φ = bigSep Finset.univ fun c : Dev nD => Φ (cell c (.reg barS)) := bigSep_map barEmb

abbrev tok (g : GSem nD τ sig) : sProp 𝕄 := dutyTok ER g 0 ()

/-- The duties each device pays: the departures its own, the arrivals its partner's. -/
def pays (c : Dev nD) : sProp 𝕄 :=
  iprop(tok (cell (pr c) (.reg barS)) ∗ bigSep Finset.univ fun k : Fin 4 =>
    iprop(tok (cell c (.dma (xsS k))) ∗ tok (cell (pr c) (.dma (xrS k))) ∗ tok (cell c (.dma (ysS k))) ∗ tok (cell (pr c) (.dma (yrS k)))))

theorem toks_dealt : bigSep allToks (fun x => (dutyTok ER x.1 x.2.1 x.2.2 : sProp 𝕄)) = bigSep Finset.univ fun c : Dev nD => (pays c : sProp 𝕄) := by
  unfold allToks pays
  rw [bigSep_map, BI.bigSep_union cells_disj, bigSep_sep']
  refine congrArg₂ (fun a b : sProp 𝕄 => iprop(a ∗ b)) ?_ ?_
  · refine (bar_cells (F := F) fun g => tok g).trans ?_
    exact bigSep_univ_equiv swap fun c : Dev nD => (tok (cell c (.reg barS)) : sProp 𝕄)
  · refine (sc_cells (F := F) fun g => tok g).trans ?_
    simp only [bigSep_sep']
    rw [bigSep_univ_equiv swap fun c : Dev nD => bigSep Finset.univ fun k : Fin 4 => (tok (cell c (.dma (xrS k))) : sProp 𝕄),
      bigSep_univ_equiv swap fun c : Dev nD => bigSep Finset.univ fun k : Fin 4 => (tok (cell c (.dma (yrS k))) : sProp 𝕄)]
    rfl

/-! ## What each device is owed -/

theorem rS_inj : Function.Injective rS := fun p q h => by
  have h' : (rS p).val = (rS q).val := congrArg Fin.val h
  rw [rS_val, rS_val] at h'
  exact Prod.ext (Fin.ext (by omega)) (Fin.ext (by omega))

theorem cell_inj {c d : Dev nD} {s t : SemLoc sig} (h : cell c s = cell d t) : c = d ∧ s = t :=
  ⟨congrArg (fun g : GSem nD τ sig => g.1.1) h, congrArg Prod.snd h⟩

theorem pr_iff (c d : Dev nD) : c = pr d ↔ d = pr c := ⟨fun h => by rw [h, pr_pr], fun h => by rw [h, pr_pr]⟩

theorem due_at (d c : Dev nD) (p : Fin 2 × Fin 4) : due d Finset.univ (cell c (.dma (rS p))) () = if d = pr c then N else 0 := by
  unfold due
  rw [Finset.sum_apply, Finsupp.finset_sum_apply, Finset.sum_eq_single p]
  · rw [tallyAt_apply]
    by_cases h : d = pr c
    · subst h; rw [pr_pr, if_pos ⟨rfl, rfl⟩, if_pos rfl]
    · rw [if_neg fun e => h ((pr_iff c d).mp (cell_inj e.1).1), if_neg h]
  · intro q _ hq
    rw [tallyAt_apply, if_neg fun e => hq (rS_inj (SemLoc.dma.inj (cell_inj e.1).2)).symm]
  · exact fun h => absurd (Finset.mem_univ p) h

theorem due_bar (d c : Dev nD) : due d Finset.univ (cell c (.reg barS)) () = 0 := by
  unfold due
  rw [Finset.sum_apply, Finsupp.finset_sum_apply]
  exact Finset.sum_eq_zero fun q _ => by
    rw [tallyAt_apply, if_neg fun e => by cases (cell_inj e.1).2]

theorem owed_bar (d c : Dev nD) : O₀ d (cell c (.reg barS)) () = if d = pr c then 1 else 0 := by
  unfold O₀
  rw [Pi.add_apply, Finsupp.add_apply, due_bar, Nat.zero_add, tallyAt_apply]
  by_cases h : d = pr c
  · subst h; rw [pr_pr, if_pos ⟨rfl, rfl⟩, if_pos rfl]
  · rw [if_neg fun e => h ((pr_iff c d).mp (cell_inj e.1).1), if_neg h]

theorem owed_recv (d c : Dev nD) (p : Fin 2 × Fin 4) : O₀ d (cell c (.dma (rS p))) () = if d = pr c then N else 0 := by
  unfold O₀
  rw [Pi.add_apply, Finsupp.add_apply, due_at, tallyAt_apply, if_neg (show ¬ (cell c (.dma (rS p)) = cell (pr d) (.reg barS) ∧ () = ()) from fun e => by cases (cell_inj e.1).2)]
  exact Nat.add_zero _

theorem credit_of (c : Dev nD) (sm : SemLoc sig) (n : ℕ) (h : ∀ d, O₀ d (cell c sm) () = if d = pr c then n else 0) :
    tallyOn (cell c sm) (launchCredit (Pipeline.owing O₀) 0 (cell c sm)) = (tallyAt (cell c sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

def rEmb : Fin 2 × Fin 4 ↪ SemLoc sig := ⟨fun p => .dma (rS p), fun _ _ h => rS_inj (SemLoc.dma.inj h)⟩

/-- The units a device is owed. -/
def credits (c : Dev nD) : sProp 𝕄 :=
  iprop(cred (tallyAt (cell c (.reg barS)) () 1) ∗ bigSep Finset.univ fun k : Fin 4 =>
    iprop(cred (tallyAt (cell c (.dma (xrS k))) () N) ∗ cred (tallyAt (cell c (.dma (yrS k))) () N)))

theorem recv_credits (c : Dev nD) :
    bigSep (Finset.univ.map rEmb) (fun sm : SemLoc sig => (cred (tallyOn (cell c sm) (launchCredit (Pipeline.owing O₀) 0 (cell c sm))) : sProp 𝕄))
      = bigSep Finset.univ fun k : Fin 4 => iprop(cred (tallyAt (cell c (.dma (xrS k))) () N) ∗ cred (tallyAt (cell c (.dma (yrS k))) () N)) := by
  rw [bigSep_map, bigSep_congr (s := Finset.univ) (Ψ := fun p : Fin 2 × Fin 4 => (cred (tallyAt (cell c (.dma (rS p))) () N) : sProp 𝕄)) fun p _ => by
      show cred (tallyOn (cell c (.dma (rS p))) (launchCredit (Pipeline.owing O₀) 0 (cell c (.dma (rS p))))) = _
      rw [credit_of c (.dma (rS p)) N fun d => owed_recv d c p],
    bigSep_univ_prod, BI.bigSep_fin_two, bigSep_sep']
  rfl

theorem creds (c : Dev nD) : (Pipeline.launchCred O₀ c : sProp 𝕄) ⊢ credits c := by
  unfold Pipeline.launchCred credits
  rw [bigSep_univ_at _ (SemLoc.reg barS), credit_of c (.reg barS) 1 fun d => owed_bar d c]
  refine sep_mono_right ?_
  rw [← recv_credits]
  refine bigSep_subset fun sm h => ?_
  obtain ⟨p, -, rfl⟩ := Finset.mem_map.mp h
  exact Finset.mem_erase.mpr ⟨fun e => (by cases e), Finset.mem_univ _⟩

theorem unscoped_only : (Finset.univ.filter fun sm : SemLoc sig => ¬ sm.isScoped .tc) = {SemLoc.reg barS} := by decide +kernel
theorem unscoped_is : ∀ sm : SemLoc sig, sm.isScoped .tc = false → sm = .reg barS := by decide +kernel

theorem unscopedSems_eq (c : Dev nD) : (unscopedSems0 c : sProp 𝕄) = semVal (cell c (.reg barS)) 0 := by
  unfold unscopedSems0
  rw [unscoped_only, BI.bigSep_singleton]

/-! ## The launch -/

/-- The launch's ghost element: the pipelines' staging cells, and the exchange's. -/
def u₀ : UU := (initOf (Pipeline.cells cfgs cellOf_inj) (Pipeline.launchToks cfgs cellOf_inj), launchOf barCells scCells allToks)

/-- Everything on one device, until it is dealt. -/
def parked (X : sProp 𝕄) (c : Dev nD) : sProp 𝕄 := if c = 0 then X else iprop(emp)
theorem parked_eq (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def ghost0 : Dev nD → sProp 𝕄 := parked (BI.own (ER (launchOf barCells scCells allToks)))

variable (V : Vals F) (ρ : Dev nD → PrngReg)

/-- Known to all: the invariants, and that every barrier cell is open. -/
def records (κ : GSem nD τ sig → ℕ) : sProp 𝕄 :=
  iprop(allInv (XE V) (YE V) κ ∗ bigSep barCells fun g => reached ER g 0)

instance records_persistent (κ : GSem nD τ sig → ℕ) : BI.Persistent (records V κ) := by unfold records; infer_instance

/-- One device's part. -/
def part (c : Dev nD) : sProp 𝕄 :=
  iprop(atPos ER (cell c (.reg barS)) 0 ∅ 0 ∗ (bigSep Finset.univ fun k : Fin 4 =>
      iprop(openTok ER (cell c (.dma (xsS k))) ∗ openTok ER (cell c (.dma (xrS k))) ∗ openTok ER (cell c (.dma (ysS k))) ∗ openTok ER (cell c (.dma (yrS k)))))
    ∗ pays c)

/-- What a device brings of its own. -/
def brings (c : Dev nD) : sProp 𝕄 :=
  iprop(credits c ∗ prngReg c (ρ c) ∗ owes (c : Thread nD τ) (O₀ c) ∅)

theorem keptK_intro (c : Dev nD) (k : Fin 4) :
    iprop((openTok ER (cell c (.dma (xsS k))) ∗ openTok ER (cell c (.dma (xrS k))) ∗ openTok ER (cell c (.dma (ysS k))) ∗ openTok ER (cell c (.dma (yrS k))))
      ∗ ((tok (cell c (.dma (xsS k))) ∗ tok (cell (pr c) (.dma (xrS k))) ∗ tok (cell c (.dma (ysS k))) ∗ tok (cell (pr c) (.dma (yrS k))))
      ∗ (cred (tallyAt (cell c (.dma (xrS k))) () N) ∗ cred (tallyAt (cell c (.dma (yrS k))) () N))))
      ⊢ (keptK c k : sProp 𝕄) := by
  unfold keptK; exact .rfl

theorem deal (κ : GSem nD τ sig → ℕ) (c : Dev nD) : iprop(records V κ ∗ (part c ∗ brings ρ c)) ⊢ before V c := by
  unfold records part brings before kept barC pays credits
  iintro ⟨⟨#HI, #HR⟩, ⟨Ha, Ho, Hb, Ht⟩, ⟨Hcb, Hc⟩, HP, HO⟩
  isplitr [HP HO]
  · iexists κ
    isplitr; · iexact HI
    isplitl [Ha Hb Hcb]
    · isplitl [Ha]; · iexact Ha
      isplitr
      · iapply (show (bigSep barCells fun g => (reached ER g 0 : sProp 𝕄)) ⊢ reached ER (cell (pr c) (.reg barS)) 0 from
          bigSep_elim (Finset.mem_map_of_mem barEmb (Finset.mem_univ (pr c))))
        iexact HR
      isplitl [Hb] <;> iassumption
    iapply (show _ ⊢ bigSep Finset.univ (keptK (F := F) c) from bigSep_mono fun k _ => keptK_intro c k)
    iapply Smoke.bigSep_pair
    isplitl [Ho]; · iexact Ho
    iapply Smoke.bigSep_pair
    isplitl [Ht] <;> iassumption
  isplitl [HP]; · iexists _; iexact HP
  iexists _; iexact HO

theorem brings_intro (c : Dev nD) :
    iprop(unscopedSems0 c ∗ owes (c : Thread nD τ) (O₀ c) ∅ ∗ Pipeline.launchCred O₀ c ∗ prngReg c (ρ c) ∗ ghost0 c)
      ⊢ (iprop(brings ρ c ∗ (semVal (cell c (.reg barS)) 0 ∗ ghost0 c)) : sProp 𝕄) := by
  rw [unscopedSems_eq]
  unfold brings
  iintro ⟨Hs, HO, Hc, HP, HG⟩
  isplitr [Hs HG]
  · isplitl [Hc]; · iapply (creds (F := F) c) $$ Hc
    isplitl [HP] <;> iassumption
  isplitl [Hs] <;> iassumption

theorem start :
    iprop((bigSep Finset.univ fun c : Dev nD => iprop(unscopedSems0 c ∗ owes (c : Thread nD τ) (O₀ c) ∅ ∗ Pipeline.launchCred O₀ c ∗ prngReg c (ρ c) ∗ ghost0 c)) ∗ levAts L lv)
      ⊢ (|={Set.univ}=> bigSep Finset.univ (before V) : sProp 𝕄) := by
  iintro ⟨H, -⟩
  ihave H := (show (bigSep Finset.univ fun c : Dev nD => iprop(unscopedSems0 c ∗ owes (c : Thread nD τ) (O₀ c) ∅ ∗ Pipeline.launchCred O₀ c ∗ prngReg c (ρ c) ∗ ghost0 c))
      ⊢ (bigSep Finset.univ fun c : Dev nD => iprop(brings ρ c ∗ (semVal (cell c (.reg barS)) 0 ∗ ghost0 c)) : sProp 𝕄) from bigSep_mono fun c _ => brings_intro ρ c) $$ H
  ihave H := Smoke.bigSep_unpair $$ H; icases H with ⟨HB, H⟩
  ihave H := Smoke.bigSep_unpair $$ H; icases H with ⟨Hv, HG⟩
  ihave Hu := (show bigSep Finset.univ (ghost0 (F := F)) ⊢ BI.own (ER (launchOf barCells scCells allToks)) from Entails.of_eq (parked_eq _)) $$ HG
  imod (Rounds.fund_launch ER (rd (XE V) (YE V)) cells_disj (fun g _ h => h) allToks) $$ [Hv Hu] with ⟨%κ, -, #Hinv, #Hr, Hat, Hopen, Htok⟩
  · isplitl [Hv]
    · iapply (Entails.of_eq (bar_cells (F := F) fun g => semVal g 0).symm) $$ Hv
    · iexact Hu
  imodintro
  iapply (bigSep_with_persistent (R := records V κ) (Φ := fun c => iprop(part c ∗ brings ρ c)) fun c _ => deal V ρ κ c)
  isplitr
  · unfold records allInv
    isplitr; · iexact Hinv
    iexact Hr
  iapply Smoke.bigSep_pair
  isplitr [HB]
  · unfold part
    iapply Smoke.bigSep_pair; isplitl [Hat]; · iapply (Entails.of_eq (bar_cells (F := F) fun g => atPos ER g 0 ∅ 0)) $$ Hat
    iapply Smoke.bigSep_pair; isplitl [Hopen]; · iapply (Entails.of_eq (sc_cells (F := F) fun g => openTok ER g)) $$ Hopen
    iapply (Entails.of_eq (toks_dealt (F := F))) $$ Htok
  · iexact HB

end Cert.KernelIdeal.Moe

end
-- ==== Proof.Run.lean ====
/- The run of the whole program. -/
module

public import proofs.«01_k».proof.Proof.Start

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The program, item by item. -/
abbrev items (c : Dev nD) := segs m (outs m) Variants.none L lv (E m) () (P3 m) (reg0 m) (reg1 (V4 m) (W5 m) (W7 m)) (reg2 m) c

/-- What a device ends with. -/
def ends (c : Dev nD) : sProp 𝕄 :=
  iprop(StableHlo.held (c : Thread nD τ) (Pipeline.ucRefs τ sig) (V8 m (outs m) c) ∗ semVal (cell c (.reg barS)) 0)

theorem ends_intro (c : Dev nD) :
    iprop(StableHlo.held (c : Thread nD τ) (Pipeline.ucRefs τ sig) (V8 m (outs m) c) ∗ behind c)
      ⊢ (iprop(ends m c ∗ ∃ W, owes (c : Thread nD τ) (0 : CellTallies nD τ sig Unit) W) : sProp 𝕄) := by
  unfold ends behind
  iintro ⟨H, HB, HP, HO⟩
  isplitr [HO]
  · isplitl [H] <;> iassumption
  · iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost0 c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hs : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ ghost0 c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ ghost0 c)) : sProp 𝕄) := by
    rw [← bigSep_sep']
    exact bigSep_mono fun c _ => by
      rw [← Pipeline.unscopedBufs_held (Ix := Unit) (Name := ℕ) (U := UU) (Lvl := ℕ) c (V0 m c)]
      exact BI.Entails.refl _
  iintro ⟨H, HL⟩
  ihave H := hs $$ H
  icases H with ⟨Hh, Hr⟩
  imod (start (W5 m) ρ) $$ [Hr HL] with HE
  · isplitl [Hr] <;> iassumption
  imodintro
  iapply Smoke.bigSep_pair
  isplitl [Hh]; · iexact Hh
  iexact HE

/-- What is read off a final state of one device. -/
def seen (c : Dev nD) (s : MemSt nD τ sig (Elt F)) : Prop :=
  (s.mem ((c.tc : Thread nD τ).loc main_v39) = out39 (W7 m) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.sem (cell c (.reg barS)) = 0

theorem uc_mem {r : Ref sig .tc} (h : r.isScoped = false) : Proc.devRef (τ := τ) .tc r ∈ Pipeline.ucRefs τ sig :=
  Finset.mem_filter.mpr ⟨StableHlo.devRef_mem_tcRefs r, fun h' => Bool.false_ne_true (h.symm.trans h')⟩

theorem fin (c : Dev nD) (s' : Phys nD τ sig (Elt F)) : (iprop(ends m c ∗ SI s') : sProp 𝕄) ⊢ |={Set.univ}=> iprop(⌜seen m c s'.mem⌝ ∗ SI s') := by
  unfold ends StableHlo.held
  iintro ⟨⟨Hh, Hb⟩, HSI⟩
  icombine HSI Hb gives %hb
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨⟨(h _ (uc_mem (r := main_v39) (by decide))).trans (V8_out m c),
      (h _ (uc_mem (r := main_arg0) (by decide))).trans (V8_main_arg0 m (outs m) c),
      (h _ (uc_mem (r := main_arg1) (by decide))).trans (V8_main_arg1 m (outs m) c),
      (h _ (uc_mem (r := main_arg2) (by decide))).trans (V8_main_arg2 m (outs m) c),
      (h _ (uc_mem (r := main_arg3) (by decide))).trans (V8_main_arg3 m (outs m) c)⟩, by simpa using hb⟩
  iexact HSI

theorem dealt :
    (ownU u₀ : sProp 𝕄) ⊢ |={Set.univ}=> iprop(BI.own (EP (initOf (Pipeline.cells cfgs cellOf_inj) (Pipeline.launchToks cfgs cellOf_inj))) ∗ bigSep Finset.univ (ghost0 (F := F))) := by
  unfold u₀ ghost0
  rw [parked_eq]
  iintro Hu
  ihave H := (ownU_pair _ _) $$ Hu
  icases H with ⟨HP, HX⟩
  imodintro
  isplitl [HP] <;> iassumption

set_option backward.isDefEq.respectTransparency.types false in
/-- The run of the program on the mesh: it ends, with every device's output at its value, the arguments as they were, and every counter at zero. -/
theorem run_main : θ_run (defs (F := F)) (onTc (τ := τ) (main (F := F))) ⟨m, fun _ => 0, ρ⟩
    (fun r => (∀ c : Dev nD, r.2.mem ((c.tc : Thread nD τ).loc main_v39) = out39 (W7 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (P3 m) () cellOf_inj EP defs₀ Variants.none L lv m ρ main (items m)
    (fun c Q => by
      rewrite [main_chain c, Pipeline.Seg.run_eq_chain,
        show (items m c).map Pipeline.Seg.prog = [
          StableHlo.seq (hostOps0 c),
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [items, segs, Pipeline.Seg.pipes_host, Pipeline.Seg.pipes_region, Pipeline.Seg.pipes_nil]; decide)
    O₀ L_of_ne ghost0 u₀ dealt
    (T₀ := fun c => iprop(StableHlo.held (c : Thread nD τ) (Pipeline.ucRefs τ sig) (V0 m c) ∗ E m 0 c)) (Tₙ := ends m)
    (hch := fun c => ⟨.rfl, .rfl, .rfl, .rfl, pre0 m c, (post0 m c).trans (pre1 m c), post1 m c, pre2 m c, (post2 m c).trans (ends_intro m c)⟩)
    (hinit := init m ρ) (QY := seen m) (hfin := fin m) (hQ := fun s h hs => ⟨fun c => (h c).1, ?_⟩)
  exact sem_eq_zero hs fun c sm hsm => by
    obtain rfl := unscoped_is sm hsm
    exact (h c).2

end Cert.KernelIdeal.Moe

end
-- ==== Proof.Ref.lean ====
/-
  The run of the reference program: one straight line of host operations on one device, two for the array of zeros and fifteen for each of the eight experts.
-/
module

public import Idealize.ShloMosaic.Lib.StableHlo.Run
public import Idealize.ShloMosaic.Lib.Quiescent
public import Idealize.ShloMosaic.Init
public import proofs.«01_k».proof.Proof.Gen.ReferenceIdeal

@[expose] public section

noncomputable section

namespace Cert.ReferenceIdeal.Dense

open Cert.ReferenceIdeal Cert.ReferenceIdeal.Gen
open Idealize.ShloMosaic Idealize.ShloMosaic.TcCoe Idealize.ShloMosaic.StableHlo Idealize.SL.Sem

variable {F : FTy → Type} [FloatOps F]

/-- The buffers of one expert's fifteen operations, in order. -/
structure Bufs where
  w1s : TRef sig ⟨S1x2048x4096, .f32⟩
  w1 : TRef sig ⟨S2048x4096, .f32⟩
  h : TRef sig ⟨S8192x4096, .f32⟩
  z : TRef sig ⟨S_, .f32⟩
  zs : TRef sig ⟨S8192x4096, .f32⟩
  hr : TRef sig ⟨S8192x4096, .f32⟩
  e : TRef sig ⟨S_, .i32⟩
  es : TRef sig ⟨S8192, .i32⟩
  hit : TRef sig ⟨S8192, .i1⟩
  hit1 : TRef sig ⟨S8192x1, .i1⟩
  w2s : TRef sig ⟨S1x4096x2048, .f32⟩
  w2 : TRef sig ⟨S4096x2048, .f32⟩
  y : TRef sig ⟨S8192x2048, .f32⟩
  hits : TRef sig ⟨S8192x2048, .i1⟩
  out : TRef sig ⟨S8192x2048, .f32⟩

/-- The arguments. -/
abbrev rX : TRef sig ⟨S8192x2048, .f32⟩ := .of main_arg0
abbrev rA : TRef sig ⟨S8192, .i32⟩ := .of main_arg1
abbrev rV : TRef sig ⟨S8x2048x4096, .f32⟩ := .of main_arg2
abbrev rW : TRef sig ⟨S8x4096x2048, .f32⟩ := .of main_arg3

/-- One expert's operations: its two products of the tokens, and the rows of its tokens replaced. -/
abbrev expert (n : Nat) (h1 : S8x2048x4096.Slices ![n, 0, 0] S1x2048x4096) (h2 : S8x4096x2048.Slices ![n, 0, 0] S1x4096x2048)
    (prev : TRef sig ⟨S8192x2048, .f32⟩) (b : Bufs) : List (HloOp τ sig (Elt F)) :=
  [ TRef.unary rV b.w1s (fun v => extractStridedSlice S1x2048x4096 ![n, 0, 0] v h1),
    TRef.reshape b.w1s b.w1 rfl shapeCasts_S1x2048x4096_S2048x4096,
    TRef.binary rX b.w1 b.h (fun l r => Host.dotGeneral dot_S8192x2048_S2048x4096_S8192x4096_1_0_0_1_n_n none l r),
    TRef.nullary b.z (constant S_ .f32 0x00000000#32),
    TRef.unary b.z b.zs (broadcastInDim S8192x4096 ![] bcast_S_S8192x4096),
    TRef.binary b.h b.zs b.hr maximumf,
    TRef.nullary b.e (constantI S_ 32 (BitVec.ofNat 32 n)),
    TRef.unary b.e b.es (broadcastInDim S8192 ![] bcast_S_S8192),
    TRef.binary rA b.es b.hit (cmpi .eq),
    TRef.unary b.hit b.hit1 (broadcastInDim S8192x1 ![0] bcast_S8192_S8192x1_0),
    TRef.unary rW b.w2s (fun v => extractStridedSlice S1x4096x2048 ![n, 0, 0] v h2),
    TRef.reshape b.w2s b.w2 rfl shapeCasts_S1x4096x2048_S4096x2048,
    TRef.binary b.hr b.w2 b.y (fun l r => Host.dotGeneral dot_S8192x4096_S4096x2048_S8192x2048_1_0_0_1_n_n none l r),
    TRef.unary b.hit1 b.hits (broadcastInDim S8192x2048 ![0, 1] bcast_S8192x1_S8192x2048_0_1),
    TRef.ternary b.hits b.y prev b.out select ]

/-- The array after one expert, from the array before it. -/
abbrev stage (n : Nat) (h1 : S8x2048x4096.Slices ![n, 0, 0] S1x2048x4096) (h2 : S8x4096x2048.Slices ![n, 0, 0] S1x4096x2048)
    (x : FVec F S8192x2048 .f32) (a : IVec S8192 32) (w1 : FVec F S8x2048x4096 .f32) (w2 : FVec F S8x4096x2048 .f32)
    (prev : FVec F S8192x2048 .f32) : FVec F S8192x2048 .f32 :=
  select
    (broadcastInDim S8192x2048 ![0, 1] bcast_S8192x1_S8192x2048_0_1 (broadcastInDim S8192x1 ![0] bcast_S8192_S8192x1_0
      (cmpi .eq a (broadcastInDim S8192 ![] bcast_S_S8192 (constantI S_ 32 (BitVec.ofNat 32 n))))))
    (Host.dotGeneral dot_S8192x4096_S4096x2048_S8192x2048_1_0_0_1_n_n none
      (maximumf (Host.dotGeneral dot_S8192x2048_S2048x4096_S8192x4096_1_0_0_1_n_n none x
          (shapeCast S2048x4096 (extractStridedSlice S1x2048x4096 ![n, 0, 0] w1 h1) shapeCasts_S1x2048x4096_S2048x4096))
        (broadcastInDim S8192x4096 ![] bcast_S_S8192x4096 (constant S_ .f32 0x00000000#32)))
      (shapeCast S4096x2048 (extractStridedSlice S1x4096x2048 ![n, 0, 0] w2 h2) shapeCasts_S1x4096x2048_S4096x2048))
    prev

/-- The operations before the experts: the array of zeros. -/
abbrev zeros : List (HloOp τ sig (Elt F)) :=
  [ TRef.nullary (.of main_cst : TRef sig ⟨S_, .f32⟩) (constant S_ .f32 0x00000000#32),
    TRef.unary (.of main_cst : TRef sig ⟨S_, .f32⟩) (.of main_v0 : TRef sig ⟨S8192x2048, .f32⟩) (broadcastInDim S8192x2048 ![] bcast_S_S8192x2048) ]

/-- Expert 0's buffers and operations. -/
abbrev b0 : Bufs := ⟨.of main_v1, .of main_v2, .of main_v3, .of main_cst_0, .of main_v4, .of main_v5, .of main_c, .of main_v6, .of main_v7, .of main_v8, .of main_v9, .of main_v10, .of main_v11, .of main_call0_v0, .of main_v12⟩
abbrev ops0 : List (HloOp τ sig (Elt F)) := expert 0 slices_S8x2048x4096_S1x2048x4096_0_0_0 slices_S8x4096x2048_S1x4096x2048_0_0_0 (.of main_v0) b0

/-- Expert 1's buffers and operations. -/
abbrev b1 : Bufs := ⟨.of main_v13, .of main_v14, .of main_v15, .of main_cst_1, .of main_v16, .of main_v17, .of main_c_2, .of main_v18, .of main_v19, .of main_v20, .of main_v21, .of main_v22, .of main_v23, .of main_call1_v0, .of main_v24⟩
abbrev ops1 : List (HloOp τ sig (Elt F)) := expert 1 slices_S8x2048x4096_S1x2048x4096_1_0_0 slices_S8x4096x2048_S1x4096x2048_1_0_0 (.of main_v12) b1

/-- Expert 2's buffers and operations. -/
abbrev b2 : Bufs := ⟨.of main_v25, .of main_v26, .of main_v27, .of main_cst_3, .of main_v28, .of main_v29, .of main_c_4, .of main_v30, .of main_v31, .of main_v32, .of main_v33, .of main_v34, .of main_v35, .of main_call2_v0, .of main_v36⟩
abbrev ops2 : List (HloOp τ sig (Elt F)) := expert 2 slices_S8x2048x4096_S1x2048x4096_2_0_0 slices_S8x4096x2048_S1x4096x2048_2_0_0 (.of main_v24) b2

/-- Expert 3's buffers and operations. -/
abbrev b3 : Bufs := ⟨.of main_v37, .of main_v38, .of main_v39, .of main_cst_5, .of main_v40, .of main_v41, .of main_c_6, .of main_v42, .of main_v43, .of main_v44, .of main_v45, .of main_v46, .of main_v47, .of main_call3_v0, .of main_v48⟩
abbrev ops3 : List (HloOp τ sig (Elt F)) := expert 3 slices_S8x2048x4096_S1x2048x4096_3_0_0 slices_S8x4096x2048_S1x4096x2048_3_0_0 (.of main_v36) b3

/-- Expert 4's buffers and operations. -/
abbrev b4 : Bufs := ⟨.of main_v49, .of main_v50, .of main_v51, .of main_cst_7, .of main_v52, .of main_v53, .of main_c_8, .of main_v54, .of main_v55, .of main_v56, .of main_v57, .of main_v58, .of main_v59, .of main_call4_v0, .of main_v60⟩
abbrev ops4 : List (HloOp τ sig (Elt F)) := expert 4 slices_S8x2048x4096_S1x2048x4096_4_0_0 slices_S8x4096x2048_S1x4096x2048_4_0_0 (.of main_v48) b4

/-- Expert 5's buffers and operations. -/
abbrev b5 : Bufs := ⟨.of main_v61, .of main_v62, .of main_v63, .of main_cst_9, .of main_v64, .of main_v65, .of main_c_10, .of main_v66, .of main_v67, .of main_v68, .of main_v69, .of main_v70, .of main_v71, .of main_call5_v0, .of main_v72⟩
abbrev ops5 : List (HloOp τ sig (Elt F)) := expert 5 slices_S8x2048x4096_S1x2048x4096_5_0_0 slices_S8x4096x2048_S1x4096x2048_5_0_0 (.of main_v60) b5

/-- Expert 6's buffers and operations. -/
abbrev b6 : Bufs := ⟨.of main_v73, .of main_v74, .of main_v75, .of main_cst_11, .of main_v76, .of main_v77, .of main_c_12, .of main_v78, .of main_v79, .of main_v80, .of main_v81, .of main_v82, .of main_v83, .of main_call6_v0, .of main_v84⟩
abbrev ops6 : List (HloOp τ sig (Elt F)) := expert 6 slices_S8x2048x4096_S1x2048x4096_6_0_0 slices_S8x4096x2048_S1x4096x2048_6_0_0 (.of main_v72) b6

/-- Expert 7's buffers and operations. -/
abbrev b7 : Bufs := ⟨.of main_v85, .of main_v86, .of main_v87, .of main_cst_13, .of main_v88, .of main_v89, .of main_c_14, .of main_v90, .of main_v91, .of main_v92, .of main_v93, .of main_v94, .of main_v95, .of main_call7_v0, .of main_v96⟩
abbrev ops7 : List (HloOp τ sig (Elt F)) := expert 7 slices_S8x2048x4096_S1x2048x4096_7_0_0 slices_S8x4096x2048_S1x4096x2048_7_0_0 (.of main_v84) b7

/-- @main's operations, in order. -/
abbrev ops : List (HloOp τ sig (Elt F)) := zeros ++ (ops0 ++ (ops1 ++ (ops2 ++ (ops3 ++ (ops4 ++ (ops5 ++ (ops6 ++ ops7)))))))

set_option maxHeartbeats 4000000 in
set_option maxRecDepth 20000 in
/-- @main is that straight line. -/
theorem main_eq (c : Dev nD) : main (F := F) c = seq ops := rfl
theorem ops0_eq (V : Valuation τ sig (Elt F)) :
    after ops0 V (main_v12 : DevRef τ sig) = stage 0 slices_S8x2048x4096_S1x2048x4096_0_0_0 slices_S8x4096x2048_S1x4096x2048_0_0_0
      (V (main_arg0 : DevRef τ sig)) (V (main_arg1 : DevRef τ sig)) (V (main_arg2 : DevRef τ sig)) (V (main_arg3 : DevRef τ sig)) (V (main_v0 : DevRef τ sig)) := by
  after_results
  rfl

theorem ops1_eq (V : Valuation τ sig (Elt F)) :
    after ops1 V (main_v24 : DevRef τ sig) = stage 1 slices_S8x2048x4096_S1x2048x4096_1_0_0 slices_S8x4096x2048_S1x4096x2048_1_0_0
      (V (main_arg0 : DevRef τ sig)) (V (main_arg1 : DevRef τ sig)) (V (main_arg2 : DevRef τ sig)) (V (main_arg3 : DevRef τ sig)) (V (main_v12 : DevRef τ sig)) := by
  after_results
  rfl

theorem ops2_eq (V : Valuation τ sig (Elt F)) :
    after ops2 V (main_v36 : DevRef τ sig) = stage 2 slices_S8x2048x4096_S1x2048x4096_2_0_0 slices_S8x4096x2048_S1x4096x2048_2_0_0
      (V (main_arg0 : DevRef τ sig)) (V (main_arg1 : DevRef τ sig)) (V (main_arg2 : DevRef τ sig)) (V (main_arg3 : DevRef τ sig)) (V (main_v24 : DevRef τ sig)) := by
  after_results
  rfl

theorem ops3_eq (V : Valuation τ sig (Elt F)) :
    after ops3 V (main_v48 : DevRef τ sig) = stage 3 slices_S8x2048x4096_S1x2048x4096_3_0_0 slices_S8x4096x2048_S1x4096x2048_3_0_0
      (V (main_arg0 : DevRef τ sig)) (V (main_arg1 : DevRef τ sig)) (V (main_arg2 : DevRef τ sig)) (V (main_arg3 : DevRef τ sig)) (V (main_v36 : DevRef τ sig)) := by
  after_results
  rfl

theorem ops4_eq (V : Valuation τ sig (Elt F)) :
    after ops4 V (main_v60 : DevRef τ sig) = stage 4 slices_S8x2048x4096_S1x2048x4096_4_0_0 slices_S8x4096x2048_S1x4096x2048_4_0_0
      (V (main_arg0 : DevRef τ sig)) (V (main_arg1 : DevRef τ sig)) (V (main_arg2 : DevRef τ sig)) (V (main_arg3 : DevRef τ sig)) (V (main_v48 : DevRef τ sig)) := by
  after_results
  rfl

theorem ops5_eq (V : Valuation τ sig (Elt F)) :
    after ops5 V (main_v72 : DevRef τ sig) = stage 5 slices_S8x2048x4096_S1x2048x4096_5_0_0 slices_S8x4096x2048_S1x4096x2048_5_0_0
      (V (main_arg0 : DevRef τ sig)) (V (main_arg1 : DevRef τ sig)) (V (main_arg2 : DevRef τ sig)) (V (main_arg3 : DevRef τ sig)) (V (main_v60 : DevRef τ sig)) := by
  after_results
  rfl

theorem ops6_eq (V : Valuation τ sig (Elt F)) :
    after ops6 V (main_v84 : DevRef τ sig) = stage 6 slices_S8x2048x4096_S1x2048x4096_6_0_0 slices_S8x4096x2048_S1x4096x2048_6_0_0
      (V (main_arg0 : DevRef τ sig)) (V (main_arg1 : DevRef τ sig)) (V (main_arg2 : DevRef τ sig)) (V (main_arg3 : DevRef τ sig)) (V (main_v72 : DevRef τ sig)) := by
  after_results
  rfl

theorem ops7_eq (V : Valuation τ sig (Elt F)) :
    after ops7 V (main_v96 : DevRef τ sig) = stage 7 slices_S8x2048x4096_S1x2048x4096_7_0_0 slices_S8x4096x2048_S1x4096x2048_7_0_0
      (V (main_arg0 : DevRef τ sig)) (V (main_arg1 : DevRef τ sig)) (V (main_arg2 : DevRef τ sig)) (V (main_arg3 : DevRef τ sig)) (V (main_v84 : DevRef τ sig)) := by
  after_results
  rfl

/-- The references the operations of one expert write. -/
abbrev Bufs.refs (b : Bufs) : List (Ref sig .tc) :=
  [b.w1s.ref, b.w1.ref, b.h.ref, b.z.ref, b.zs.ref, b.hr.ref, b.e.ref, b.es.ref, b.hit.ref, b.hit1.ref, b.w2s.ref, b.w2.ref, b.y.ref, b.hits.ref, b.out.ref]

/-- What one expert's operations do not write they leave. -/
theorem kept (n : Nat) (h1) (h2) (prev) (b : Bufs) (V : Valuation τ sig (Elt F)) {r : Ref sig .tc} (hr : r ∉ b.refs) :
    after (expert n h1 h2 prev b) V (r : DevRef τ sig) = V (r : DevRef τ sig) :=
  after_of_writes_sub _ V (forall_writes_sub_of_map rfl) hr

/-- Every operation touches device buffers only. -/
theorem expert_sub (n : Nat) (h1) (h2) (prev) (b : Bufs) :
    (expert n h1 h2 prev b : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub ..,
    unary_bufs_sub .., binary_bufs_sub .., unary_bufs_sub .., unary_bufs_sub .., reshape_bufs_sub .., binary_bufs_sub .., unary_bufs_sub .., ternary_bufs_sub ..⟩

theorem zeros_sub : (zeros : List (HloOp τ sig (Elt F))).Forall fun op => op.bufs ⊆ tcRefs τ sig :=
  ⟨nullary_bufs_sub .., unary_bufs_sub ..⟩

theorem after_app (l₁ l₂ : List (HloOp τ sig (Elt F))) (V : Valuation τ sig (Elt F)) : after (l₁ ++ l₂) V = after l₂ (after l₁ V) := by
  induction l₁ generalizing V with
  | nil => rfl
  | cons op l ih => exact ih _

theorem zeros_eq (V : Valuation τ sig (Elt F)) :
    after zeros V (main_v0 : DevRef τ sig) = broadcastInDim S8192x2048 ![] bcast_S_S8192x2048 (constant S_ .f32 0x00000000#32 : FVec F S_ .f32) := by
  after_results
  rfl

theorem zeros_kept (V : Valuation τ sig (Elt F)) {r : Ref sig .tc} (hr : r ∉ [main_cst, main_v0]) :
    after zeros V (r : DevRef τ sig) = V (r : DevRef τ sig) :=
  after_of_writes_sub _ V (forall_writes_sub_of_map rfl) hr

/-- The result as a function of the arguments: the experts in turn. -/
abbrev refOut (x : FVec F S8192x2048 .f32) (a : IVec S8192 32) (w1 : FVec F S8x2048x4096 .f32) (w2 : FVec F S8x4096x2048 .f32) : FVec F S8192x2048 .f32 :=
  (stage 7 slices_S8x2048x4096_S1x2048x4096_7_0_0 slices_S8x4096x2048_S1x4096x2048_7_0_0 x a w1 w2
    (stage 6 slices_S8x2048x4096_S1x2048x4096_6_0_0 slices_S8x4096x2048_S1x4096x2048_6_0_0 x a w1 w2
    (stage 5 slices_S8x2048x4096_S1x2048x4096_5_0_0 slices_S8x4096x2048_S1x4096x2048_5_0_0 x a w1 w2
    (stage 4 slices_S8x2048x4096_S1x2048x4096_4_0_0 slices_S8x4096x2048_S1x4096x2048_4_0_0 x a w1 w2
    (stage 3 slices_S8x2048x4096_S1x2048x4096_3_0_0 slices_S8x4096x2048_S1x4096x2048_3_0_0 x a w1 w2
    (stage 2 slices_S8x2048x4096_S1x2048x4096_2_0_0 slices_S8x4096x2048_S1x4096x2048_2_0_0 x a w1 w2
    (stage 1 slices_S8x2048x4096_S1x2048x4096_1_0_0 slices_S8x4096x2048_S1x4096x2048_1_0_0 x a w1 w2
    (stage 0 slices_S8x2048x4096_S1x2048x4096_0_0_0 slices_S8x4096x2048_S1x4096x2048_0_0_0 x a w1 w2
    (broadcastInDim S8192x2048 ![] bcast_S_S8192x2048 (constant S_ .f32 0x00000000#32))))))))))

/-- The arguments' references. -/
def IsArg (r : Ref sig .tc) : Prop := r = main_arg0 ∨ r = main_arg1 ∨ r = main_arg2 ∨ r = main_arg3

theorem kept0 (V : Valuation τ sig (Elt F)) {r : Ref sig .tc} (hr : IsArg r) : after ops0 V (r : DevRef τ sig) = V (r : DevRef τ sig) :=
  kept _ _ _ _ b0 V (by rcases hr with rfl | rfl | rfl | rfl <;> decide)

theorem kept1 (V : Valuation τ sig (Elt F)) {r : Ref sig .tc} (hr : IsArg r) : after ops1 V (r : DevRef τ sig) = V (r : DevRef τ sig) :=
  kept _ _ _ _ b1 V (by rcases hr with rfl | rfl | rfl | rfl <;> decide)

theorem kept2 (V : Valuation τ sig (Elt F)) {r : Ref sig .tc} (hr : IsArg r) : after ops2 V (r : DevRef τ sig) = V (r : DevRef τ sig) :=
  kept _ _ _ _ b2 V (by rcases hr with rfl | rfl | rfl | rfl <;> decide)

theorem kept3 (V : Valuation τ sig (Elt F)) {r : Ref sig .tc} (hr : IsArg r) : after ops3 V (r : DevRef τ sig) = V (r : DevRef τ sig) :=
  kept _ _ _ _ b3 V (by rcases hr with rfl | rfl | rfl | rfl <;> decide)

theorem kept4 (V : Valuation τ sig (Elt F)) {r : Ref sig .tc} (hr : IsArg r) : after ops4 V (r : DevRef τ sig) = V (r : DevRef τ sig) :=
  kept _ _ _ _ b4 V (by rcases hr with rfl | rfl | rfl | rfl <;> decide)

theorem kept5 (V : Valuation τ sig (Elt F)) {r : Ref sig .tc} (hr : IsArg r) : after ops5 V (r : DevRef τ sig) = V (r : DevRef τ sig) :=
  kept _ _ _ _ b5 V (by rcases hr with rfl | rfl | rfl | rfl <;> decide)

theorem kept6 (V : Valuation τ sig (Elt F)) {r : Ref sig .tc} (hr : IsArg r) : after ops6 V (r : DevRef τ sig) = V (r : DevRef τ sig) :=
  kept _ _ _ _ b6 V (by rcases hr with rfl | rfl | rfl | rfl <;> decide)

theorem kept7 (V : Valuation τ sig (Elt F)) {r : Ref sig .tc} (hr : IsArg r) : after ops7 V (r : DevRef τ sig) = V (r : DevRef τ sig) :=
  kept _ _ _ _ b7 V (by rcases hr with rfl | rfl | rfl | rfl <;> decide)

theorem keptZ (V : Valuation τ sig (Elt F)) {r : Ref sig .tc} (hr : IsArg r) : after zeros V (r : DevRef τ sig) = V (r : DevRef τ sig) :=
  zeros_kept V (by rcases hr with rfl | rfl | rfl | rfl <;> decide)

theorem isArg0 : IsArg main_arg0 := Or.inl rfl
theorem isArg1 : IsArg main_arg1 := Or.inr (Or.inl rfl)
theorem isArg2 : IsArg main_arg2 := Or.inr (Or.inr (Or.inl rfl))
theorem isArg3 : IsArg main_arg3 := Or.inr (Or.inr (Or.inr rfl))

/-- The operations leave the arguments. -/
theorem arg_eq (V : Valuation τ sig (Elt F)) {r : Ref sig .tc} (hr : IsArg r) : after ops V (r : DevRef τ sig) = V (r : DevRef τ sig) := by
  rw [after_app, after_app, after_app, after_app, after_app, after_app, after_app, after_app,
    kept7 _ hr, kept6 _ hr, kept5 _ hr, kept4 _ hr, kept3 _ hr, kept2 _ hr, kept1 _ hr, kept0 _ hr, keptZ _ hr]

/-- The operations leave the result in the last buffer. -/
theorem out_eq (V : Valuation τ sig (Elt F)) :
    after ops V (main_v96 : DevRef τ sig) = refOut (V (main_arg0 : DevRef τ sig)) (V (main_arg1 : DevRef τ sig)) (V (main_arg2 : DevRef τ sig)) (V (main_arg3 : DevRef τ sig)) := by
  rw [after_app, after_app, after_app, after_app, after_app, after_app, after_app, after_app]
  rw [ops7_eq, kept6 _ isArg0, kept5 _ isArg0, kept4 _ isArg0, kept3 _ isArg0, kept2 _ isArg0, kept1 _ isArg0, kept0 _ isArg0, keptZ _ isArg0,
    kept6 _ isArg1, kept5 _ isArg1, kept4 _ isArg1, kept3 _ isArg1, kept2 _ isArg1, kept1 _ isArg1, kept0 _ isArg1, keptZ _ isArg1,
    kept6 _ isArg2, kept5 _ isArg2, kept4 _ isArg2, kept3 _ isArg2, kept2 _ isArg2, kept1 _ isArg2, kept0 _ isArg2, keptZ _ isArg2,
    kept6 _ isArg3, kept5 _ isArg3, kept4 _ isArg3, kept3 _ isArg3, kept2 _ isArg3, kept1 _ isArg3, kept0 _ isArg3, keptZ _ isArg3]
  rw [ops6_eq, kept5 _ isArg0, kept4 _ isArg0, kept3 _ isArg0, kept2 _ isArg0, kept1 _ isArg0, kept0 _ isArg0, keptZ _ isArg0,
    kept5 _ isArg1, kept4 _ isArg1, kept3 _ isArg1, kept2 _ isArg1, kept1 _ isArg1, kept0 _ isArg1, keptZ _ isArg1,
    kept5 _ isArg2, kept4 _ isArg2, kept3 _ isArg2, kept2 _ isArg2, kept1 _ isArg2, kept0 _ isArg2, keptZ _ isArg2,
    kept5 _ isArg3, kept4 _ isArg3, kept3 _ isArg3, kept2 _ isArg3, kept1 _ isArg3, kept0 _ isArg3, keptZ _ isArg3]
  rw [ops5_eq, kept4 _ isArg0, kept3 _ isArg0, kept2 _ isArg0, kept1 _ isArg0, kept0 _ isArg0, keptZ _ isArg0,
    kept4 _ isArg1, kept3 _ isArg1, kept2 _ isArg1, kept1 _ isArg1, kept0 _ isArg1, keptZ _ isArg1,
    kept4 _ isArg2, kept3 _ isArg2, kept2 _ isArg2, kept1 _ isArg2, kept0 _ isArg2, keptZ _ isArg2,
    kept4 _ isArg3, kept3 _ isArg3, kept2 _ isArg3, kept1 _ isArg3, kept0 _ isArg3, keptZ _ isArg3]
  rw [ops4_eq, kept3 _ isArg0, kept2 _ isArg0, kept1 _ isArg0, kept0 _ isArg0, keptZ _ isArg0,
    kept3 _ isArg1, kept2 _ isArg1, kept1 _ isArg1, kept0 _ isArg1, keptZ _ isArg1,
    kept3 _ isArg2, kept2 _ isArg2, kept1 _ isArg2, kept0 _ isArg2, keptZ _ isArg2,
    kept3 _ isArg3, kept2 _ isArg3, kept1 _ isArg3, kept0 _ isArg3, keptZ _ isArg3]
  rw [ops3_eq, kept2 _ isArg0, kept1 _ isArg0, kept0 _ isArg0, keptZ _ isArg0,
    kept2 _ isArg1, kept1 _ isArg1, kept0 _ isArg1, keptZ _ isArg1,
    kept2 _ isArg2, kept1 _ isArg2, kept0 _ isArg2, keptZ _ isArg2,
    kept2 _ isArg3, kept1 _ isArg3, kept0 _ isArg3, keptZ _ isArg3]
  rw [ops2_eq, kept1 _ isArg0, kept0 _ isArg0, keptZ _ isArg0,
    kept1 _ isArg1, kept0 _ isArg1, keptZ _ isArg1,
    kept1 _ isArg2, kept0 _ isArg2, keptZ _ isArg2,
    kept1 _ isArg3, kept0 _ isArg3, keptZ _ isArg3]
  rw [ops1_eq, kept0 _ isArg0, keptZ _ isArg0,
    kept0 _ isArg1, keptZ _ isArg1,
    kept0 _ isArg2, keptZ _ isArg2,
    kept0 _ isArg3, keptZ _ isArg3]
  rw [ops0_eq, keptZ _ isArg0,
    keptZ _ isArg1,
    keptZ _ isArg2,
    keptZ _ isArg3]
  rw [zeros_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨zeros_sub, expert_sub .., expert_sub .., expert_sub .., expert_sub .., expert_sub .., expert_sub .., expert_sub .., expert_sub ..⟩

theorem expert_fresh (n : Nat) (h1) (h2) (prev) (b : Bufs) : ∀ op ∈ (expert n h1 h2 prev b : List (HloOp τ sig (Elt F))), op.fresh = ∅ := by
  intro _ h; (repeat (cases h with | head => rfl | tail _ h => ?_)); exact nomatch h

theorem zeros_fresh : ∀ op ∈ (zeros : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h | h
  · exact zeros_fresh op h
  all_goals exact expert_fresh _ _ _ _ _ op h

/-- The run of the reference: it ends, with the result at its value, the arguments as they were, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v96) = refOut (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v96).trans (out_eq _), (h c main_arg0).trans (arg_eq _ isArg0), (h c main_arg1).trans (arg_eq _ isArg1),
      (h c main_arg2).trans (arg_eq _ isArg2), (h c main_arg3).trans (arg_eq _ isArg3)⟩, sem_eq_zero_of_no_sems (by decide) r.2⟩)
    (run_seq scopedRefs_eq scopedSems_eq defs main (fun _ => ops) main_eq (fun _ => ops_sub) m ρ (fun _ => ops_fresh))

end Cert.ReferenceIdeal.Dense

end
-- ==== Proof.Frames.lean ====
/- The frame claims, from the runs. -/
module

public import proofs.«01_k».proof.Defs
public import proofs.«01_k».proof.Proof.Run
public import proofs.«01_k».proof.Proof.Ref
public import proofs.«01_k».proof.Proof.Gen.Kernel
public import proofs.«01_k».proof.Proof.Gen.KernelIdeal
public import proofs.«01_k».proof.Proof.Gen.ReferenceIdeal
public import Idealize.ShloMosaic.Lib.Tactic.ProgEq

@[expose] public section

set_option maxRecDepth 20000

noncomputable section

namespace Cert.Proof

open Idealize.ShloMosaic Idealize.SL.Sem

/-- The kernel over the ideal floats ends, its arguments as they were and its counters at zero. -/
theorem frame_kernelIdeal : Cert.quiescent_KernelIdeal (hKernelIdeal := Cert.KernelIdeal.Gen.facts) :=
  fun m ρ _ => (θ_run (Cert.KernelIdeal.defs (F := Ideal)) _ _).mono (fun _ h => ⟨fun c => (h.1 c).2, h.2⟩) (Cert.KernelIdeal.Moe.run_main (F := Ideal) m ρ)

/-- The reference ends, its arguments as they were and its counters at zero. -/
theorem frame_reference : Cert.quiescent_ReferenceIdeal (hReferenceIdeal := Cert.ReferenceIdeal.Gen.facts) :=
  fun m ρ _ => (θ_run (Cert.ReferenceIdeal.defs (F := Ideal)) _ _).mono (fun _ h => ⟨fun c => (h.1 c).2, h.2⟩) (Cert.ReferenceIdeal.Dense.run_main (F := Ideal) m ρ)

/-- The two programs have one text. -/
theorem main_eq {F : FTy → Type} [FloatOps F] : Cert.Kernel.main (F := F) = Cert.KernelIdeal.main (F := F) := by sl_kernel_rfl
theorem defs_eq {F : FTy → Type} [FloatOps F] : Cert.Kernel.defs (F := F) = Cert.KernelIdeal.defs (F := F) := by sl_kernel_rfl

/-- The run over the machine's floats; the two programs have one text. -/
theorem frame_kernel : Cert.quiescent_Kernel (hKernel := Cert.Kernel.Gen.facts) := fun m ρ _ => by
  have h := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0) = m ((c.tc : Thread Cert.Kernel.nD Cert.Kernel.τ).loc Cert.Kernel.main_arg0)
      ∧ r.2.mem ((c.tc : Thread Cert.KernelIdeal.nD Cert.KernelIdeal.τ).loc Cert.KernelIdeal.main_arg1) = m ((c.tc : Thread Cert.Kernel.nD Cert.Kernel.τ).loc Cert.Kernel.main_arg1)
      ∧ r.2.mem ((c.tc : Thread Cert.KernelIdeal.nD Cert.KernelIdeal.τ).loc Cert.KernelIdeal.main_arg2) = m ((c.tc : Thread Cert.Kernel.nD Cert.Kernel.τ).loc Cert.Kernel.main_arg2)
      ∧ r.2.mem ((c.tc : Thread Cert.KernelIdeal.nD Cert.KernelIdeal.τ).loc Cert.KernelIdeal.main_arg3) = m ((c.tc : Thread Cert.Kernel.nD Cert.Kernel.τ).loc Cert.Kernel.main_arg3))
      ∧ r.2.sem = fun _ => 0)
    (fun _ h => ⟨fun c => (h.1 c).2, h.2⟩) (Cert.KernelIdeal.Moe.run_main (F := Bits) m ρ)
  rw [defs_eq, main_eq]
  exact h

end Cert.Proof

end
-- ==== Proof.Sums.lean ====
/- Sums, picks by a word, and the bodies' payloads over the reals at an index. -/
module

public import proofs.«01_k».proof.Proof.Base
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open Finset

/-- Entry `(i, j)` of a matrix, zero outside it. -/
def at2 {α : Type} [Zero α] {A B : ℕ} (v : (⟨2, ![A, B]⟩ : Shape).Idx → α) (i j : ℕ) : α :=
  if h : i < A ∧ j < B then v (ix2 ⟨i, h.1⟩ ⟨j, h.2⟩) else 0

/-- Entry `(i, j, k)` of an array of rank three, zero outside it. -/
def at3 {α : Type} [Zero α] {A B C : ℕ} (v : (⟨3, ![A, B, C]⟩ : Shape).Idx → α) (i j k : ℕ) : α :=
  if h : i < A ∧ j < B ∧ k < C then v (ix3 ⟨i, h.1⟩ ⟨j, h.2.1⟩ ⟨k, h.2.2⟩) else 0

theorem at2_of {α : Type} [Zero α] {A B : ℕ} (v : (⟨2, ![A, B]⟩ : Shape).Idx → α) {i j : ℕ} (hi : i < A) (hj : j < B) :
    at2 v i j = v (ix2 ⟨i, hi⟩ ⟨j, hj⟩) := dif_pos ⟨hi, hj⟩

theorem at3_of {α : Type} [Zero α] {A B C : ℕ} (v : (⟨3, ![A, B, C]⟩ : Shape).Idx → α) {i j k : ℕ} (hi : i < A) (hj : j < B) (hk : k < C) :
    at3 v i j k = v (ix3 ⟨i, hi⟩ ⟨j, hj⟩ ⟨k, hk⟩) := dif_pos ⟨hi, hj, hk⟩

/-- A sum taken block by block. -/
theorem sum_blocks (B R : ℕ) (f : ℕ → EReal) : ∑ b ∈ range B, ∑ r ∈ range R, f (R * b + r) = ∑ k ∈ range (B * R), f k := by
  induction B with
  | zero => simp
  | succ B ih => rw [sum_range_succ, ih, Nat.succ_mul, sum_range_add, Nat.mul_comm B R]

/-- A sum of picks with one hit. -/
theorem sum_hit {K : ℕ} (P : ℕ → Prop) [DecidablePred P] (Y : ℕ → EReal) {s : ℕ} (hs : s < K) (hP : P s) (hu : ∀ k < K, P k → k = s) :
    ∑ k ∈ range K, (if P k then (1 : EReal) else 0) * Y k = Y s := by
  rw [sum_eq_single s]
  · rw [if_pos hP, one_mul]
  · intro k hk hne
    rw [if_neg fun h => hne (hu k (mem_range.mp hk) h), zero_mul]
  · intro h; exact absurd (mem_range.mpr hs) h

/-- A sum of picks with no hit. -/
theorem sum_miss {K : ℕ} (P : ℕ → Prop) [DecidablePred P] (Y : ℕ → EReal) (hu : ∀ k < K, ¬ P k) :
    ∑ k ∈ range K, (if P k then (1 : EReal) else 0) * Y k = 0 := by
  refine sum_eq_zero fun k hk => ?_
  rw [if_neg (hu k (mem_range.mp hk)), zero_mul]

variable {ι : Type} {N : ℕ}

/-- A running array whose entry `i` begins at the first term and gains a term a point. -/
theorem accAt_sum (a : (n : ℕ) → n < N → ι → EReal) (g : (n : ℕ) → n < N → (ι → EReal) → ι → EReal) (i : ι) (T : ℕ → EReal)
    (ha : ∀ n h, a n h i = T n) (hg : ∀ n h v, g n h v i = v i + T n) (b : ℕ) :
    ∀ (j : ℕ) (h : b + j < N), Pipeline.accAt a g b j h i = ∑ x ∈ range (j + 1), T (b + x)
  | 0, h => by rw [Pipeline.accAt_zero, ha, sum_range_one]; rfl
  | j + 1, h => by rw [Pipeline.accAt_succ, hg, accAt_sum a g i T ha hg b j, sum_range_succ _ (j + 1)]

/-- The same, read at the last point of run `q` of `J`. -/
theorem accum_sum {J : ℕ} (hJ : 0 < J) (a : (n : ℕ) → n < N → ι → EReal) (g : (n : ℕ) → n < N → (ι → EReal) → ι → EReal) (i : ι) (T : ℕ → EReal)
    (ha : ∀ n h, a n h i = T n) (hg : ∀ n h v, g n h v i = v i + T n) (q : ℕ) (h : J * q + (J - 1) < N) :
    accum J a g (J * q + (J - 1)) h i = ∑ x ∈ range J, T (J * q + x) := by
  have e1 : J * ((J * q + (J - 1)) / J) = J * q := by
    rw [Nat.mul_add_div hJ, Nat.div_eq_of_lt (by omega), Nat.add_zero]
  have e2 : (J * q + (J - 1)) % J = J - 1 := by
    rw [Nat.mul_add_mod, Nat.mod_eq_of_lt (by omega)]
  unfold accum
  rw [accAt_sum a g i T ha hg, e1, e2, Nat.sub_add_cancel hJ]

/-- The mark of two equal words. -/
def hot (a b : BitVec 32) : EReal := if a = b then 1 else 0

theorem hot_eq (φ : FTy) (a b : BitVec 32) : (FloatOps.sitofp φ (BitVec.setWidth 32 (IntOp.cmpi .eq a b)) : Ideal φ) = hot a b := by
  unfold hot
  by_cases h : a = b
  · subst h
    rw [if_pos rfl, IntOp.cmpi_eq_self]
    show (((((1#1 : BitVec 1).setWidth 32).toInt : ℤ) : ℝ) : EReal) = 1
    norm_num
  · rw [if_neg h]
    have : IntOp.cmpi .eq a b = 0#1 := by
      show BitVec.ofBool (a == b) = 0#1
      rw [beq_eq_false_iff_ne.mpr h]; rfl
    rw [this]
    show (((((0#1 : BitVec 1).setWidth 32).toInt : ℤ) : ℝ) : EReal) = 0
    norm_num

theorem word_at (x n k : ℕ) : IntOp.addi (BitVec.ofNat 32 x) (Scalar.muli (BitVec.ofNat 32 n) (BitVec.ofNat 32 k)) = BitVec.ofNat 32 (k * n + x) := by
  show BitVec.ofNat 32 x + BitVec.ofNat 32 n * BitVec.ofNat 32 k = _
  rw [← BitVec.ofNat_mul, ← BitVec.ofNat_add, Nat.add_comm, Nat.mul_comm]

theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-! ## The bodies' payloads at an index -/

theorem pay0_apply (i : grid0.Coords) (v7 : Vec Ideal S1152x1 .i32) (v14 : Vec Ideal S1152x2048 .bf16) (v16 : Vec Ideal S512x2048 .f32) (r : Fin 1152) (l : Fin 2048) :
    k0_pay2 i v7 v14 v16 (ix2 r l) = v14 (ix2 r l) + ∑ x : Fin 512, hot (BitVec.ofNat 32 (512 * (i 1).val + x.val)) (v7 (ix2 r 0)) * v16 (ix2 x l) := by
  pointwise [k0_pay2]
  simp only [hot_eq, word_at]

theorem pay0_zero (r : Fin 1152) (l : Fin 2048) : k0_pay1 (F := Ideal) (ix2 r l) = 0 := by
  pointwise [k0_pay1]

theorem pay1_apply (v15 : Vec Ideal S1x2048x512 .f32) (v18 : Vec Ideal S1x512x2048 .f32) (v39 : Vec Ideal S576x2048 .bf16) (v44 : Vec Ideal S576x2048 .f32) (r : Fin 576) (l : Fin 2048) :
    k1_pay5 v15 v18 v39 v44 (ix2 r l)
      = v44 (ix2 r l) + ∑ x : Fin 512, max (∑ k : Fin 2048, v39 (ix2 r k) * v15 (ix3 0 k x)) 0 * v18 (ix3 0 x l) := by
  pointwise [k1_pay5, k1_pay3, k1_pay4]

theorem pay1_apply' (v15 : Vec Ideal S1x2048x512 .f32) (v18 : Vec Ideal S1x512x2048 .f32) (v39 : Vec Ideal S576x2048 .bf16) (v44 : Vec Ideal S576x2048 .f32) (r : Fin 576) (l : Fin 2048) :
    k1_pay6 v15 v18 v39 v44 (ix2 r l)
      = v44 (ix2 r l) + ∑ x : Fin 512, max (∑ k : Fin 2048, v39 (ix2 r k) * v15 (ix3 0 k x)) 0 * v18 (ix3 0 x l) := by
  pointwise [k1_pay6, k1_pay3, k1_pay4]

theorem pay1_zero (r : Fin 576) (l : Fin 2048) : k1_pay2 (F := Ideal) (ix2 r l) = 0 := by
  pointwise [k1_pay2]

theorem pay1_out (v : Vec Ideal S576x2048 .f32) (r : Fin 576) (l : Fin 2048) : k1_pay1 v (ix2 r l) = v (ix2 r l) := by
  pointwise [k1_pay1]

theorem pay2_apply (i : grid2.Coords) (v7 : Vec Ideal S1x768 .i32) (v21 : Vec Ideal S1024x2048 .f32) (v23 : Vec Ideal S768x2048 .bf16) (r : Fin 1024) (l : Fin 2048) :
    k2_pay3 i v7 v21 v23 (ix2 r l) = v21 (ix2 r l) + ∑ x : Fin 768, hot (BitVec.ofNat 32 (1024 * (i 0).val + r.val)) (v7 (ix2 0 x)) * v23 (ix2 x l) := by
  pointwise [k2_pay3, k2_pay2]
  simp only [hot_eq, word_at]

theorem pay2_apply' (i : grid2.Coords) (v7 : Vec Ideal S1x768 .i32) (v21 : Vec Ideal S1024x2048 .f32) (v23 : Vec Ideal S768x2048 .bf16) (r : Fin 1024) (l : Fin 2048) :
    k2_pay4 i v7 v21 v23 (ix2 r l) = v21 (ix2 r l) + ∑ x : Fin 768, hot (BitVec.ofNat 32 (1024 * (i 0).val + r.val)) (v7 (ix2 0 x)) * v23 (ix2 x l) := by
  pointwise [k2_pay4, k2_pay2]
  simp only [hot_eq, word_at]

theorem pay2_zero (r : Fin 1024) (l : Fin 2048) : k2_pay1 (F := Ideal) (ix2 r l) = 0 := by
  pointwise [k2_pay1]

end Cert.KernelIdeal.Moe

end
-- ==== Proof.Values.lean ====
/- The blocks the calls read, and what the calls leave, over the reals at an index. -/
module

public import proofs.«01_k».proof.Proof.Sums
public import proofs.«01_k».proof.Proof.Run

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open Finset

variable (V : Dev nD → Valuation τ sig (Elt Ideal))

/-- The token a gathered row is to take. -/
def tok30 (c : Dev nD) : S4608x1.Idx → BitVec 32 := V c (Proc.devRef .tc main_v30)
/-- A device's tokens. -/
def toks (c : Dev nD) : S4096x2048.Idx → EReal := V c (Proc.devRef .tc main_arg0)
/-- A device's first weights. -/
def fst1 (c : Dev nD) : S4x2048x4096.Idx → EReal := V c (Proc.devRef .tc main_arg2)
/-- A device's second weights. -/
def snd1 (c : Dev nD) : S4x4096x2048.Idx → EReal := V c (Proc.devRef .tc main_arg3)
/-- The tokens of the rows a device keeps. -/
def tok34 (c : Dev nD) : S1x2304.Idx → BitVec 32 := V c (Proc.devRef .tc main_v34)
/-- The tokens of the rows it sent. -/
def tok36 (c : Dev nD) : S1x2304.Idx → BitVec 32 := V c (Proc.devRef .tc main_v36)
/-- The answers for the kept rows. -/
def ans38 (c : Dev nD) : S2304x2048.Idx → EReal := V c (Proc.devRef .tc main_v38)
/-- The answers for the sent rows. -/
def ans32 (c : Dev nD) : S2304x2048.Idx → EReal := V c (Proc.devRef .tc main_v32_1)
/-- The gathered rows. -/
def rows31 (c : Dev nD) : S4608x2048.Idx → EReal := V c (Proc.devRef .tc main_v31)

/-! ## The blocks at an index -/

theorem idx0 (t : Fin grid0.N) : win0_0.index t (0 : Fin 2) = t.val / 8 ∧ win0_0.index t (1 : Fin 2) = 0
    ∧ win0_1.index t (0 : Fin 2) = t.val % 8 ∧ win0_1.index t (1 : Fin 2) = 0 ∧ (grid0.coords t 1).val = t.val % 8 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0 ∧ (grid0.coords t 1).val = t.val % 8) t

theorem idx1 (t : Fin grid1.N) : (t.val < 32 → win1_0.index t (0 : Fin 2) = t.val / 8) ∧ win1_0.index t (1 : Fin 2) = 0
    ∧ win1_1.index t (0 : Fin 3) = t.val / 8 % 4 ∧ win1_1.index t (1 : Fin 3) = 0 ∧ win1_1.index t (2 : Fin 3) = t.val % 8
    ∧ win1_2.index t (0 : Fin 3) = t.val / 8 % 4 ∧ win1_2.index t (1 : Fin 3) = t.val % 8 ∧ win1_2.index t (2 : Fin 3) = 0 :=
  (by decide +kernel : ∀ t : Fin grid1.N, (t.val < 32 → win1_0.index t (0 : Fin 2) = t.val / 8) ∧ win1_0.index t (1 : Fin 2) = 0
    ∧ win1_1.index t (0 : Fin 3) = t.val / 8 % 4 ∧ win1_1.index t (1 : Fin 3) = 0 ∧ win1_1.index t (2 : Fin 3) = t.val % 8
    ∧ win1_2.index t (0 : Fin 3) = t.val / 8 % 4 ∧ win1_2.index t (1 : Fin 3) = t.val % 8 ∧ win1_2.index t (2 : Fin 3) = 0) t

theorem idx2 (t : Fin grid2.N) : win2_0.index t (0 : Fin 2) = 0 ∧ win2_0.index t (1 : Fin 2) = t.val % 3
    ∧ win2_1.index t (0 : Fin 2) = 0 ∧ win2_1.index t (1 : Fin 2) = t.val % 3
    ∧ win2_2.index t (0 : Fin 2) = t.val % 3 ∧ win2_2.index t (1 : Fin 2) = 0
    ∧ win2_3.index t (0 : Fin 2) = t.val % 3 ∧ win2_3.index t (1 : Fin 2) = 0 ∧ (grid2.coords t 0).val = t.val / 3 :=
  (by decide +kernel : ∀ t : Fin grid2.N, win2_0.index t (0 : Fin 2) = 0 ∧ win2_0.index t (1 : Fin 2) = t.val % 3
    ∧ win2_1.index t (0 : Fin 2) = 0 ∧ win2_1.index t (1 : Fin 2) = t.val % 3
    ∧ win2_2.index t (0 : Fin 2) = t.val % 3 ∧ win2_2.index t (1 : Fin 2) = 0
    ∧ win2_3.index t (0 : Fin 2) = t.val % 3 ∧ win2_3.index t (1 : Fin 2) = 0 ∧ (grid2.coords t 0).val = t.val / 3) t

/-- An array read at an index whose coordinates are known. -/
theorem read2 {α : Type} [Zero α] {A B : ℕ} (v : (⟨2, ![A, B]⟩ : Shape).Idx → α) (i : (⟨2, ![A, B]⟩ : Shape).Idx) {a b : ℕ}
    (ha : (i 0).val = a) (hb : (i 1).val = b) : v i = at2 v a b := by
  subst ha; subst hb
  rw [at2_of v (i 0).isLt (i 1).isLt]
  exact congrArg v (eq_ix2 i)

theorem read3 {α : Type} [Zero α] {A B C : ℕ} (v : (⟨3, ![A, B, C]⟩ : Shape).Idx → α) (i : (⟨3, ![A, B, C]⟩ : Shape).Idx) {a b d : ℕ}
    (ha : (i 0).val = a) (hb : (i 1).val = b) (hd : (i 2).val = d) : v i = at3 v a b d := by
  subst ha; subst hb; subst hd
  rw [at3_of v (i 0).isLt (i 1).isLt (i 2).isLt]
  exact congrArg v (eq_ix3 i)

theorem blk0_tok (c : Dev nD) (t : Fin cfg0.N) (r : Fin 1152) : iblk0 V c 0 t (ix2 r 0) = at2 (tok30 V c) (1152 * (t.val / 8) + r.val) 0 := by
  obtain ⟨e0, e1, -⟩ := idx0 t
  refine read2 (tok30 V c) (((cfg0.win 0).blk t).view.emb (ix2 r 0)) ?_ ?_
  · show win0_0.index t (0 : Fin 2) * 1152 + 1 * r.val = _; rw [e0]; omega
  · show win0_0.index t (1 : Fin 2) * 1 + 1 * 0 = _; rw [e1]

theorem blk0_row (c : Dev nD) (t : Fin cfg0.N) (r : Fin 512) (l : Fin 2048) : iblk0 V c 1 t (ix2 r l) = at2 (toks V c) (512 * (t.val % 8) + r.val) l.val := by
  obtain ⟨-, -, e0, e1, -⟩ := idx0 t
  refine read2 (toks V c) (((cfg0.win 1).blk t).view.emb (ix2 r l)) ?_ ?_
  · show win0_1.index t (0 : Fin 2) * 512 + 1 * r.val = _; rw [e0]; omega
  · show win0_1.index t (1 : Fin 2) * 2048 + 1 * l.val = _; rw [e1]; omega

theorem blk1_row (c : Dev nD) (t : Fin cfg1.N) (ht : t.val < 32) (r : Fin 576) (l : Fin 2048) :
    iblk1 V c 0 t (ix2 r l) = at2 (rows31 V c) (576 * (t.val / 8) + r.val) l.val := by
  obtain ⟨e0, e1, -⟩ := idx1 t
  refine read2 (rows31 V c) (((cfg1.win 0).blk t).view.emb (ix2 r l)) ?_ ?_
  · show win1_0.index t (0 : Fin 2) * 576 + 1 * r.val = _; rw [e0 ht]; omega
  · show win1_0.index t (1 : Fin 2) * 2048 + 1 * l.val = _; rw [e1]; omega

theorem blk1_fst (c : Dev nD) (t : Fin cfg1.N) (k : Fin 2048) (x : Fin 512) :
    iblk1 V c 1 t (ix3 0 k x) = at3 (fst1 V c) (t.val / 8 % 4) k.val (512 * (t.val % 8) + x.val) := by
  obtain ⟨-, -, e0, e1, e2, -⟩ := idx1 t
  refine read3 (fst1 V c) (((cfg1.win 1).blk t).view.emb (ix3 0 k x)) ?_ ?_ ?_
  · show win1_1.index t (0 : Fin 3) * 1 + 1 * 0 = _; rw [e0]; omega
  · show win1_1.index t (1 : Fin 3) * 2048 + 1 * k.val = _; rw [e1]; omega
  · show win1_1.index t (2 : Fin 3) * 512 + 1 * x.val = _; rw [e2]; omega

theorem blk1_snd (c : Dev nD) (t : Fin cfg1.N) (x : Fin 512) (l : Fin 2048) :
    iblk1 V c 2 t (ix3 0 x l) = at3 (snd1 V c) (t.val / 8 % 4) (512 * (t.val % 8) + x.val) l.val := by
  obtain ⟨-, -, -, -, -, e0, e1, e2⟩ := idx1 t
  refine read3 (snd1 V c) (((cfg1.win 2).blk t).view.emb (ix3 0 x l)) ?_ ?_ ?_
  · show win1_2.index t (0 : Fin 3) * 1 + 1 * 0 = _; rw [e0]; omega
  · show win1_2.index t (1 : Fin 3) * 512 + 1 * x.val = _; rw [e1]; omega
  · show win1_2.index t (2 : Fin 3) * 2048 + 1 * l.val = _; rw [e2]; omega

theorem blk2_keep (c : Dev nD) (t : Fin cfg2.N) (x : Fin 768) : iblk2 V c 0 t (ix2 0 x) = at2 (tok34 V c) 0 (768 * (t.val % 3) + x.val) := by
  obtain ⟨e0, e1, -⟩ := idx2 t
  refine read2 (tok34 V c) (((cfg2.win 0).blk t).view.emb (ix2 0 x)) ?_ ?_
  · show win2_0.index t (0 : Fin 2) * 1 + 1 * 0 = _; rw [e0]
  · show win2_0.index t (1 : Fin 2) * 768 + 1 * x.val = _; rw [e1]; omega

theorem blk2_sent (c : Dev nD) (t : Fin cfg2.N) (x : Fin 768) : iblk2 V c 1 t (ix2 0 x) = at2 (tok36 V c) 0 (768 * (t.val % 3) + x.val) := by
  obtain ⟨-, -, e0, e1, -⟩ := idx2 t
  refine read2 (tok36 V c) (((cfg2.win 1).blk t).view.emb (ix2 0 x)) ?_ ?_
  · show win2_1.index t (0 : Fin 2) * 1 + 1 * 0 = _; rw [e0]
  · show win2_1.index t (1 : Fin 2) * 768 + 1 * x.val = _; rw [e1]; omega

theorem blk2_kept (c : Dev nD) (t : Fin cfg2.N) (x : Fin 768) (l : Fin 2048) :
    iblk2 V c 2 t (ix2 x l) = at2 (ans38 V c) (768 * (t.val % 3) + x.val) l.val := by
  obtain ⟨-, -, -, -, e0, e1, -⟩ := idx2 t
  refine read2 (ans38 V c) (((cfg2.win 2).blk t).view.emb (ix2 x l)) ?_ ?_
  · show win2_2.index t (0 : Fin 2) * 768 + 1 * x.val = _; rw [e0]; omega
  · show win2_2.index t (1 : Fin 2) * 2048 + 1 * l.val = _; rw [e1]; omega

theorem blk2_back (c : Dev nD) (t : Fin cfg2.N) (x : Fin 768) (l : Fin 2048) :
    iblk2 V c 3 t (ix2 x l) = at2 (ans32 V c) (768 * (t.val % 3) + x.val) l.val := by
  obtain ⟨-, -, -, -, -, -, e0, e1, -⟩ := idx2 t
  refine read2 (ans32 V c) (((cfg2.win 3).blk t).view.emb (ix2 x l)) ?_ ?_
  · show win2_3.index t (0 : Fin 2) * 768 + 1 * x.val = _; rw [e0]; omega
  · show win2_3.index t (1 : Fin 2) * 2048 + 1 * l.val = _; rw [e1]; omega

/-! ## What the calls leave, at an index -/

/-- A row through two matrices with a clip at zero between them. -/
def ffn (x : ℕ → EReal) (w1 w2 : ℕ → ℕ → EReal) (l : ℕ) : EReal :=
  ∑ f ∈ range 4096, max (∑ k ∈ range 2048, x k * w1 k f) 0 * w2 f l

/-- A long sum cut into blocks. -/
theorem sum_cut {K : ℕ} (B R : ℕ) (hK : K = B * R) (f : ℕ → EReal) : ∑ k ∈ range K, f k = ∑ b ∈ range B, ∑ r ∈ range R, f (R * b + r) := by
  rw [hK, sum_blocks]

theorem step0_at (c : Dev nD) (n : ℕ) (h : n < cfg0.N) (v : Vec Ideal S1152x2048 .bf16) (r : Fin 1152) (l : Fin 2048) :
    step0 V c n h v (ix2 r l) = v (ix2 r l) + ∑ x ∈ range 512,
      hot (BitVec.ofNat 32 (512 * (n % 8) + x)) (at2 (tok30 V c) (1152 * (n / 8) + r.val) 0) * at2 (toks V c) (512 * (n % 8) + x) l.val := by
  unfold step0
  rw [pay0_apply, sum_range]
  obtain ⟨-, -, -, -, e⟩ := idx0 ⟨n, h⟩
  simp only [blk0_tok, blk0_row, e]

theorem xe_at (c : Dev nD) {s l : ℕ} (hs : s < 4608) (hl : l < 2048) :
    at2 (xe V c : S4608x2048.Idx → EReal) s l = ∑ k ∈ range 4096, hot (BitVec.ofNat 32 k) (at2 (tok30 V c) s 0) * at2 (toks V c) k l := by
  have hN := N_0
  rw [at2_of _ hs hl]
  have e : xe V c (ix2 ⟨s, hs⟩ ⟨l, hl⟩) = acc0 V c (8 * (s / 1152) + (8 - 1)) (by show _ < grid0.N; omega) (ix2 ⟨s % 1152, Nat.mod_lt _ (by decide)⟩ ⟨l, hl⟩) := by
    refine congrArg (acc0 V c (8 * (s / 1152) + 7) _) (funext fun a => ?_)
    match a with
    | ⟨0, _⟩ => rfl
    | ⟨1, _⟩ => rfl
  rw [e]
  unfold acc0
  rw [accum_sum (by decide) _ _ _ (fun n => ∑ x ∈ range 512, hot (BitVec.ofNat 32 (512 * (n % 8) + x)) (at2 (tok30 V c) (1152 * (n / 8) + s % 1152) 0) * at2 (toks V c) (512 * (n % 8) + x) l)
    (fun n h => by rw [step0_at, pay0_zero, zero_add]) (fun n h v => by rw [step0_at])]
  rw [sum_cut 8 512 rfl]
  refine sum_congr rfl fun b hb => sum_congr rfl fun x _ => ?_
  have hb' := mem_range.mp hb
  rw [show (8 * (s / 1152) + b) % 8 = b by omega, show (8 * (s / 1152) + b) / 8 = s / 1152 by omega, show 1152 * (s / 1152) + s % 1152 = s by omega]

/-- One point's share of a row. -/
def share1 (x : ℕ → EReal) (w1 w2 : ℕ → ℕ → EReal) (l b : ℕ) : EReal :=
  ∑ f ∈ range 512, max (∑ k ∈ range 2048, x k * w1 k (512 * b + f)) 0 * w2 (512 * b + f) l

theorem ffn_parts (x : ℕ → EReal) (w1 w2 : ℕ → ℕ → EReal) (l : ℕ) : ∑ b ∈ range 8, share1 x w1 w2 l b = ffn x w1 w2 l := by
  unfold ffn share1
  rw [sum_cut 8 512 rfl]

/-- The row a point reads: of its own gathered rows, then of the partner's. -/
def rowOf (c : Dev nD) (n r k : ℕ) : EReal :=
  if n < 32 then at2 (rows31 V c) (576 * (n / 8) + r) k else at2 (rows31 V (pr c)) (2304 + 576 * (n / 8 % 4) + r) k

theorem step1_at (c : Dev nD) (n : ℕ) (h : n < cfg1.N) (v : Vec Ideal S576x2048 .f32) (r : Fin 576) (l : Fin 2048) :
    step1 V c n h v (ix2 r l) = v (ix2 r l) + share1 (rowOf V c n r.val) (at3 (fst1 V c) (n / 8 % 4)) (at3 (snd1 V c) (n / 8 % 4)) l.val (n % 8) := by
  unfold step1 next1 share1 rowOf
  by_cases hn : n < 32
  · rw [if_pos hn, pay1_apply, sum_range]
    simp only [sum_range (n := 2048), blk1_row V c ⟨n, h⟩ hn, blk1_fst, blk1_snd, if_pos hn]
  · rw [if_neg hn, pay1_apply', sum_range]
    have hl : ∀ k : Fin 2048, (xM (jj n)).view.read (Elt Ideal) (landed (XE V) c) (ix2 r k) = at2 (rows31 V (pr c)) (2304 + 576 * (n / 8 % 4) + r.val) k.val := by
      intro k
      refine read2 (rows31 V (pr c)) (low ((xM (jj n)).view.emb (ix2 r k))) ?_ ?_
      · show 2304 + (576 * (jj n).val + 1 * r.val) = _; have hj : (jj n).val = n / 8 % 4 := rfl; omega
      · show 0 + 1 * k.val = _; omega
    simp only [sum_range (n := 2048), hl, blk1_fst, blk1_snd, if_neg hn]

theorem acc1_at (c : Dev nD) (q : ℕ) (hq : 8 * q + (8 - 1) < cfg1.N) (r : Fin 576) (l : Fin 2048) :
    acc1 V c (8 * q + (8 - 1)) hq (ix2 r l) = ffn (rowOf V c (8 * q) r.val) (at3 (fst1 V c) (q % 4)) (at3 (snd1 V c) (q % 4)) l.val := by
  unfold acc1
  rw [accum_sum (by decide) _ _ _ (fun n => share1 (rowOf V c n r.val) (at3 (fst1 V c) (n / 8 % 4)) (at3 (snd1 V c) (n / 8 % 4)) l.val (n % 8))
    (fun n h => by rw [step1_at, pay1_zero, zero_add]) (fun n h v => by rw [step1_at]), ← ffn_parts]
  refine sum_congr rfl fun b hb => ?_
  have hb' := mem_range.mp hb
  have er : rowOf V c (8 * q + b) r.val = rowOf V c (8 * q) r.val := by
    funext k
    unfold rowOf
    rw [show (8 * q + b) / 8 = 8 * q / 8 by omega]
    by_cases h : 8 * q < 32
    · rw [if_pos h, if_pos (by omega)]
    · rw [if_neg h, if_neg (by omega)]
  rw [er, show (8 * q + b) % 8 = b by omega, show (8 * q + b) / 8 = q by omega]

theorem out32_at (c : Dev nD) {s l : ℕ} (hs : s < 2304) (hl : l < 2048) :
    at2 (out32 V c : S4608x2048.Idx → EReal) s l = ffn (at2 (rows31 V c) s) (at3 (fst1 V c) (s / 576)) (at3 (snd1 V c) (s / 576)) l := by
  have hN := N_1
  rw [at2_of _ (show s < 4608 by omega) hl]
  have e : out32 V c (ix2 ⟨s, by omega⟩ ⟨l, hl⟩) = acc1 V c (8 * (s / 576) + (8 - 1)) (by show _ < grid1.N; omega) (ix2 ⟨s % 576, Nat.mod_lt _ (by decide)⟩ ⟨l, hl⟩) := by
    refine congrArg (acc1 V c (8 * (s / 576) + 7) _) (funext fun a => ?_)
    match a with
    | ⟨0, _⟩ => rfl
    | ⟨1, _⟩ => rfl
  rw [e, acc1_at, show s / 576 % 4 = s / 576 by omega]
  refine congrArg (fun x => ffn x _ _ l) (funext fun k => ?_)
  unfold rowOf
  rw [if_pos (by omega), show 576 * (8 * (s / 576) / 8) + s % 576 = s by omega]

theorem YE_at (c : Dev nD) {s l : ℕ} (hs : s < 2304) (hl : l < 2048) :
    at2 (YE V c : S2304x2048.Idx → EReal) s l = ffn (at2 (rows31 V (pr c)) (2304 + s)) (at3 (fst1 V c) (s / 576)) (at3 (snd1 V c) (s / 576)) l := by
  have hN := N_1
  rw [at2_of _ hs hl]
  have e : YE V c (ix2 ⟨s, hs⟩ ⟨l, hl⟩) = k1_pay1 (acc1 V c (8 * (4 + s / 576) + (8 - 1)) (by show _ < grid1.N; omega)) (ix2 ⟨s % 576, Nat.mod_lt _ (by decide)⟩ ⟨l, hl⟩) := by
    unfold YE
    rw [acc1_congr V c (n := 32 + 8 * ((((ix2 ⟨s, hs⟩ ⟨l, hl⟩ : S2304x2048.Idx)) 0).val / 576) + 7) (n' := 8 * (4 + s / 576) + (8 - 1))
      (by show 32 + 8 * (s / 576) + 7 = _; omega)]
    refine congrArg _ (funext fun a => ?_)
    match a with
    | ⟨0, _⟩ => rfl
    | ⟨1, _⟩ => rfl
  rw [e, pay1_out, acc1_at, show (4 + s / 576) % 4 = s / 576 by omega]
  refine congrArg (fun x => ffn x _ _ l) (funext fun k => ?_)
  unfold rowOf
  rw [if_neg (by omega), show 2304 + 576 * (8 * (4 + s / 576) / 8 % 4) + s % 576 = 2304 + s by omega]

theorem step2_at (c : Dev nD) (n : ℕ) (h : n < cfg2.N) (v : Vec Ideal S1024x2048 .f32) (r : Fin 1024) (l : Fin 2048) :
    step2 V c n h v (ix2 r l) = v (ix2 r l) + (∑ x ∈ range 768,
        hot (BitVec.ofNat 32 (1024 * (n / 3) + r.val)) (at2 (tok34 V c) 0 (768 * (n % 3) + x)) * at2 (ans38 V c) (768 * (n % 3) + x) l.val
      + ∑ x ∈ range 768, hot (BitVec.ofNat 32 (1024 * (n / 3) + r.val)) (at2 (tok36 V c) 0 (768 * (n % 3) + x)) * at2 (ans32 V c) (768 * (n % 3) + x) l.val) := by
  unfold step2
  rw [pay2_apply', pay2_apply, sum_range, sum_range, add_assoc]
  obtain ⟨-, -, -, -, -, -, -, -, e⟩ := idx2 ⟨n, h⟩
  simp only [blk2_keep, blk2_sent, blk2_kept, blk2_back, e]

theorem out39_at (c : Dev nD) {t l : ℕ} (ht : t < 4096) (hl : l < 2048) :
    at2 (out39 V c : S4096x2048.Idx → EReal) t l = ∑ s ∈ range 2304, hot (BitVec.ofNat 32 t) (at2 (tok34 V c) 0 s) * at2 (ans38 V c) s l
      + ∑ s ∈ range 2304, hot (BitVec.ofNat 32 t) (at2 (tok36 V c) 0 s) * at2 (ans32 V c) s l := by
  have hN := N_2
  rw [at2_of _ ht hl]
  have e : out39 V c (ix2 ⟨t, ht⟩ ⟨l, hl⟩) = acc2 V c (3 * (t / 1024) + (3 - 1)) (by show _ < grid2.N; omega) (ix2 ⟨t % 1024, Nat.mod_lt _ (by decide)⟩ ⟨l, hl⟩) := by
    refine congrArg (acc2 V c (3 * (t / 1024) + 2) _) (funext fun a => ?_)
    match a with
    | ⟨0, _⟩ => rfl
    | ⟨1, _⟩ => rfl
  rw [e]
  unfold acc2
  rw [accum_sum (by decide) _ _ _ (fun n => ∑ x ∈ range 768,
        hot (BitVec.ofNat 32 (1024 * (n / 3) + t % 1024)) (at2 (tok34 V c) 0 (768 * (n % 3) + x)) * at2 (ans38 V c) (768 * (n % 3) + x) l
      + ∑ x ∈ range 768, hot (BitVec.ofNat 32 (1024 * (n / 3) + t % 1024)) (at2 (tok36 V c) 0 (768 * (n % 3) + x)) * at2 (ans32 V c) (768 * (n % 3) + x) l)
    (fun n h => by rw [step2_at, pay2_zero, zero_add]) (fun n h v => by rw [step2_at]), sum_add_distrib]
  rw [sum_cut 3 768 rfl, sum_cut 3 768 rfl]
  congr 1
  all_goals
    refine sum_congr rfl fun b hb => sum_congr rfl fun x _ => ?_
    have hb' := mem_range.mp hb
    rw [show (3 * (t / 1024) + b) % 3 = b by omega, show (3 * (t / 1024) + b) / 3 = t / 1024 by omega, show 1024 * (t / 1024) + t % 1024 = t by omega]

end Cert.KernelIdeal.Moe

end
-- ==== Proof.Host.lean ====
/- What the host's operations hand to the calls. -/
module

public import proofs.«01_k».proof.Proof.Values
public import Idealize.ShloMosaic.Lib.StableHlo.RunClose
public import Idealize.ShloMosaic.Lib.DynamicIndex

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open StableHlo Finset

/-- The keys the host sorts, a row an expert: a token's number where it is the expert's, and the count of tokens elsewhere. -/
def keys (a : S4096.Idx → BitVec 32) : S8x4096.Idx → BitVec 32 :=
  select (cmpi .eq (broadcastInDim S8x4096 ![0, 1] bcast_S1x4096_S8x4096_0_1 (broadcastInDim S1x4096 ![1] bcast_S4096_S1x4096_1 a))
      (broadcastInDim S8x4096 ![0, 1] bcast_S8x1_S8x4096_0_1 (broadcastInDim S8x1 ![0] bcast_S8_S8x1_0 (iotaInDim S8 32 0))))
    (broadcastInDim S8x4096 ![0, 1] bcast_S1x4096_S8x4096_0_1 (broadcastInDim S1x4096 ![1] bcast_S4096_S1x4096_1 (iotaInDim S4096 32 0)))
    (broadcastInDim S8x4096 ![] bcast_S_S8x4096 (constantI S_ 32 4096#32))

/-- The sorted keys. -/
def sorted (a : S4096.Idx → BitVec 32) : S8x4096.Idx → BitVec 32 := Host.sort S8x4096 1 comparator_i32_d1 (keys a)

/-- A device's group of experts. -/
def grp (c : Dev nD) : ℕ := c.val / 4 % 2

theorem grp_lt (c : Dev nD) : grp c < 2 := Nat.mod_lt _ (by decide)

theorem grp_pr (c : Dev nD) : grp (pr c) = 1 - grp c := by revert c; decide +kernel

/-- A start as the slices take it. -/
def wrap (w : S_.Idx → BitVec 32) : S_.Idx → BitVec 32 := select (cmpi .slt w (constantI S_ 32 0#32)) (addi w (constantI S_ 32 8#32)) w

/-- The four rows of the sorted keys that begin at `w`, their first 576 places. -/
def fourRows (s : S8x4096.Idx → BitVec 32) (w : S_.Idx → BitVec 32) : S4x576.Idx → BitVec 32 :=
  Host.dynamicSlice S4x576 (extractStridedSlice S8x576 ![0, 0] s slices_S8x4096_S8x576_0_0)
    (fun k => ((![w, constantI S_ 32 0#32] : Fin 2 → S_.Idx → BitVec 32) k (Shape.Idx.first h_S_)).toInt) sliceFits_S8x576_S4x576

/-- The gathered rows' tokens. -/
def slots (s : S8x4096.Idx → BitVec 32) (w w' : S_.Idx → BitVec 32) : S4608.Idx → BitVec 32 :=
  shapeCast S4608 (concatenate S8x576 0 [⟨S4x576, fourRows s w⟩, ⟨S4x576, fourRows s w'⟩] concatenates_S4x576_S4x576_S8x576_d0) shapeCasts_S8x576_S4608

/-! ## The last stretch before the calls -/

section Stretch

variable (W : Valuation τ sig (Elt Ideal))

theorem at_v21 : after hostOps0_3 W (Proc.devRef .tc main_v21) = fourRows (W (Proc.devRef .tc main_v16)) (wrap (W (Proc.devRef .tc main_v5))) := by
  after_results_simp_entrywise
  unfold fourRows wrap
  refine congrArg (fun f => Host.dynamicSlice S4x576 _ f _) (funext fun k => ?_)
  match k with
  | ⟨0, _⟩ => rfl
  | ⟨1, _⟩ => rfl

theorem at_v25 : after hostOps0_3 W (Proc.devRef .tc main_v25) = fourRows (W (Proc.devRef .tc main_v16)) (wrap (W (Proc.devRef .tc main_v6))) := by
  after_results_simp_entrywise
  unfold fourRows wrap
  refine congrArg (fun f => Host.dynamicSlice S4x576 _ f _) (funext fun k => ?_)
  match k with
  | ⟨0, _⟩ => rfl
  | ⟨1, _⟩ => rfl

theorem at_v26 : after hostOps0_3 W (Proc.devRef .tc main_v26) = concatenate S8x576 0 [⟨S4x576, after hostOps0_3 W (Proc.devRef .tc main_v21)⟩, ⟨S4x576, after hostOps0_3 W (Proc.devRef .tc main_v25)⟩] concatenates_S4x576_S4x576_S8x576_d0 := by
  rw [at_v21, at_v25]
  after_results_simp_entrywise
  refine congrArg₂ (fun a b => concatenate S8x576 0 [⟨S4x576, a⟩, ⟨S4x576, b⟩] concatenates_S4x576_S4x576_S8x576_d0) ?_ ?_
  · after_results_simp_entrywise
    unfold fourRows wrap
    refine congrArg (fun f => Host.dynamicSlice S4x576 _ f _) (funext fun k => ?_)
    match k with
    | ⟨0, _⟩ => rfl
    | ⟨1, _⟩ => rfl
  · after_results_simp_entrywise
    unfold fourRows wrap
    refine congrArg (fun f => Host.dynamicSlice S4x576 _ f _) (funext fun k => ?_)
    match k with
    | ⟨0, _⟩ => rfl
    | ⟨1, _⟩ => rfl

theorem at_v27 : after hostOps0_3 W (Proc.devRef .tc main_v27)
    = slots (W (Proc.devRef .tc main_v16)) (wrap (W (Proc.devRef .tc main_v5))) (wrap (W (Proc.devRef .tc main_v6))) := by
  unfold slots
  rw [← at_v21, ← at_v25, ← at_v26]
  after_results_simp_entrywise
  rfl

theorem at_v30 : after hostOps0_3 W (Proc.devRef .tc main_v30)
    = shapeCast S4608x1 (minsi (after hostOps0_3 W (Proc.devRef .tc main_v27)) (broadcastInDim S4608 ![] bcast_S_S4608 (constantI S_ 32 4095#32))) shapeCasts_S4608_S4608x1 := by
  after_results_simp_entrywise
  rfl

end Stretch

variable (m : (ℓ : Loc nD τ sig) → Buf (Elt Ideal) ℓ)

/-- A device's assignment. -/
def asg (c : Dev nD) : S4096.Idx → BitVec 32 := m ((c.tc : Thread nD τ).loc main_arg1)

theorem at_v16 (c : Dev nD) : V3 m c (Proc.devRef .tc main_v16) = sorted (asg m c) := by
  show after hostOps0_2 (after hostOps0_1 (after (hostOps0 c) (V0 m c))) (Proc.devRef .tc main_v16) = _
  after_results_simp_entrywise
  rfl

theorem at_v5 (c : Dev nD) : V3 m c (Proc.devRef .tc main_v5) = constantI S_ 32 (BitVec.ofNat 32 (4 * grp c)) := by
  show after hostOps0_2 (after hostOps0_1 (after (hostOps0 c) (V0 m c))) (Proc.devRef .tc main_v5) = _
  after_results_simp_entrywise
  funext j
  show 4#32 * ((c.word / 4#32) % 2#32) = BitVec.ofNat 32 (4 * grp c)
  revert c
  decide +kernel

theorem at_v6 (c : Dev nD) : V3 m c (Proc.devRef .tc main_v6) = constantI S_ 32 (BitVec.ofNat 32 (4 * (1 - grp c))) := by
  show after hostOps0_2 (after hostOps0_1 (after (hostOps0 c) (V0 m c))) (Proc.devRef .tc main_v6) = _
  after_results_simp_entrywise
  funext j
  show 4#32 - 4#32 * ((c.word / 4#32) % 2#32) = BitVec.ofNat 32 (4 * (1 - grp c))
  revert c
  decide +kernel

theorem wrap_at (g : ℕ) (hg : g < 2) : wrap (constantI S_ 32 (BitVec.ofNat 32 (4 * g))) = constantI S_ 32 (BitVec.ofNat 32 (4 * g)) := by
  funext j
  show Scalar.select (IntOp.cmpi .slt (BitVec.ofNat 32 (4 * g)) 0#32) (BitVec.ofNat 32 (4 * g) + 8#32) (BitVec.ofNat 32 (4 * g)) = BitVec.ofNat 32 (4 * g)
  interval_cases g <;> decide

theorem fourRows_at (s : S8x4096.Idx → BitVec 32) (g : ℕ) (hg : g < 2) (j : Fin 4) (k : Fin 576) :
    fourRows s (constantI S_ 32 (BitVec.ofNat 32 (4 * g))) (ix2 j k) = at2 s (4 * g + j.val) k.val := by
  unfold fourRows
  rw [Host.dynamicSlice_eq_extractStridedSlice S4x576 _ _ ![4 * g, 0] _ ?_ ?_]
  · refine read2 s _ ?_ ?_
    · show 0 + (4 * g + j.val) = _; omega
    · show 0 + (0 + k.val) = _; omega
  · interval_cases g <;> decide
  · intro a
    match a with
    | ⟨0, _⟩ => show (BitVec.ofNat 32 (4 * g)).toInt = ((4 * g : ℕ) : ℤ); interval_cases g <;> decide
    | ⟨1, _⟩ => rfl

/-- The row of the sorted keys a gathered row comes from. -/
def rowAt (g s : ℕ) : ℕ := if s < 2304 then 4 * g + s / 576 else 4 * (1 - g) + (s - 2304) / 576

theorem slots_at (x : S8x4096.Idx → BitVec 32) (g : ℕ) (hg : g < 2) {s : ℕ} (hs : s < 4608) :
    slots x (constantI S_ 32 (BitVec.ofNat 32 (4 * g))) (constantI S_ 32 (BitVec.ofNat 32 (4 * (1 - g)))) (ix1 ⟨s, hs⟩)
      = at2 x (rowAt g s) (s % 576) := by
  unfold slots rowAt
  pointwise
  by_cases h : s < 2304
  · rw [dif_pos (by omega), if_pos h, fourRows_at x g hg]
  · rw [dif_neg (by omega), if_neg h, fourRows_at x (1 - g) (by omega)]
    show at2 x (4 * (1 - g) + (s / 576 - 4)) (s % 576) = _
    rw [show s / 576 - 4 = (s - 2304) / 576 by omega]

/-! ## What the calls find -/

/-- The token number in a gathered row's slot. -/
def slot (c : Dev nD) (s : ℕ) : BitVec 32 := at2 (sorted (asg m c)) (rowAt (grp c) s) (s % 576)

theorem v27_at (c : Dev nD) {s : ℕ} (hs : s < 4608) : (V4 m c (Proc.devRef .tc main_v27) : S4608.Idx → BitVec 32) (ix1 ⟨s, hs⟩) = slot m c s := by
  have h : V4 m c (Proc.devRef .tc main_v27) = _ := at_v27 (V3 m c)
  have hg := grp_lt c
  rw [h, at_v16, at_v5, at_v6, wrap_at _ hg, wrap_at _ (by omega), slots_at _ _ hg hs]
  rfl

theorem tok30_at (c : Dev nD) {s : ℕ} (hs : s < 4608) : at2 (tok30 (V4 m) c) s 0 = IntOp.minsi (slot m c s) 4095#32 := by
  have h : tok30 (V4 m) c = _ := at_v30 (V3 m c)
  rw [at2_of _ hs (by decide), h, ← v27_at m c hs]
  pointwise

theorem toks_eq (c : Dev nD) : toks (V4 m) c = m ((c.tc : Thread nD τ).loc main_arg0) :=
  (V4_of m c _ (by decide)).trans <| (V3_of m c _ (by decide)).trans <| (V2_of m c _ (by decide)).trans (V1_of m c _ (by decide))

theorem W5_of (c : Dev nD) (r : Ref sig .tc) (h : r ≠ main_v31) : W5 m c (Proc.devRef .tc r) = V4 m c (Proc.devRef .tc r) := by
  unfold W5
  rw [Function.update_of_ne (fun e => h (Proc.devRef_injective _ e))]

theorem fst1_eq (c : Dev nD) : fst1 (W5 m) c = m ((c.tc : Thread nD τ).loc main_arg2) :=
  (W5_of m c main_arg2 (by decide)).trans <| (V4_of m c _ (by decide)).trans <| (V3_of m c _ (by decide)).trans <| (V2_of m c _ (by decide)).trans (V1_of m c _ (by decide))

theorem snd1_eq (c : Dev nD) : snd1 (W5 m) c = m ((c.tc : Thread nD τ).loc main_arg3) :=
  (W5_of m c main_arg3 (by decide)).trans <| (V4_of m c _ (by decide)).trans <| (V3_of m c _ (by decide)).trans <| (V2_of m c _ (by decide)).trans (V1_of m c _ (by decide))

theorem rows31_eq (c : Dev nD) : rows31 (W5 m) c = xe (V4 m) c := by
  unfold rows31 W5
  rw [Function.update_self]

theorem W6_v27 (c : Dev nD) : W6 m c (Proc.devRef .tc main_v27) = V4 m c (Proc.devRef .tc main_v27) := by
  unfold W6
  rw [next_of_ne _ _ _ (by decide) (by decide) (by decide), W5_of m c main_v27 (by decide)]

theorem tok34_at (c : Dev nD) {s : ℕ} (hs : s < 2304) : at2 (tok34 (W7 m) c) 0 s = slot m c s := by
  have h : tok34 (W7 m) c = shapeCast S1x2304 (extractStridedSlice S2304 ![0] (W6 m c (Proc.devRef .tc main_v27)) slices_S4608_S2304_0) shapeCasts_S2304_S1x2304 := by
    show after hostOps2 (W6 m c) (Proc.devRef .tc main_v34) = _
    after_results_simp
    rfl
  rw [at2_of _ (by decide) hs, h, W6_v27, ← v27_at m c (by omega : s < 4608)]
  pointwise

theorem tok36_at (c : Dev nD) {s : ℕ} (hs : s < 2304) : at2 (tok36 (W7 m) c) 0 s = slot m c (2304 + s) := by
  have h : tok36 (W7 m) c = shapeCast S1x2304 (extractStridedSlice S2304 ![2304] (W6 m c (Proc.devRef .tc main_v27)) slices_S4608_S2304_2304) shapeCasts_S2304_S1x2304 := by
    show after hostOps2 (W6 m c) (Proc.devRef .tc main_v36) = _
    after_results_simp
    rfl
  rw [at2_of _ (by decide) hs, h, W6_v27, ← v27_at m c (by omega : 2304 + s < 4608)]
  pointwise

theorem ans38_at (c : Dev nD) {s l : ℕ} (hs : s < 2304) (hl : l < 2048) : at2 (ans38 (W7 m) c) s l = at2 (out32 (W5 m) c : S4608x2048.Idx → EReal) s l := by
  have h : ans38 (W7 m) c = (truncf (F := Ideal) .bf16 (extractStridedSlice S2304x2048 ![0, 0] (W6 m c (Proc.devRef .tc main_v32_0)) slices_S4608x2048_S2304x2048_0_0 : FVec Ideal S2304x2048 .f32) bitsLt_bf16_f32 : FVec Ideal S2304x2048 .bf16) := by
    show after hostOps2 (W6 m c) (Proc.devRef .tc main_v38) = _
    after_results_simp
  rw [at2_of _ hs hl, at2_of _ (by omega) hl, h]
  unfold W6
  rw [next_out]
  pointwise

theorem ans32_eq (c : Dev nD) : ans32 (W7 m) c = YE (W5 m) (pr c) := by
  show after hostOps2 (W6 m c) (Proc.devRef .tc main_v32_1) = _
  rw [StableHlo.after_of_writes_sub hostOps2 _ hostOps2_writes (by decide)]
  unfold W6
  rw [next_ret]

/-! ## The answer, at an index -/

/-- The answer for a kept row. -/
theorem kept_at (c : Dev nD) {s l : ℕ} (hs : s < 2304) (hl : l < 2048) : at2 (ans38 (W7 m) c) s l
    = ffn (at2 (xe (V4 m) c : S4608x2048.Idx → EReal) s) (at3 (α := EReal) (A := 4) (B := 2048) (C := 4096) (m ((c.tc : Thread nD τ).loc main_arg2)) (s / 576))
        (at3 (α := EReal) (A := 4) (B := 4096) (C := 2048) (m ((c.tc : Thread nD τ).loc main_arg3)) (s / 576)) l := by
  rw [ans38_at m c hs hl, out32_at _ c hs hl, rows31_eq, fst1_eq, snd1_eq]

/-- The answer for a sent row. -/
theorem sent_at (c : Dev nD) {s l : ℕ} (hs : s < 2304) (hl : l < 2048) : at2 (ans32 (W7 m) c) s l
    = ffn (at2 (xe (V4 m) c : S4608x2048.Idx → EReal) (2304 + s)) (at3 (α := EReal) (A := 4) (B := 2048) (C := 4096) (m (((pr c).tc : Thread nD τ).loc main_arg2)) (s / 576))
        (at3 (α := EReal) (A := 4) (B := 4096) (C := 2048) (m (((pr c).tc : Thread nD τ).loc main_arg3)) (s / 576)) l := by
  rw [ans32_eq, YE_at _ (pr c) hs hl, pr_pr, rows31_eq, fst1_eq, snd1_eq]

end Cert.KernelIdeal.Moe

end
-- ==== Proof.Sort.lean ====
/- Where the sort of the keys puts each token's number, and what the sums over the gathered rows pick. -/
module

public import proofs.«01_k».proof.Proof.Host
public import Idealize.ShloMosaic.Lib.SortFacts

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open Finset

variable (a : S4096.Idx → BitVec 32)

/-- Token `t`'s expert. -/
def expOf (t : ℕ) : BitVec 32 := if h : t < 4096 then a (ix1 ⟨t, h⟩) else 0#32

theorem expOf_of {t : ℕ} (h : t < 4096) : expOf a t = a (ix1 ⟨t, h⟩) := dif_pos h

theorem select_eq {α : Type} (x y : BitVec 32) (u v : α) : Scalar.select (IntOp.cmpi .eq x y) u v = if x = y then u else v := by
  by_cases h : x = y
  · subst h
    rw [if_pos rfl, IntOp.cmpi_eq_self]; rfl
  · rw [if_neg h, show IntOp.cmpi .eq x y = 0#1 from (show BitVec.ofBool (x == y) = 0#1 by rw [beq_eq_false_iff_ne.mpr h]; rfl)]; rfl

theorem keys_at (e : Fin 8) (t : Fin 4096) : keys a (ix2 e t) = if a (ix1 t) = BitVec.ofNat 32 e.val then BitVec.ofNat 32 t.val else 4096#32 := by
  pointwise [keys]
  exact select_eq _ _ _ _

/-- Row `e` of the keys is read in this order. -/
def order (e : Fin 8) : Fin 4096 → Fin 4096 :=
  sortedFrom (fun k k' => comparator_i32_d1 (keys a (ix2 e k)) (keys a (ix2 e k')) == 1#1)

theorem sorted_at (e : Fin 8) (k : Fin 4096) : sorted a (ix2 e k) = keys a (ix2 e (order a e k)) := by
  have ha : ∀ k', ((ix2 e k : S8x4096.Idx).along (1 : Fin 2) k') = ix2 e k' := by
    intro k'
    funext d
    match d with
    | ⟨0, _⟩ => rfl
    | ⟨1, _⟩ => rfl
  unfold sorted Host.sort order
  rw [dif_pos (show 1 < S8x4096.rank by decide)]
  show keys a ((ix2 e k : S8x4096.Idx).along (1 : Fin 2) (sortedFrom (fun k' k'' => comparator_i32_d1 (keys a ((ix2 e k : S8x4096.Idx).along (1 : Fin 2) k')) (keys a ((ix2 e k : S8x4096.Idx).along (1 : Fin 2) k'')) == 1#1) k)) = _
  simp only [ha]
  rfl

theorem less_iff (x y : BitVec 32) : (comparator_i32_d1 x y == 1#1) = true ↔ x.toInt < y.toInt := by
  unfold comparator_i32_d1
  show ((BitVec.ofBool (x.slt y)) == 1#1) = true ↔ _
  rw [← BitVec.slt_iff_toInt_lt]
  cases x.slt y <;> simp

/-- The keys come out in order. -/
theorem sorted_le (e : Fin 8) {i j : Fin 4096} (h : i < j) : (keys a (ix2 e (order a e i))).toInt ≤ (keys a (ix2 e (order a e j))).toInt := by
  have := sortedFrom_noInversion (fun k k' => comparator_i32_d1 (keys a (ix2 e k)) (keys a (ix2 e k')) == 1#1)
    (fun k k' => comparator_i32_d1 (keys a (ix2 e k)) (keys a (ix2 e k')) == 1#1)
    (fun x y hxy => by
      rw [Bool.eq_false_iff]; intro hyx
      rw [less_iff] at hxy hyx; omega) (fun _ _ h => h)
    (fun x y z hxy hyz => by
      rw [Bool.eq_false_iff] at *; intro hxz
      rw [ne_eq, less_iff] at hxy hyz; rw [less_iff] at hxz; omega) i j h
  rw [Bool.eq_false_iff, ne_eq, less_iff] at this
  exact not_lt.mp this

/-- The tokens of an expert. -/
def mine (e : ℕ) : Finset (Fin 4096) := univ.filter fun t => a (ix1 t) = BitVec.ofNat 32 e

theorem toInt_small {n : ℕ} (h : n ≤ 4096) : (BitVec.ofNat 32 n).toInt = (n : ℤ) := by
  have hn : (BitVec.ofNat 32 n).toNat = n := by rw [BitVec.toNat_ofNat, Nat.mod_eq_of_lt (by omega)]
  rw [BitVec.toInt_eq_toNat_of_lt (by rw [hn]; omega), hn]

/-- Each of an expert's tokens lies at one place of the expert's row, within the first 576 when the expert has at most so many. -/
theorem place (e : Fin 8) (hc : (mine a e.val).card ≤ 576) (t : Fin 4096) (ht : a (ix1 t) = BitVec.ofNat 32 e.val) :
    ∃ k : Fin 4096, k.val < 576 ∧ sorted a (ix2 e k) = BitVec.ofNat 32 t.val := by
  obtain ⟨k, hk⟩ := sortedFrom_surjective (fun k k' => comparator_i32_d1 (keys a (ix2 e k)) (keys a (ix2 e k')) == 1#1) t
  have hk' : order a e k = t := hk
  refine ⟨k, ?_, by rw [sorted_at, hk', keys_at, if_pos ht]⟩
  by_contra hlt
  have hsub : (Finset.Iic k).image (order a e) ⊆ mine a e.val := by
    intro u hu
    obtain ⟨i, hi, rfl⟩ := mem_image.mp hu
    rw [mine, mem_filter]
    refine ⟨mem_univ _, ?_⟩
    rcases lt_or_eq_of_le (Finset.mem_Iic.mp hi) with h | h
    · have := sorted_le a e h
      rw [hk', keys_at a e t, if_pos ht, toInt_small t.isLt.le, keys_at] at this
      by_contra hne
      rw [if_neg hne, show (4096#32).toInt = 4096 by decide] at this
      have := t.isLt
      omega
    · rw [h, hk', ht]
  have hcard := card_le_card hsub
  unfold order at hcard
  rw [card_image_of_injective _ (sortedFrom_injective _), Fin.card_Iic] at hcard
  omega

/-- A place of an expert's row that holds a token's number holds one of the expert's tokens. -/
theorem place_of (e : Fin 8) (k t : Fin 4096) (h : sorted a (ix2 e k) = BitVec.ofNat 32 t.val) : order a e k = t ∧ a (ix1 t) = BitVec.ofNat 32 e.val := by
  rw [sorted_at, keys_at] at h
  have ht := t.isLt
  by_cases hm : a (ix1 (order a e k)) = BitVec.ofNat 32 e.val
  · rw [if_pos hm] at h
    have := (order a e k).isLt
    have : order a e k = t := Fin.ext (ofNat_inj (by omega) (by omega) h)
    exact ⟨this, by rw [← this]; exact hm⟩
  · rw [if_neg hm] at h
    have := ofNat_inj (a := 4096) (by omega) (by omega) h
    omega

theorem place_unique (e : Fin 8) (k k' t : Fin 4096) (h : sorted a (ix2 e k) = BitVec.ofNat 32 t.val) (h' : sorted a (ix2 e k') = BitVec.ofNat 32 t.val) : k = k' :=
  sortedFrom_injective _ ((place_of a e k t h).1.trans (place_of a e k' t h').1.symm)

/-- A token's pick over the four rows of a group, where the token's expert is one of the four. -/
theorem pick_hit (g j t : ℕ) (hg : g < 2) (hj : j < 4) (ht : t < 4096) (hc : (mine a (4 * g + j)).card ≤ 576)
    (he : expOf a t = BitVec.ofNat 32 (4 * g + j)) (Y : ℕ → EReal) :
    ∃ k < 576, at2 (sorted a) (4 * g + j) k = BitVec.ofNat 32 t
      ∧ ∑ s ∈ range 2304, hot (BitVec.ofNat 32 t) (at2 (sorted a) (4 * g + s / 576) (s % 576)) * Y s = Y (576 * j + k) := by
  rw [expOf_of a ht] at he
  obtain ⟨k, hk, hs⟩ := place a ⟨4 * g + j, by omega⟩ hc ⟨t, ht⟩ he
  have hv : at2 (sorted a) (4 * g + j) k.val = BitVec.ofNat 32 t := by rw [at2_of _ (by omega) k.isLt]; exact hs
  refine ⟨k.val, hk, hv, ?_⟩
  unfold hot
  refine sum_hit (fun s => BitVec.ofNat 32 t = at2 (sorted a) (4 * g + s / 576) (s % 576)) Y (by omega) ?_ fun s hs' hP => ?_
  · show _ = at2 (sorted a) (4 * g + (576 * j + k.val) / 576) ((576 * j + k.val) % 576)
    rw [show (576 * j + k.val) / 576 = j by omega, show (576 * j + k.val) % 576 = k.val by omega, hv]
  · rw [at2_of _ (by omega : 4 * g + s / 576 < 8) (by omega : s % 576 < 4096)] at hP
    obtain ⟨-, h2⟩ := place_of a ⟨4 * g + s / 576, by omega⟩ ⟨s % 576, by omega⟩ ⟨t, ht⟩ hP.symm
    have hj' : s / 576 = j := by
      have h4 : BitVec.ofNat 32 (4 * g + j) = BitVec.ofNat 32 (4 * g + s / 576) := he.symm.trans h2
      have := ofNat_inj (by omega) (by omega) h4
      omega
    subst hj'
    have := congrArg Fin.val (place_unique a ⟨4 * g + s / 576, by omega⟩ ⟨s % 576, by omega⟩ k ⟨t, ht⟩ hP.symm hs)
    have h3 : s % 576 = k.val := this
    omega

/-- The pick where the token's expert is none of the four. -/
theorem pick_miss (g t : ℕ) (hg : g < 2) (ht : t < 4096) (he : ∀ j < 4, expOf a t ≠ BitVec.ofNat 32 (4 * g + j)) (Y : ℕ → EReal) :
    ∑ s ∈ range 2304, hot (BitVec.ofNat 32 t) (at2 (sorted a) (4 * g + s / 576) (s % 576)) * Y s = 0 := by
  unfold hot
  refine sum_miss (fun s => BitVec.ofNat 32 t = at2 (sorted a) (4 * g + s / 576) (s % 576)) Y fun s hs hP => ?_
  rw [at2_of _ (by omega : 4 * g + s / 576 < 8) (by omega : s % 576 < 4096)] at hP
  obtain ⟨-, h2⟩ := place_of a ⟨4 * g + s / 576, by omega⟩ ⟨s % 576, by omega⟩ ⟨t, ht⟩ hP.symm
  exact he (s / 576) (by omega) (by rw [expOf_of a ht]; exact h2)

end Cert.KernelIdeal.Moe

end
-- ==== Proof.Fits.lean ====
/- What the precondition says of a device's assignment. -/
module

public import proofs.«01_k».proof.Proof.Sort
public import Idealize.ShloMosaic.Lib.Routing.Ops
public import proofs.«01_k».proof.Pre_fits_KernelIdeal

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open Finset

theorem bit_eq (p q : BitVec 32) : IntOp.cmpi .eq p q = 1#1 ↔ p = q := by
  show BitVec.ofBool (p == q) = 1#1 ↔ p = q
  by_cases h : p = q
  · simp [h]
  · rw [beq_false_of_ne h]
    exact iff_of_false (by decide) h

theorem small_of (p : BitVec 32) (n : ℕ) (hp : p.toNat = n) (hn : n ≤ 4096) (h : IntOp.cmpi .sle p 576#32 = 1#1) : n ≤ 576 := by
  have h1 : BitVec.ofBool (p.sle 576#32) = 1#1 := h
  have h2 : p.sle 576#32 = true := by
    cases hb : p.sle 576#32 with
    | true => rfl
    | false => rw [hb] at h1; exact absurd h1 (by decide)
  rw [BitVec.sle_iff_toInt_le, BitVec.toInt_eq_toNat_cond, if_pos (by omega)] at h2
  have h3 : (576#32 : BitVec 32).toInt = 576 := by decide
  rw [h3] at h2
  omega

/-- The precondition: no expert has more than 576 of a device's tokens. -/
theorem fits_card [Cert.Pre_fits_KernelIdeal.Facts] (x : S4096x2048.Idx → EReal) (a : S4096.Idx → BitVec 32) (v : S4x2048x4096.Idx → EReal) (w : S4x4096x2048.Idx → EReal)
    (h : Cert.Pre_fits_KernelIdeal.fn (F := Ideal) x a v w = fun _ => 1#1) (e : ℕ) (he : e < 8) : (mine a e).card ≤ 576 := by
  have h1 := congrFun h (ix1 ⟨e, he⟩)
  unfold Cert.Pre_fits_KernelIdeal.fn at h1
  have h2 : IntOp.cmpi .sle (Host.reduce IntOp.addi (extui 32 (cmpi .eq (broadcastInDim S8x4096 ![0, 1] Cert.Pre_fits_KernelIdeal.Facts.bcast_S1x4096_S8x4096_0_1 (broadcastInDim S1x4096 ![1] Cert.Pre_fits_KernelIdeal.Facts.bcast_S4096_S1x4096_1 a))
      (broadcastInDim S8x4096 ![0, 1] Cert.Pre_fits_KernelIdeal.Facts.bcast_S8x1_S8x4096_0_1 (broadcastInDim S8x1 ![0] Cert.Pre_fits_KernelIdeal.Facts.bcast_S8_S8x1_0 (iotaInDim S8 32 0)))) Cert.Pre_fits_KernelIdeal.Facts.natLt_1_32)
      (constantI S_ 32 0#32) Cert.Pre_fits_KernelIdeal.Facts.reducesTo_S8x4096_S8_d1 Cert.Pre_fits_KernelIdeal.Facts.h_S_ (ix1 ⟨e, he⟩)) 576#32 = 1#1 := h1
  have hn := StableHlo.Predicate.toNat_reduce_count_cols (by decide) (cmpi .eq (broadcastInDim S8x4096 ![0, 1] Cert.Pre_fits_KernelIdeal.Facts.bcast_S1x4096_S8x4096_0_1 (broadcastInDim S1x4096 ![1] Cert.Pre_fits_KernelIdeal.Facts.bcast_S4096_S1x4096_1 a))
      (broadcastInDim S8x4096 ![0, 1] Cert.Pre_fits_KernelIdeal.Facts.bcast_S8x1_S8x4096_0_1 (broadcastInDim S8x1 ![0] Cert.Pre_fits_KernelIdeal.Facts.bcast_S8_S8x1_0 (iotaInDim S8 32 0))))
      Cert.Pre_fits_KernelIdeal.Facts.natLt_1_32 Cert.Pre_fits_KernelIdeal.Facts.reducesTo_S8x4096_S8_d1 Cert.Pre_fits_KernelIdeal.Facts.h_S_ (ix1 ⟨e, he⟩)
  have hq : ∀ q : Fin 4096, cmpi .eq (broadcastInDim S8x4096 ![0, 1] Cert.Pre_fits_KernelIdeal.Facts.bcast_S1x4096_S8x4096_0_1 (broadcastInDim S1x4096 ![1] Cert.Pre_fits_KernelIdeal.Facts.bcast_S4096_S1x4096_1 a))
      (broadcastInDim S8x4096 ![0, 1] Cert.Pre_fits_KernelIdeal.Facts.bcast_S8x1_S8x4096_0_1 (broadcastInDim S8x1 ![0] Cert.Pre_fits_KernelIdeal.Facts.bcast_S8_S8x1_0 (iotaInDim S8 32 0))) (ix2 ⟨e, he⟩ q) = 1#1
      ↔ a (ix1 q) = BitVec.ofNat 32 e := by
    intro q
    pointwise
    exact bit_eq _ _
  have hc : (mine a e).card = (filter (fun q : Fin 4096 => cmpi .eq (broadcastInDim S8x4096 ![0, 1] Cert.Pre_fits_KernelIdeal.Facts.bcast_S1x4096_S8x4096_0_1 (broadcastInDim S1x4096 ![1] Cert.Pre_fits_KernelIdeal.Facts.bcast_S4096_S1x4096_1 a))
      (broadcastInDim S8x4096 ![0, 1] Cert.Pre_fits_KernelIdeal.Facts.bcast_S8x1_S8x4096_0_1 (broadcastInDim S8x1 ![0] Cert.Pre_fits_KernelIdeal.Facts.bcast_S8_S8x1_0 (iotaInDim S8 32 0))) (StableHlo.Predicate.ij (ix1 ⟨e, he⟩ 0) q) = 1#1) univ).card := by
    refine congrArg card (filter_congr fun q _ => ?_)
    exact (hq q).symm.trans (iff_of_eq (congrArg (fun i => cmpi .eq (broadcastInDim S8x4096 ![0, 1] Cert.Pre_fits_KernelIdeal.Facts.bcast_S1x4096_S8x4096_0_1 (broadcastInDim S1x4096 ![1] Cert.Pre_fits_KernelIdeal.Facts.bcast_S4096_S1x4096_1 a))
      (broadcastInDim S8x4096 ![0, 1] Cert.Pre_fits_KernelIdeal.Facts.bcast_S8x1_S8x4096_0_1 (broadcastInDim S8x1 ![0] Cert.Pre_fits_KernelIdeal.Facts.bcast_S8_S8x1_0 (iotaInDim S8 32 0))) i = 1#1)
      (Routing.ij_eq_ix2 (⟨e, he⟩ : Fin 8) q).symm))
  have hle : (mine a e).card ≤ 4096 := (card_le_univ _).trans (by simp)
  exact small_of _ _ (hn.trans hc.symm) hle h2

end Cert.KernelIdeal.Moe

end
-- ==== Proof.Answer.lean ====
/- The kernel's answer at a token. -/
module

public import proofs.«01_k».proof.Proof.Sort

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open Finset

variable (m : (ℓ : Loc nD τ sig) → Buf (Elt Ideal) ℓ)

/-- A device's tokens as it starts. -/
def inX (c : Dev nD) : S4096x2048.Idx → EReal := m ((c.tc : Thread nD τ).loc main_arg0)
/-- A device's first weights as it starts. -/
def inV (c : Dev nD) : S4x2048x4096.Idx → EReal := m ((c.tc : Thread nD τ).loc main_arg2)
/-- A device's second weights as it starts. -/
def inW (c : Dev nD) : S4x4096x2048.Idx → EReal := m ((c.tc : Thread nD τ).loc main_arg3)

/-- A gathered row whose slot holds a token's number is that token's row. -/
theorem row_at (c : Dev nD) {s t l : ℕ} (hs : s < 4608) (ht : t < 4096) (hl : l < 2048) (h : slot m c s = BitVec.ofNat 32 t) :
    at2 (xe (V4 m) c : S4608x2048.Idx → EReal) s l = at2 (inX m c) t l := by
  have hmin : IntOp.minsi (BitVec.ofNat 32 t) 4095#32 = BitVec.ofNat 32 t := by
    have h1 := toInt_small ht.le
    show (if (BitVec.ofNat 32 t).slt 4095#32 then BitVec.ofNat 32 t else 4095#32) = _
    by_cases hlt : t < 4095
    · rw [if_pos (by rw [BitVec.slt_iff_toInt_lt, h1, show (4095#32).toInt = 4095 by decide]; omega)]
    · obtain rfl : t = 4095 := by omega
      exact ite_self _
  rw [xe_at _ c hs hl, tok30_at m c hs, h, hmin, toks_eq]
  unfold hot
  exact sum_hit (fun k => BitVec.ofNat 32 k = BitVec.ofNat 32 t) (fun k => at2 (inX m c) k l) ht rfl
    fun k hk hP => ofNat_inj (by omega) (by omega) hP

theorem ffn_congr {x y : ℕ → EReal} {v w v' w' : ℕ → ℕ → EReal} {l : ℕ} (hx : ∀ k < 2048, x k = y k) (hv : v = v') (hw : w = w') :
    ffn x v w l = ffn y v' w' l := by
  subst hv; subst hw
  unfold ffn
  refine sum_congr rfl fun f _ => ?_
  rw [sum_congr rfl fun k hk => by rw [hx k (mem_range.mp hk)]]

theorem out_split (c : Dev nD) {t l : ℕ} (ht : t < 4096) (hl : l < 2048) : at2 (out39 (W7 m) c : S4096x2048.Idx → EReal) t l
    = ∑ s ∈ range 2304, hot (BitVec.ofNat 32 t) (at2 (sorted (asg m c)) (4 * grp c + s / 576) (s % 576)) * at2 (ans38 (W7 m) c) s l
      + ∑ s ∈ range 2304, hot (BitVec.ofNat 32 t) (at2 (sorted (asg m c)) (4 * (1 - grp c) + s / 576) (s % 576)) * at2 (ans32 (W7 m) c) s l := by
  rw [out39_at _ c ht hl]
  refine congrArg₂ (· + ·) (sum_congr rfl fun s hs => ?_) (sum_congr rfl fun s hs => ?_)
  all_goals have hs' := mem_range.mp hs
  · rw [tok34_at m c hs']
    unfold slot rowAt
    rw [if_pos hs']
  · rw [tok36_at m c hs']
    unfold slot rowAt
    rw [if_neg (by omega), show 2304 + s - 2304 = s by omega, show (2304 + s) % 576 = s % 576 by omega]

variable (c : Dev nD) {t l : ℕ} (ht : t < 4096) (hl : l < 2048)
include ht hl

/-- The answer for a token of one of the device's own experts. -/
theorem answer_own {j : ℕ} (hj : j < 4) (hc : (mine (asg m c) (4 * grp c + j)).card ≤ 576) (he : expOf (asg m c) t = BitVec.ofNat 32 (4 * grp c + j)) :
    at2 (out39 (W7 m) c : S4096x2048.Idx → EReal) t l = ffn (at2 (inX m c) t) (at3 (inV m c) j) (at3 (inW m c) j) l := by
  have hg := grp_lt c
  obtain ⟨k, hk, hv, e⟩ := pick_hit (asg m c) (grp c) j t hg hj ht hc he (fun s => at2 (ans38 (W7 m) c) s l)
  rw [out_split m c ht hl, e, pick_miss (asg m c) (1 - grp c) t (by omega) ht (fun j' hj' h => by
    have := ofNat_inj (by omega) (by omega) (he.symm.trans h); omega) (fun s => at2 (ans32 (W7 m) c) s l), add_zero,
    kept_at m c (by omega) hl, show (576 * j + k) / 576 = j by omega]
  refine ffn_congr (fun k' hk' => row_at m c (by omega) ht hk' ?_) rfl rfl
  unfold slot rowAt
  rw [if_pos (by omega), show (576 * j + k) / 576 = j by omega, show (576 * j + k) % 576 = k by omega, hv]

/-- The answer for a token of one of the partner's experts. -/
theorem answer_other {j : ℕ} (hj : j < 4) (hc : (mine (asg m c) (4 * (1 - grp c) + j)).card ≤ 576) (he : expOf (asg m c) t = BitVec.ofNat 32 (4 * (1 - grp c) + j)) :
    at2 (out39 (W7 m) c : S4096x2048.Idx → EReal) t l = ffn (at2 (inX m c) t) (at3 (inV m (pr c)) j) (at3 (inW m (pr c)) j) l := by
  have hg := grp_lt c
  obtain ⟨k, hk, hv, e⟩ := pick_hit (asg m c) (1 - grp c) j t (by omega) hj ht hc he (fun s => at2 (ans32 (W7 m) c) s l)
  rw [out_split m c ht hl, e, pick_miss (asg m c) (grp c) t hg ht (fun j' hj' h => by
    have := ofNat_inj (by omega) (by omega) (he.symm.trans h); omega) (fun s => at2 (ans38 (W7 m) c) s l), zero_add,
    sent_at m c (by omega) hl, show (576 * j + k) / 576 = j by omega]
  refine ffn_congr (fun k' hk' => row_at m c (by omega) ht hk' ?_) rfl rfl
  unfold slot rowAt
  rw [if_neg (by omega), show (2304 + (576 * j + k) - 2304) / 576 = j by omega, show (2304 + (576 * j + k)) % 576 = k by omega, hv]

/-- The answer for a token of no expert. -/
theorem answer_none (he : ∀ e < 8, expOf (asg m c) t ≠ BitVec.ofNat 32 e) : at2 (out39 (W7 m) c : S4096x2048.Idx → EReal) t l = 0 := by
  have hg := grp_lt c
  rw [out_split m c ht hl, pick_miss (asg m c) (grp c) t hg ht (fun j' hj' => he _ (by omega)) (fun s => at2 (ans38 (W7 m) c) s l),
    pick_miss (asg m c) (1 - grp c) t (by omega) ht (fun j' hj' => he _ (by omega)) (fun s => at2 (ans32 (W7 m) c) s l), add_zero]

end Cert.KernelIdeal.Moe

end
-- ==== Proof.RefVal.lean ====
/- The reference's answer at a token. -/
module

public import proofs.«01_k».proof.Proof.Sort
public import proofs.«01_k».proof.Proof.Ref

@[expose] public section

set_option maxRecDepth 16384

noncomputable section

namespace Cert.ReferenceIdeal.Dense

open Cert.ReferenceIdeal Cert.ReferenceIdeal.Gen
open Idealize.ShloMosaic Idealize.ShloMosaic.TcCoe Idealize.ShloMosaic.Tactic

open Finset
open Cert.KernelIdeal.Moe (ffn at2 at3 at2_of at3_of select_eq ofNat_inj)

theorem stage_at (n : ℕ) (hn : n < 8) (h1 : S8x2048x4096.Slices ![n, 0, 0] S1x2048x4096) (h2 : S8x4096x2048.Slices ![n, 0, 0] S1x4096x2048)
    (x : FVec Ideal S8192x2048 .f32) (a : IVec S8192 32) (w1 : FVec Ideal S8x2048x4096 .f32) (w2 : FVec Ideal S8x4096x2048 .f32)
    (prev : FVec Ideal S8192x2048 .f32) (t : Fin 8192) (l : Fin 2048) :
    stage n h1 h2 x a w1 w2 prev (ix2 t l) = if a (ix1 t) = BitVec.ofNat 32 n
      then ffn (at2 (α := EReal) (A := 8192) (B := 2048) x t.val) (at3 (α := EReal) (A := 8) (B := 2048) (C := 4096) w1 n) (at3 (α := EReal) (A := 8) (B := 4096) (C := 2048) w2 n) l.val
      else prev (ix2 t l) := by
  unfold stage
  pointwise
  refine (select_eq _ _ _ _).trans (congrArg (fun y => if a (ix1 t) = BitVec.ofNat 32 n then y else prev (ix2 t l)) ?_)
  unfold ffn
  rw [sum_range]
  refine sum_congr rfl fun f _ => ?_
  rw [sum_range, at3_of (α := EReal) (A := 8) (B := 4096) (C := 2048) w2 hn f.isLt l.isLt]
  refine congrArg (fun y : EReal => max y 0 * w2 (ix3 ⟨n, hn⟩ f l)) (sum_congr rfl fun k _ => ?_)
  rw [at2_of (α := EReal) (A := 8192) (B := 2048) x t.isLt k.isLt, at3_of (α := EReal) (A := 8) (B := 2048) (C := 4096) w1 hn k.isLt f.isLt]

variable (x : FVec Ideal S8192x2048 .f32) (a : IVec S8192 32) (w1 : FVec Ideal S8x2048x4096 .f32) (w2 : FVec Ideal S8x4096x2048 .f32) (t : Fin 8192) (l : Fin 2048)

/-- The answer for a token of expert `e`. -/
theorem refOut_hit (e : ℕ) (he : e < 8) (h : a (ix1 t) = BitVec.ofNat 32 e) : refOut x a w1 w2 (ix2 t l)
    = ffn (at2 (α := EReal) (A := 8192) (B := 2048) x t.val) (at3 (α := EReal) (A := 8) (B := 2048) (C := 4096) w1 e) (at3 (α := EReal) (A := 8) (B := 4096) (C := 2048) w2 e) l.val := by
  unfold refOut
  rw [stage_at 7 (by decide), stage_at 6 (by decide), stage_at 5 (by decide), stage_at 4 (by decide), stage_at 3 (by decide), stage_at 2 (by decide),
    stage_at 1 (by decide), stage_at 0 (by decide), h]
  interval_cases e <;> simp (decide := true) only [if_true, if_false]

/-- The answer for a token of no expert. -/
theorem refOut_none (h : ∀ e < 8, a (ix1 t) ≠ BitVec.ofNat 32 e) : refOut x a w1 w2 (ix2 t l) = (0 : EReal) := by
  unfold refOut
  rw [stage_at 7 (by decide), stage_at 6 (by decide), stage_at 5 (by decide), stage_at 4 (by decide), stage_at 3 (by decide), stage_at 2 (by decide),
    stage_at 1 (by decide), stage_at 0 (by decide), if_neg (h 7 (by decide)), if_neg (h 6 (by decide)), if_neg (h 5 (by decide)), if_neg (h 4 (by decide)),
    if_neg (h 3 (by decide)), if_neg (h 2 (by decide)), if_neg (h 1 (by decide)), if_neg (h 0 (by decide))]
  pointwise

end Cert.ReferenceIdeal.Dense

end
-- ==== Proof.Match.lean ====
/- Each device's part of the reference's answer is the kernel's. -/
module

public import proofs.«01_k».proof.Proof.Answer
public import proofs.«01_k».proof.Proof.RefVal

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic

open Finset
open Cert.ReferenceIdeal.Dense (refOut refOut_hit refOut_none)

theorem coord (c : Dev nD) : Layout.meshLin [2, 2, 4] c.val [1] = grp c := by revert c; decide +kernel

section Blocks

variable {α : Type} (c : Dev nD)

/-- A device's block of the tokens, at an index. -/
theorem block2 (h : Layout.TilesN ⟨2, ![4096, 2048]⟩ ⟨2, ![8192, 2048]⟩ (fun b => Layout.cutSize [2, 2, 4] ((![[1], []] : Fin 2 → List ℕ) b)))
    (v : (⟨2, ![8192, 2048]⟩ : Shape).Idx → α) (t : Fin 4096) (k : Fin 2048) :
    Layout.blockN ⟨2, ![4096, 2048]⟩ ⟨2, ![8192, 2048]⟩ (Layout.meshBlock [2, 2, 4] ![[1], []] c) v h (ix2 t k)
      = v (ix2 ⟨grp c * 4096 + t.val, by have := grp_lt c; omega⟩ k) := by
  refine congrArg v (funext fun b => Fin.ext ?_)
  match b with
  | ⟨0, _⟩ => exact congrArg (fun n => n * 4096 + t.val) (coord c)
  | ⟨1, _⟩ => exact Nat.zero_add _

/-- A device's block of the assignment, at an index. -/
theorem block1 (h : Layout.TilesN ⟨1, ![4096]⟩ ⟨1, ![8192]⟩ (fun b => Layout.cutSize [2, 2, 4] ((![[1]] : Fin 1 → List ℕ) b)))
    (v : (⟨1, ![8192]⟩ : Shape).Idx → α) (t : Fin 4096) :
    Layout.blockN ⟨1, ![4096]⟩ ⟨1, ![8192]⟩ (Layout.meshBlock [2, 2, 4] ![[1]] c) v h (ix1 t)
      = v (ix1 ⟨grp c * 4096 + t.val, by have := grp_lt c; omega⟩) := by
  refine congrArg v (funext fun b => Fin.ext ?_)
  match b with
  | ⟨0, _⟩ => exact congrArg (fun n => n * 4096 + t.val) (coord c)

/-- A device's block of the weights, at an index. -/
theorem block3 {B C : ℕ} (h : Layout.TilesN ⟨3, ![4, B, C]⟩ ⟨3, ![8, B, C]⟩ (fun b => Layout.cutSize [2, 2, 4] ((![[1], [], []] : Fin 3 → List ℕ) b)))
    (v : (⟨3, ![8, B, C]⟩ : Shape).Idx → α) (j : Fin 4) (k : Fin B) (f : Fin C) :
    Layout.blockN ⟨3, ![4, B, C]⟩ ⟨3, ![8, B, C]⟩ (Layout.meshBlock [2, 2, 4] ![[1], [], []] c) v h (ix3 j k f)
      = v (ix3 ⟨grp c * 4 + j.val, by have := grp_lt c; omega⟩ k f) := by
  refine congrArg v (funext fun b => Fin.ext ?_)
  match b with
  | ⟨0, _⟩ => exact congrArg (fun n => n * 4 + j.val) (coord c)
  | ⟨1, _⟩ => exact (congrArg (· + k.val) (Nat.zero_mul B)).trans (Nat.zero_add _)
  | ⟨2, _⟩ => exact (congrArg (· + f.val) (Nat.zero_mul C)).trans (Nat.zero_add _)

/-- A device's expert is the whole array's. -/
theorem expert {B C : ℕ} (h : Layout.TilesN ⟨3, ![4, B, C]⟩ ⟨3, ![8, B, C]⟩ (fun b => Layout.cutSize [2, 2, 4] ((![[1], [], []] : Fin 3 → List ℕ) b)))
    (v : (⟨3, ![8, B, C]⟩ : Shape).Idx → EReal) (w : (⟨3, ![4, B, C]⟩ : Shape).Idx → EReal)
    (hw : w = Layout.blockN ⟨3, ![4, B, C]⟩ ⟨3, ![8, B, C]⟩ (Layout.meshBlock [2, 2, 4] ![[1], [], []] c) v h) {j : ℕ} (hj : j < 4) :
    at3 w j = at3 v (grp c * 4 + j) := by
  have hg := grp_lt c
  funext k f
  by_cases hkf : k < B ∧ f < C
  · rw [at3_of w hj hkf.1 hkf.2, at3_of v (by omega) hkf.1 hkf.2, hw]
    exact block3 c h v ⟨j, hj⟩ ⟨k, hkf.1⟩ ⟨f, hkf.2⟩
  · unfold at3
    rw [dif_neg fun q => hkf q.2, dif_neg fun q => hkf q.2]

end Blocks

/-- Each device's part of the reference's answer is the kernel's. -/
theorem parts (m : (ℓ : Loc nD τ sig) → Buf (Elt Ideal) ℓ)
    (X : FVec Ideal ⟨2, ![8192, 2048]⟩ .f32) (A : IVec ⟨1, ![8192]⟩ 32) (V : FVec Ideal ⟨3, ![8, 2048, 4096]⟩ .f32) (W : FVec Ideal ⟨3, ![8, 4096, 2048]⟩ .f32)
    (hf : ∀ c, ∀ e < 8, (mine (asg m c) e).card ≤ 576)
    (h : ∀ c, inX m c = Layout.blockN ⟨2, ![4096, 2048]⟩ ⟨2, ![8192, 2048]⟩ (Layout.meshBlock [2, 2, 4] ![[1], []] c) X
      ∧ asg m c = Layout.blockN ⟨1, ![4096]⟩ ⟨1, ![8192]⟩ (Layout.meshBlock [2, 2, 4] ![[1]] c) A
      ∧ inV m c = Layout.blockN ⟨3, ![4, 2048, 4096]⟩ ⟨3, ![8, 2048, 4096]⟩ (Layout.meshBlock [2, 2, 4] ![[1], [], []] c) V
      ∧ inW m c = Layout.blockN ⟨3, ![4, 4096, 2048]⟩ ⟨3, ![8, 4096, 2048]⟩ (Layout.meshBlock [2, 2, 4] ![[1], [], []] c) W) (c : Dev nD) :
    (out39 (W7 m) c : S4096x2048.Idx → EReal) = Layout.blockN ⟨2, ![4096, 2048]⟩ ⟨2, ![8192, 2048]⟩ (Layout.meshBlock [2, 2, 4] ![[1], []] c) (refOut X A V W) := by
  have hg := grp_lt c
  funext i
  obtain ⟨t, l, rfl⟩ : ∃ (t : Fin 4096) (l : Fin 2048), i = ix2 t l := ⟨i 0, i 1, eq_ix2 i⟩
  have hT : grp c * 4096 + t.val < 8192 := by omega
  refine Eq.trans ?_ (block2 c _ _ t l).symm
  refine (at2_of (α := EReal) (A := 4096) (B := 2048) (out39 (W7 m) c) t.isLt l.isLt).symm.trans ?_
  have hA : expOf (asg m c) t.val = A (ix1 ⟨grp c * 4096 + t.val, hT⟩) := by
    rw [expOf_of _ t.isLt, (h c).2.1]
    exact block1 c _ A t
  have hX : ∀ k < 2048, at2 (inX m c) t.val k = at2 (α := EReal) (A := 8192) (B := 2048) X (grp c * 4096 + t.val) k := fun k hk => by
    rw [at2_of _ t.isLt hk, at2_of (α := EReal) (A := 8192) (B := 2048) X hT hk, (h c).1]
    exact block2 c _ X t ⟨k, hk⟩
  have hV : ∀ (d : Dev nD) (j : ℕ), j < 4 → at3 (inV m d) j = at3 (α := EReal) (A := 8) (B := 2048) (C := 4096) V (grp d * 4 + j) := fun d j hj =>
    expert d _ V _ (h d).2.2.1 hj
  have hW : ∀ (d : Dev nD) (j : ℕ), j < 4 → at3 (inW m d) j = at3 (α := EReal) (A := 8) (B := 4096) (C := 2048) W (grp d * 4 + j) := fun d j hj =>
    expert d _ W _ (h d).2.2.2 hj
  by_cases he : ∃ e < 8, expOf (asg m c) t.val = BitVec.ofNat 32 e
  · obtain ⟨e, he8, he⟩ := he
    refine Eq.trans ?_ (refOut_hit X A V W ⟨grp c * 4096 + t.val, hT⟩ l e he8 (hA.symm.trans he)).symm
    have hj : e % 4 < 4 := Nat.mod_lt _ (by decide)
    by_cases hgrp : e / 4 = grp c
    · have hee : e = 4 * grp c + e % 4 := by omega
      rw [answer_own m c t.isLt l.isLt hj (by rw [← hee]; exact hf c e he8) (by rw [← hee]; exact he), hV c _ hj, hW c _ hj,
        show grp c * 4 + e % 4 = e by omega]
      exact ffn_congr hX rfl rfl
    · have hee : e = 4 * (1 - grp c) + e % 4 := by omega
      rw [answer_other m c t.isLt l.isLt hj (by rw [← hee]; exact hf c e he8) (by rw [← hee]; exact he), hV (pr c) _ hj, hW (pr c) _ hj,
        grp_pr, show (1 - grp c) * 4 + e % 4 = e by omega]
      exact ffn_congr hX rfl rfl
  · have hn : ∀ e < 8, expOf (asg m c) t.val ≠ BitVec.ofNat 32 e := fun e h8 h => he ⟨e, h8, h⟩
    rw [answer_none m c t.isLt l.isLt hn]
    exact (refOut_none X A V W ⟨grp c * 4096 + t.val, hT⟩ l fun e h8 => by rw [← hA]; exact hn e h8).symm

end Cert.KernelIdeal.Moe

end
-- ==== Proof.Algebra.lean ====
/- The value claim: the kernel's answers are the parts of the reference's. -/
module

public import proofs.«01_k».proof.Proof.Frames
public import proofs.«01_k».proof.Proof.Fits
public import proofs.«01_k».proof.Proof.Match

@[expose] public section

set_option maxRecDepth 20000

noncomputable section

namespace Cert.Proof

open Idealize.ShloMosaic Idealize.SL.Sem

theorem facts_pre : Cert.Pre_fits_KernelIdeal.Facts :=
  ⟨by decide, by decide, by decide, by decide, by decide, by decide, by decide, by decide⟩

theorem facts_pre_reference : Cert.Pre_fits_ReferenceIdeal.Facts :=
  ⟨by decide, by decide, by decide, by decide, by decide, by decide, by decide, by decide⟩

/-- From memories that hold the parts of the same arrays, the kernel ends with the parts of the reference's answer. -/
theorem algebra : Cert.algebraic_KernelIdeal_ReferenceIdeal_pre_fits_KernelIdeal (hKernelIdeal := Cert.KernelIdeal.Gen.facts)
    (hReferenceIdeal := Cert.ReferenceIdeal.Gen.facts) (hPre_fits_KernelIdeal := facts_pre) := fun m g m' g' hp hb =>
  ⟨_, (θ_run (Cert.KernelIdeal.defs (F := Ideal)) _ _).mono
      (fun r h c => ⟨(h.1 c).1.trans (Cert.KernelIdeal.Moe.parts m _ _ _ _
        (fun d e he => @Cert.KernelIdeal.Moe.fits_card facts_pre _ _ _ _ (hp d) e he) hb c), (h.1 c).2⟩)
      (Cert.KernelIdeal.Moe.run_main (F := Ideal) m g),
    (θ_run (Cert.ReferenceIdeal.defs (F := Ideal)) _ _).mono (fun r h => h.1 0) (Cert.ReferenceIdeal.Dense.run_main (F := Ideal) m' g')⟩

end Cert.Proof

end
-- ==== Proof.lean ====
/- The proof of the claim: the frames, and the kernel's answers against the reference's. -/
module

public import proofs.«01_k».proof.Defs
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, facts_pre, facts_pre_reference,
    frame_kernel, frame_kernelIdeal, fun m g _ => frame_kernelIdeal m g trivial, frame_reference, fun m g _ => frame_reference m g trivial,
    trivial, algebra⟩

end Cert.Proof

end
